-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UpWgKernel (m : (ℓ : Loc Cert.UpWgKernel.nD Cert.UpWgKernel.τ Cert.UpWgKernel.sig) → Buf (Elt Bits) ℓ) : Prop :=
  True

def Pre_UpWgKernelIdeal (m : (ℓ : Loc Cert.UpWgKernelIdeal.nD Cert.UpWgKernelIdeal.τ Cert.UpWgKernelIdeal.sig) → Buf (Elt Ideal) ℓ) : Prop :=
  True

def Pre_UpWgReferenceIdeal (m : (ℓ : Loc Cert.UpWgReferenceIdeal.nD Cert.UpWgReferenceIdeal.τ Cert.UpWgReferenceIdeal.sig) → Buf (Elt Ideal) ℓ) : Prop :=
  True

def Pre_UpDgKernel (m : (ℓ : Loc Cert.UpDgKernel.nD Cert.UpDgKernel.τ Cert.UpDgKernel.sig) → Buf (Elt Bits) ℓ) : Prop :=
  True

def Pre_UpDgKernelIdeal (m : (ℓ : Loc Cert.UpDgKernelIdeal.nD Cert.UpDgKernelIdeal.τ Cert.UpDgKernelIdeal.sig) → Buf (Elt Ideal) ℓ) : Prop :=
  True

def Pre_UpDgReferenceIdeal (m : (ℓ : Loc Cert.UpDgReferenceIdeal.nD Cert.UpDgReferenceIdeal.τ Cert.UpDgReferenceIdeal.sig) → Buf (Elt Ideal) ℓ) : Prop :=
  True

def Pre_WInWgKernel (m : (ℓ : Loc Cert.WInWgKernel.nD Cert.WInWgKernel.τ Cert.WInWgKernel.sig) → Buf (Elt Bits) ℓ) : Prop :=
  True

def Pre_WInWgKernelIdeal (m : (ℓ : Loc Cert.WInWgKernelIdeal.nD Cert.WInWgKernelIdeal.τ Cert.WInWgKernelIdeal.sig) → Buf (Elt Ideal) ℓ) : Prop :=
  True

def Pre_WInWgReferenceIdeal (m : (ℓ : Loc Cert.WInWgReferenceIdeal.nD Cert.WInWgReferenceIdeal.τ Cert.WInWgReferenceIdeal.sig) → Buf (Elt Ideal) ℓ) : Prop :=
  True

def Pre_WInDgKernel (m : (ℓ : Loc Cert.WInDgKernel.nD Cert.WInDgKernel.τ Cert.WInDgKernel.sig) → Buf (Elt Bits) ℓ) : Prop :=
  True

def Pre_WInDgKernelIdeal (m : (ℓ : Loc Cert.WInDgKernelIdeal.nD Cert.WInDgKernelIdeal.τ Cert.WInDgKernelIdeal.sig) → Buf (Elt Ideal) ℓ) : Prop :=
  True

def Pre_WInDgReferenceIdeal (m : (ℓ : Loc Cert.WInDgReferenceIdeal.nD Cert.WInDgReferenceIdeal.τ Cert.WInDgReferenceIdeal.sig) → Buf (Elt Ideal) ℓ) : Prop :=
  True

def Pre_WInKernel (m : (ℓ : Loc Cert.WInKernel.nD Cert.WInKernel.τ Cert.WInKernel.sig) → Buf (Elt Bits) ℓ) : Prop :=
  True

def Pre_WInKernelIdeal (m : (ℓ : Loc Cert.WInKernelIdeal.nD Cert.WInKernelIdeal.τ Cert.WInKernelIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_UpFwdKernel (m : (ℓ : Loc Cert.UpFwdKernel.nD Cert.UpFwdKernel.τ Cert.UpFwdKernel.sig) → Buf (Elt Bits) ℓ) : Prop :=
  True

def Pre_UpFwdKernelIdeal (m : (ℓ : Loc Cert.UpFwdKernelIdeal.nD Cert.UpFwdKernelIdeal.τ Cert.UpFwdKernelIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwdKernel (m : (ℓ : Loc Cert.DownFwdKernel.nD Cert.DownFwdKernel.τ Cert.DownFwdKernel.sig) → Buf (Elt Bits) ℓ) : Prop :=
  True

def Pre_DownFwdKernelIdeal (m : (ℓ : Loc Cert.DownFwdKernelIdeal.nD Cert.DownFwdKernelIdeal.τ Cert.DownFwdKernelIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_DownWgKernel (m : (ℓ : Loc Cert.DownWgKernel.nD Cert.DownWgKernel.τ Cert.DownWgKernel.sig) → Buf (Elt Bits) ℓ) : Prop :=
  True

def Pre_DownWgKernelIdeal (m : (ℓ : Loc Cert.DownWgKernelIdeal.nD Cert.DownWgKernelIdeal.τ Cert.DownWgKernelIdeal.sig) → Buf (Elt Ideal) ℓ) : Prop :=
  True

def Pre_DownWgKernelIdeal_a_gt_dxo_finite [hPre_a_gt_dxo_finite : Cert.Pre_a_gt_dxo_finite.Facts] (m : (ℓ : Loc Cert.DownWgKernelIdeal.nD Cert.DownWgKernelIdeal.τ Cert.DownWgKernelIdeal.sig) → Buf (Elt Ideal) ℓ) : Prop :=
  ∀ c : Dev Cert.DownWgKernelIdeal.nD,
    (Cert.Pre_a_gt_dxo_finite.fn (F := Ideal) (m ((c.tc : Thread Cert.DownWgKernelIdeal.nD Cert.DownWgKernelIdeal.τ).loc Cert.DownWgKernelIdeal.main_arg0)) (m ((c.tc : Thread Cert.DownWgKernelIdeal.nD Cert.DownWgKernelIdeal.τ).loc Cert.DownWgKernelIdeal.main_arg1)) (m ((c.tc : Thread Cert.DownWgKernelIdeal.nD Cert.DownWgKernelIdeal.τ).loc Cert.DownWgKernelIdeal.main_arg2)) (m ((c.tc : Thread Cert.DownWgKernelIdeal.nD Cert.DownWgKernelIdeal.τ).loc Cert.DownWgKernelIdeal.main_arg3))) = (fun _ => 1#1)

def Pre_DownWgReferenceIdeal (m : (ℓ : Loc Cert.DownWgReferenceIdeal.nD Cert.DownWgReferenceIdeal.τ Cert.DownWgReferenceIdeal.sig) → Buf (Elt Ideal) ℓ) : Prop :=
  True

def Pre_DownWgReferenceIdeal_a_gt_dxo_finite [hPre_a_gt_dxo_finite : Cert.Pre_a_gt_dxo_finite.Facts] (m : (ℓ : Loc Cert.DownWgReferenceIdeal.nD Cert.DownWgReferenceIdeal.τ Cert.DownWgReferenceIdeal.sig) → Buf (Elt Ideal) ℓ) : Prop :=
  ∀ c : Dev Cert.DownWgReferenceIdeal.nD,
    (Cert.Pre_a_gt_dxo_finite.fn (F := Ideal) (m ((c.tc : Thread Cert.DownWgReferenceIdeal.nD Cert.DownWgReferenceIdeal.τ).loc Cert.DownWgReferenceIdeal.main_arg0)) (m ((c.tc : Thread Cert.DownWgReferenceIdeal.nD Cert.DownWgReferenceIdeal.τ).loc Cert.DownWgReferenceIdeal.main_arg1)) (m ((c.tc : Thread Cert.DownWgReferenceIdeal.nD Cert.DownWgReferenceIdeal.τ).loc Cert.DownWgReferenceIdeal.main_arg2)) (m ((c.tc : Thread Cert.DownWgReferenceIdeal.nD Cert.DownWgReferenceIdeal.τ).loc Cert.DownWgReferenceIdeal.main_arg3))) = (fun _ => 1#1)

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactKernelIdeal_dact_finite [hPre_dact_finite : Cert.Pre_dact_finite.Facts] (m : (ℓ : Loc Cert.DactKernelIdeal.nD Cert.DactKernelIdeal.τ Cert.DactKernelIdeal.sig) → Buf (Elt Ideal) ℓ) : Prop :=
  ∀ c : Dev Cert.DactKernelIdeal.nD,
    (Cert.Pre_dact_finite.fn (F := Ideal) (m ((c.tc : Thread Cert.DactKernelIdeal.nD Cert.DactKernelIdeal.τ).loc Cert.DactKernelIdeal.main_arg0)) (m ((c.tc : Thread Cert.DactKernelIdeal.nD Cert.DactKernelIdeal.τ).loc Cert.DactKernelIdeal.main_arg1)) (m ((c.tc : Thread Cert.DactKernelIdeal.nD Cert.DactKernelIdeal.τ).loc Cert.DactKernelIdeal.main_arg2)) (m ((c.tc : Thread Cert.DactKernelIdeal.nD Cert.DactKernelIdeal.τ).loc Cert.DactKernelIdeal.main_arg3)) (m ((c.tc : Thread Cert.DactKernelIdeal.nD Cert.DactKernelIdeal.τ).loc Cert.DactKernelIdeal.main_arg4))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_dact_finite [hPre_dact_finite : Cert.Pre_dact_finite.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3)) (m ((c.tc : Thread Cert.DactReferenceIdeal.nD Cert.DactReferenceIdeal.τ).loc Cert.DactReferenceIdeal.main_arg4))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_AdaWKernel (m : (ℓ : Loc Cert.AdaWKernel.nD Cert.AdaWKernel.τ Cert.AdaWKernel.sig) → Buf (Elt Bits) ℓ) : Prop :=
  True

def Pre_AdaWKernelIdeal (m : (ℓ : Loc Cert.AdaWKernelIdeal.nD Cert.AdaWKernelIdeal.τ Cert.AdaWKernelIdeal.sig) → Buf (Elt Ideal) ℓ) : Prop :=
  True

def Pre_AdaWReferenceIdeal (m : (ℓ : Loc Cert.AdaWReferenceIdeal.nD Cert.AdaWReferenceIdeal.τ Cert.AdaWReferenceIdeal.sig) → Buf (Elt Ideal) ℓ) : Prop :=
  True

def Pre_AdaBKernel (m : (ℓ : Loc Cert.AdaBKernel.nD Cert.AdaBKernel.τ Cert.AdaBKernel.sig) → Buf (Elt Bits) ℓ) : Prop :=
  True

def Pre_AdaBKernelIdeal (m : (ℓ : Loc Cert.AdaBKernelIdeal.nD Cert.AdaBKernelIdeal.τ Cert.AdaBKernelIdeal.sig) → Buf (Elt Ideal) ℓ) : Prop :=
  True

def Pre_AdaBReferenceIdeal (m : (ℓ : Loc Cert.AdaBReferenceIdeal.nD Cert.AdaBReferenceIdeal.τ Cert.AdaBReferenceIdeal.sig) → Buf (Elt Ideal) ℓ) : Prop :=
  True

def Pre_AdaNormKernel (m : (ℓ : Loc Cert.AdaNormKernel.nD Cert.AdaNormKernel.τ Cert.AdaNormKernel.sig) → Buf (Elt Bits) ℓ) : Prop :=
  True

def Pre_AdaNormKernelIdeal (m : (ℓ : Loc Cert.AdaNormKernelIdeal.nD Cert.AdaNormKernelIdeal.τ Cert.AdaNormKernelIdeal.sig) → Buf (Elt Ideal) ℓ) : Prop :=
  True

def Pre_AdaNormReferenceIdeal (m : (ℓ : Loc Cert.AdaNormReferenceIdeal.nD Cert.AdaNormReferenceIdeal.τ Cert.AdaNormReferenceIdeal.sig) → Buf (Elt Ideal) ℓ) : Prop :=
  True

def Pre_AdaConvKernel (m : (ℓ : Loc Cert.AdaConvKernel.nD Cert.AdaConvKernel.τ Cert.AdaConvKernel.sig) → Buf (Elt Bits) ℓ) : Prop :=
  True

def Pre_AdaConvKernelIdeal (m : (ℓ : Loc Cert.AdaConvKernelIdeal.nD Cert.AdaConvKernelIdeal.τ Cert.AdaConvKernelIdeal.sig) → Buf (Elt Ideal) ℓ) : Prop :=
  True

def Pre_AdaConvReferenceIdeal (m : (ℓ : Loc Cert.AdaConvReferenceIdeal.nD Cert.AdaConvReferenceIdeal.τ Cert.AdaConvReferenceIdeal.sig) → Buf (Elt Ideal) ℓ) : Prop :=
  True

def Pre_AdaQkKernel (m : (ℓ : Loc Cert.AdaQkKernel.nD Cert.AdaQkKernel.τ Cert.AdaQkKernel.sig) → Buf (Elt Bits) ℓ) : Prop :=
  True

def Pre_AdaQkKernelIdeal (m : (ℓ : Loc Cert.AdaQkKernelIdeal.nD Cert.AdaQkKernelIdeal.τ Cert.AdaQkKernelIdeal.sig) → Buf (Elt Ideal) ℓ) : Prop :=
  True

def Pre_AdaQkReferenceIdeal (m : (ℓ : Loc Cert.AdaQkReferenceIdeal.nD Cert.AdaQkReferenceIdeal.τ Cert.AdaQkReferenceIdeal.sig) → Buf (Elt Ideal) ℓ) : Prop :=
  True

def Pre_AdaHeadKernel (m : (ℓ : Loc Cert.AdaHeadKernel.nD Cert.AdaHeadKernel.τ Cert.AdaHeadKernel.sig) → Buf (Elt Bits) ℓ) : Prop :=
  True

def Pre_AdaHeadKernelIdeal (m : (ℓ : Loc Cert.AdaHeadKernelIdeal.nD Cert.AdaHeadKernelIdeal.τ Cert.AdaHeadKernelIdeal.sig) → Buf (Elt Ideal) ℓ) : Prop :=
  True

def Pre_AdaHeadReferenceIdeal (m : (ℓ : Loc Cert.AdaHeadReferenceIdeal.nD Cert.AdaHeadReferenceIdeal.τ Cert.AdaHeadReferenceIdeal.sig) → Buf (Elt Ideal) ℓ) : Prop :=
  True

def Pre_AdaDnKernel (m : (ℓ : Loc Cert.AdaDnKernel.nD Cert.AdaDnKernel.τ Cert.AdaDnKernel.sig) → Buf (Elt Bits) ℓ) : Prop :=
  True

def Pre_AdaDnKernelIdeal (m : (ℓ : Loc Cert.AdaDnKernelIdeal.nD Cert.AdaDnKernelIdeal.τ Cert.AdaDnKernelIdeal.sig) → Buf (Elt Ideal) ℓ) : Prop :=
  True

def Pre_AdaDnReferenceIdeal (m : (ℓ : Loc Cert.AdaDnReferenceIdeal.nD Cert.AdaDnReferenceIdeal.τ Cert.AdaDnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_UpWgKernel [hUpWgKernel : Cert.UpWgKernel.Facts] : Prop :=
  ∀ (m : (ℓ : Loc Cert.UpWgKernel.nD Cert.UpWgKernel.τ Cert.UpWgKernel.sig) → Buf (Elt Bits) ℓ) (g : Dev Cert.UpWgKernel.nD → PrngReg), Pre_UpWgKernel m →
    θ_run (Cert.UpWgKernel.defs (F := Bits)) (onTc (τ := Cert.UpWgKernel.τ) (Cert.UpWgKernel.main (F := Bits))) ⟨m, fun _ => 0, g⟩ (fun r => (∀ c : Dev Cert.UpWgKernel.nD,
      r.2.mem ((c.tc : Thread Cert.UpWgKernel.nD Cert.UpWgKernel.τ).loc Cert.UpWgKernel.main_arg0) = m ((c.tc : Thread Cert.UpWgKernel.nD Cert.UpWgKernel.τ).loc Cert.UpWgKernel.main_arg0)
      ∧ r.2.mem ((c.tc : Thread Cert.UpWgKernel.nD Cert.UpWgKernel.τ).loc Cert.UpWgKernel.main_arg1) = m ((c.tc : Thread Cert.UpWgKernel.nD Cert.UpWgKernel.τ).loc Cert.UpWgKernel.main_arg1)
      ∧ r.2.mem ((c.tc : Thread Cert.UpWgKernel.nD Cert.UpWgKernel.τ).loc Cert.UpWgKernel.main_arg2) = m ((c.tc : Thread Cert.UpWgKernel.nD Cert.UpWgKernel.τ).loc Cert.UpWgKernel.main_arg2)
      ∧ r.2.mem ((c.tc : Thread Cert.UpWgKernel.nD Cert.UpWgKernel.τ).loc Cert.UpWgKernel.main_arg3) = m ((c.tc : Thread Cert.UpWgKernel.nD Cert.UpWgKernel.τ).loc Cert.UpWgKernel.main_arg3))
      ∧ r.2.sem = fun _ => 0)

def quiescent_UpWgKernelIdeal [hUpWgKernelIdeal : Cert.UpWgKernelIdeal.Facts] : Prop :=
  ∀ (m : (ℓ : Loc Cert.UpWgKernelIdeal.nD Cert.UpWgKernelIdeal.τ Cert.UpWgKernelIdeal.sig) → Buf (Elt Ideal) ℓ) (g : Dev Cert.UpWgKernelIdeal.nD → PrngReg), Pre_UpWgKernelIdeal m →
    θ_run (Cert.UpWgKernelIdeal.defs (F := Ideal)) (onTc (τ := Cert.UpWgKernelIdeal.τ) (Cert.UpWgKernelIdeal.main (F := Ideal))) ⟨m, fun _ => 0, g⟩ (fun r => (∀ c : Dev Cert.UpWgKernelIdeal.nD,
      r.2.mem ((c.tc : Thread Cert.UpWgKernelIdeal.nD Cert.UpWgKernelIdeal.τ).loc Cert.UpWgKernelIdeal.main_arg0) = m ((c.tc : Thread Cert.UpWgKernelIdeal.nD Cert.UpWgKernelIdeal.τ).loc Cert.UpWgKernelIdeal.main_arg0)
      ∧ r.2.mem ((c.tc : Thread Cert.UpWgKernelIdeal.nD Cert.UpWgKernelIdeal.τ).loc Cert.UpWgKernelIdeal.main_arg1) = m ((c.tc : Thread Cert.UpWgKernelIdeal.nD Cert.UpWgKernelIdeal.τ).loc Cert.UpWgKernelIdeal.main_arg1)
      ∧ r.2.mem ((c.tc : Thread Cert.UpWgKernelIdeal.nD Cert.UpWgKernelIdeal.τ).loc Cert.UpWgKernelIdeal.main_arg2) = m ((c.tc : Thread Cert.UpWgKernelIdeal.nD Cert.UpWgKernelIdeal.τ).loc Cert.UpWgKernelIdeal.main_arg2)
      ∧ r.2.mem ((c.tc : Thread Cert.UpWgKernelIdeal.nD Cert.UpWgKernelIdeal.τ).loc Cert.UpWgKernelIdeal.main_arg3) = m ((c.tc : Thread Cert.UpWgKernelIdeal.nD Cert.UpWgKernelIdeal.τ).loc Cert.UpWgKernelIdeal.main_arg3))
      ∧ r.2.sem = fun _ => 0)

def quiescent_UpWgReferenceIdeal [hUpWgReferenceIdeal : Cert.UpWgReferenceIdeal.Facts] : Prop :=
  ∀ (m : (ℓ : Loc Cert.UpWgReferenceIdeal.nD Cert.UpWgReferenceIdeal.τ Cert.UpWgReferenceIdeal.sig) → Buf (Elt Ideal) ℓ) (g : Dev Cert.UpWgReferenceIdeal.nD → PrngReg), Pre_UpWgReferenceIdeal m →
    θ_run (Cert.UpWgReferenceIdeal.defs (F := Ideal)) (onTc (τ := Cert.UpWgReferenceIdeal.τ) (Cert.UpWgReferenceIdeal.main (F := Ideal))) ⟨m, fun _ => 0, g⟩ (fun r => (∀ c : Dev Cert.UpWgReferenceIdeal.nD,
      r.2.mem ((c.tc : Thread Cert.UpWgReferenceIdeal.nD Cert.UpWgReferenceIdeal.τ).loc Cert.UpWgReferenceIdeal.main_arg0) = m ((c.tc : Thread Cert.UpWgReferenceIdeal.nD Cert.UpWgReferenceIdeal.τ).loc Cert.UpWgReferenceIdeal.main_arg0)
      ∧ r.2.mem ((c.tc : Thread Cert.UpWgReferenceIdeal.nD Cert.UpWgReferenceIdeal.τ).loc Cert.UpWgReferenceIdeal.main_arg1) = m ((c.tc : Thread Cert.UpWgReferenceIdeal.nD Cert.UpWgReferenceIdeal.τ).loc Cert.UpWgReferenceIdeal.main_arg1)
      ∧ r.2.mem ((c.tc : Thread Cert.UpWgReferenceIdeal.nD Cert.UpWgReferenceIdeal.τ).loc Cert.UpWgReferenceIdeal.main_arg2) = m ((c.tc : Thread Cert.UpWgReferenceIdeal.nD Cert.UpWgReferenceIdeal.τ).loc Cert.UpWgReferenceIdeal.main_arg2)
      ∧ r.2.mem ((c.tc : Thread Cert.UpWgReferenceIdeal.nD Cert.UpWgReferenceIdeal.τ).loc Cert.UpWgReferenceIdeal.main_arg3) = m ((c.tc : Thread Cert.UpWgReferenceIdeal.nD Cert.UpWgReferenceIdeal.τ).loc Cert.UpWgReferenceIdeal.main_arg3))
      ∧ r.2.sem = fun _ => 0)

def quiescent_UpDgKernel [hUpDgKernel : Cert.UpDgKernel.Facts] : Prop :=
  ∀ (m : (ℓ : Loc Cert.UpDgKernel.nD Cert.UpDgKernel.τ Cert.UpDgKernel.sig) → Buf (Elt Bits) ℓ) (g : Dev Cert.UpDgKernel.nD → PrngReg), Pre_UpDgKernel m →
    θ_run (Cert.UpDgKernel.defs (F := Bits)) (onTc (τ := Cert.UpDgKernel.τ) (Cert.UpDgKernel.main (F := Bits))) ⟨m, fun _ => 0, g⟩ (fun r => (∀ c : Dev Cert.UpDgKernel.nD,
      r.2.mem ((c.tc : Thread Cert.UpDgKernel.nD Cert.UpDgKernel.τ).loc Cert.UpDgKernel.main_arg0) = m ((c.tc : Thread Cert.UpDgKernel.nD Cert.UpDgKernel.τ).loc Cert.UpDgKernel.main_arg0)
      ∧ r.2.mem ((c.tc : Thread Cert.UpDgKernel.nD Cert.UpDgKernel.τ).loc Cert.UpDgKernel.main_arg1) = m ((c.tc : Thread Cert.UpDgKernel.nD Cert.UpDgKernel.τ).loc Cert.UpDgKernel.main_arg1)
      ∧ r.2.mem ((c.tc : Thread Cert.UpDgKernel.nD Cert.UpDgKernel.τ).loc Cert.UpDgKernel.main_arg2) = m ((c.tc : Thread Cert.UpDgKernel.nD Cert.UpDgKernel.τ).loc Cert.UpDgKernel.main_arg2)
      ∧ r.2.mem ((c.tc : Thread Cert.UpDgKernel.nD Cert.UpDgKernel.τ).loc Cert.UpDgKernel.main_arg3) = m ((c.tc : Thread Cert.UpDgKernel.nD Cert.UpDgKernel.τ).loc Cert.UpDgKernel.main_arg3))
      ∧ r.2.sem = fun _ => 0)

def quiescent_UpDgKernelIdeal [hUpDgKernelIdeal : Cert.UpDgKernelIdeal.Facts] : Prop :=
  ∀ (m : (ℓ : Loc Cert.UpDgKernelIdeal.nD Cert.UpDgKernelIdeal.τ Cert.UpDgKernelIdeal.sig) → Buf (Elt Ideal) ℓ) (g : Dev Cert.UpDgKernelIdeal.nD → PrngReg), Pre_UpDgKernelIdeal m →
    θ_run (Cert.UpDgKernelIdeal.defs (F := Ideal)) (onTc (τ := Cert.UpDgKernelIdeal.τ) (Cert.UpDgKernelIdeal.main (F := Ideal))) ⟨m, fun _ => 0, g⟩ (fun r => (∀ c : Dev Cert.UpDgKernelIdeal.nD,
      r.2.mem ((c.tc : Thread Cert.UpDgKernelIdeal.nD Cert.UpDgKernelIdeal.τ).loc Cert.UpDgKernelIdeal.main_arg0) = m ((c.tc : Thread Cert.UpDgKernelIdeal.nD Cert.UpDgKernelIdeal.τ).loc Cert.UpDgKernelIdeal.main_arg0)
      ∧ r.2.mem ((c.tc : Thread Cert.UpDgKernelIdeal.nD Cert.UpDgKernelIdeal.τ).loc Cert.UpDgKernelIdeal.main_arg1) = m ((c.tc : Thread Cert.UpDgKernelIdeal.nD Cert.UpDgKernelIdeal.τ).loc Cert.UpDgKernelIdeal.main_arg1)
      ∧ r.2.mem ((c.tc : Thread Cert.UpDgKernelIdeal.nD Cert.UpDgKernelIdeal.τ).loc Cert.UpDgKernelIdeal.main_arg2) = m ((c.tc : Thread Cert.UpDgKernelIdeal.nD Cert.UpDgKernelIdeal.τ).loc Cert.UpDgKernelIdeal.main_arg2)
      ∧ r.2.mem ((c.tc : Thread Cert.UpDgKernelIdeal.nD Cert.UpDgKernelIdeal.τ).loc Cert.UpDgKernelIdeal.main_arg3) = m ((c.tc : Thread Cert.UpDgKernelIdeal.nD Cert.UpDgKernelIdeal.τ).loc Cert.UpDgKernelIdeal.main_arg3))
      ∧ r.2.sem = fun _ => 0)

def quiescent_UpDgReferenceIdeal [hUpDgReferenceIdeal : Cert.UpDgReferenceIdeal.Facts] : Prop :=
  ∀ (m : (ℓ : Loc Cert.UpDgReferenceIdeal.nD Cert.UpDgReferenceIdeal.τ Cert.UpDgReferenceIdeal.sig) → Buf (Elt Ideal) ℓ) (g : Dev Cert.UpDgReferenceIdeal.nD → PrngReg), Pre_UpDgReferenceIdeal m →
    θ_run (Cert.UpDgReferenceIdeal.defs (F := Ideal)) (onTc (τ := Cert.UpDgReferenceIdeal.τ) (Cert.UpDgReferenceIdeal.main (F := Ideal))) ⟨m, fun _ => 0, g⟩ (fun r => (∀ c : Dev Cert.UpDgReferenceIdeal.nD,
      r.2.mem ((c.tc : Thread Cert.UpDgReferenceIdeal.nD Cert.UpDgReferenceIdeal.τ).loc Cert.UpDgReferenceIdeal.main_arg0) = m ((c.tc : Thread Cert.UpDgReferenceIdeal.nD Cert.UpDgReferenceIdeal.τ).loc Cert.UpDgReferenceIdeal.main_arg0)
      ∧ r.2.mem ((c.tc : Thread Cert.UpDgReferenceIdeal.nD Cert.UpDgReferenceIdeal.τ).loc Cert.UpDgReferenceIdeal.main_arg1) = m ((c.tc : Thread Cert.UpDgReferenceIdeal.nD Cert.UpDgReferenceIdeal.τ).loc Cert.UpDgReferenceIdeal.main_arg1)
      ∧ r.2.mem ((c.tc : Thread Cert.UpDgReferenceIdeal.nD Cert.UpDgReferenceIdeal.τ).loc Cert.UpDgReferenceIdeal.main_arg2) = m ((c.tc : Thread Cert.UpDgReferenceIdeal.nD Cert.UpDgReferenceIdeal.τ).loc Cert.UpDgReferenceIdeal.main_arg2)
      ∧ r.2.mem ((c.tc : Thread Cert.UpDgReferenceIdeal.nD Cert.UpDgReferenceIdeal.τ).loc Cert.UpDgReferenceIdeal.main_arg3) = m ((c.tc : Thread Cert.UpDgReferenceIdeal.nD Cert.UpDgReferenceIdeal.τ).loc Cert.UpDgReferenceIdeal.main_arg3))
      ∧ r.2.sem = fun _ => 0)

def quiescent_WInWgKernel [hWInWgKernel : Cert.WInWgKernel.Facts] : Prop :=
  ∀ (m : (ℓ : Loc Cert.WInWgKernel.nD Cert.WInWgKernel.τ Cert.WInWgKernel.sig) → Buf (Elt Bits) ℓ) (g : Dev Cert.WInWgKernel.nD → PrngReg), Pre_WInWgKernel m →
    θ_run (Cert.WInWgKernel.defs (F := Bits)) (onTc (τ := Cert.WInWgKernel.τ) (Cert.WInWgKernel.main (F := Bits))) ⟨m, fun _ => 0, g⟩ (fun r => (∀ c : Dev Cert.WInWgKernel.nD,
      r.2.mem ((c.tc : Thread Cert.WInWgKernel.nD Cert.WInWgKernel.τ).loc Cert.WInWgKernel.main_arg0) = m ((c.tc : Thread Cert.WInWgKernel.nD Cert.WInWgKernel.τ).loc Cert.WInWgKernel.main_arg0)
      ∧ r.2.mem ((c.tc : Thread Cert.WInWgKernel.nD Cert.WInWgKernel.τ).loc Cert.WInWgKernel.main_arg1) = m ((c.tc : Thread Cert.WInWgKernel.nD Cert.WInWgKernel.τ).loc Cert.WInWgKernel.main_arg1)
      ∧ r.2.mem ((c.tc : Thread Cert.WInWgKernel.nD Cert.WInWgKernel.τ).loc Cert.WInWgKernel.main_arg2) = m ((c.tc : Thread Cert.WInWgKernel.nD Cert.WInWgKernel.τ).loc Cert.WInWgKernel.main_arg2))
      ∧ r.2.sem = fun _ => 0)

def quiescent_WInWgKernelIdeal [hWInWgKernelIdeal : Cert.WInWgKernelIdeal.Facts] : Prop :=
  ∀ (m : (ℓ : Loc Cert.WInWgKernelIdeal.nD Cert.WInWgKernelIdeal.τ Cert.WInWgKernelIdeal.sig) → Buf (Elt Ideal) ℓ) (g : Dev Cert.WInWgKernelIdeal.nD → PrngReg), Pre_WInWgKernelIdeal m →
    θ_run (Cert.WInWgKernelIdeal.defs (F := Ideal)) (onTc (τ := Cert.WInWgKernelIdeal.τ) (Cert.WInWgKernelIdeal.main (F := Ideal))) ⟨m, fun _ => 0, g⟩ (fun r => (∀ c : Dev Cert.WInWgKernelIdeal.nD,
      r.2.mem ((c.tc : Thread Cert.WInWgKernelIdeal.nD Cert.WInWgKernelIdeal.τ).loc Cert.WInWgKernelIdeal.main_arg0) = m ((c.tc : Thread Cert.WInWgKernelIdeal.nD Cert.WInWgKernelIdeal.τ).loc Cert.WInWgKernelIdeal.main_arg0)
      ∧ r.2.mem ((c.tc : Thread Cert.WInWgKernelIdeal.nD Cert.WInWgKernelIdeal.τ).loc Cert.WInWgKernelIdeal.main_arg1) = m ((c.tc : Thread Cert.WInWgKernelIdeal.nD Cert.WInWgKernelIdeal.τ).loc Cert.WInWgKernelIdeal.main_arg1)
      ∧ r.2.mem ((c.tc : Thread Cert.WInWgKernelIdeal.nD Cert.WInWgKernelIdeal.τ).loc Cert.WInWgKernelIdeal.main_arg2) = m ((c.tc : Thread Cert.WInWgKernelIdeal.nD Cert.WInWgKernelIdeal.τ).loc Cert.WInWgKernelIdeal.main_arg2))
      ∧ r.2.sem = fun _ => 0)

def quiescent_WInWgReferenceIdeal [hWInWgReferenceIdeal : Cert.WInWgReferenceIdeal.Facts] : Prop :=
  ∀ (m : (ℓ : Loc Cert.WInWgReferenceIdeal.nD Cert.WInWgReferenceIdeal.τ Cert.WInWgReferenceIdeal.sig) → Buf (Elt Ideal) ℓ) (g : Dev Cert.WInWgReferenceIdeal.nD → PrngReg), Pre_WInWgReferenceIdeal m →
    θ_run (Cert.WInWgReferenceIdeal.defs (F := Ideal)) (onTc (τ := Cert.WInWgReferenceIdeal.τ) (Cert.WInWgReferenceIdeal.main (F := Ideal))) ⟨m, fun _ => 0, g⟩ (fun r => (∀ c : Dev Cert.WInWgReferenceIdeal.nD,
      r.2.mem ((c.tc : Thread Cert.WInWgReferenceIdeal.nD Cert.WInWgReferenceIdeal.τ).loc Cert.WInWgReferenceIdeal.main_arg0) = m ((c.tc : Thread Cert.WInWgReferenceIdeal.nD Cert.WInWgReferenceIdeal.τ).loc Cert.WInWgReferenceIdeal.main_arg0)
      ∧ r.2.mem ((c.tc : Thread Cert.WInWgReferenceIdeal.nD Cert.WInWgReferenceIdeal.τ).loc Cert.WInWgReferenceIdeal.main_arg1) = m ((c.tc : Thread Cert.WInWgReferenceIdeal.nD Cert.WInWgReferenceIdeal.τ).loc Cert.WInWgReferenceIdeal.main_arg1)
      ∧ r.2.mem ((c.tc : Thread Cert.WInWgReferenceIdeal.nD Cert.WInWgReferenceIdeal.τ).loc Cert.WInWgReferenceIdeal.main_arg2) = m ((c.tc : Thread Cert.WInWgReferenceIdeal.nD Cert.WInWgReferenceIdeal.τ).loc Cert.WInWgReferenceIdeal.main_arg2))
      ∧ r.2.sem = fun _ => 0)

def quiescent_WInDgKernel [hWInDgKernel : Cert.WInDgKernel.Facts] : Prop :=
  ∀ (m : (ℓ : Loc Cert.WInDgKernel.nD Cert.WInDgKernel.τ Cert.WInDgKernel.sig) → Buf (Elt Bits) ℓ) (g : Dev Cert.WInDgKernel.nD → PrngReg), Pre_WInDgKernel m →
    θ_run (Cert.WInDgKernel.defs (F := Bits)) (onTc (τ := Cert.WInDgKernel.τ) (Cert.WInDgKernel.main (F := Bits))) ⟨m, fun _ => 0, g⟩ (fun r => (∀ c : Dev Cert.WInDgKernel.nD,
      r.2.mem ((c.tc : Thread Cert.WInDgKernel.nD Cert.WInDgKernel.τ).loc Cert.WInDgKernel.main_arg0) = m ((c.tc : Thread Cert.WInDgKernel.nD Cert.WInDgKernel.τ).loc Cert.WInDgKernel.main_arg0)
      ∧ r.2.mem ((c.tc : Thread Cert.WInDgKernel.nD Cert.WInDgKernel.τ).loc Cert.WInDgKernel.main_arg1) = m ((c.tc : Thread Cert.WInDgKernel.nD Cert.WInDgKernel.τ).loc Cert.WInDgKernel.main_arg1)
      ∧ r.2.mem ((c.tc : Thread Cert.WInDgKernel.nD Cert.WInDgKernel.τ).loc Cert.WInDgKernel.main_arg2) = m ((c.tc : Thread Cert.WInDgKernel.nD Cert.WInDgKernel.τ).loc Cert.WInDgKernel.main_arg2))
      ∧ r.2.sem = fun _ => 0)

def quiescent_WInDgKernelIdeal [hWInDgKernelIdeal : Cert.WInDgKernelIdeal.Facts] : Prop :=
  ∀ (m : (ℓ : Loc Cert.WInDgKernelIdeal.nD Cert.WInDgKernelIdeal.τ Cert.WInDgKernelIdeal.sig) → Buf (Elt Ideal) ℓ) (g : Dev Cert.WInDgKernelIdeal.nD → PrngReg), Pre_WInDgKernelIdeal m →
    θ_run (Cert.WInDgKernelIdeal.defs (F := Ideal)) (onTc (τ := Cert.WInDgKernelIdeal.τ) (Cert.WInDgKernelIdeal.main (F := Ideal))) ⟨m, fun _ => 0, g⟩ (fun r => (∀ c : Dev Cert.WInDgKernelIdeal.nD,
      r.2.mem ((c.tc : Thread Cert.WInDgKernelIdeal.nD Cert.WInDgKernelIdeal.τ).loc Cert.WInDgKernelIdeal.main_arg0) = m ((c.tc : Thread Cert.WInDgKernelIdeal.nD Cert.WInDgKernelIdeal.τ).loc Cert.WInDgKernelIdeal.main_arg0)
      ∧ r.2.mem ((c.tc : Thread Cert.WInDgKernelIdeal.nD Cert.WInDgKernelIdeal.τ).loc Cert.WInDgKernelIdeal.main_arg1) = m ((c.tc : Thread Cert.WInDgKernelIdeal.nD Cert.WInDgKernelIdeal.τ).loc Cert.WInDgKernelIdeal.main_arg1)
      ∧ r.2.mem ((c.tc : Thread Cert.WInDgKernelIdeal.nD Cert.WInDgKernelIdeal.τ).loc Cert.WInDgKernelIdeal.main_arg2) = m ((c.tc : Thread Cert.WInDgKernelIdeal.nD Cert.WInDgKernelIdeal.τ).loc Cert.WInDgKernelIdeal.main_arg2))
      ∧ r.2.sem = fun _ => 0)

def quiescent_WInDgReferenceIdeal [hWInDgReferenceIdeal : Cert.WInDgReferenceIdeal.Facts] : Prop :=
  ∀ (m : (ℓ : Loc Cert.WInDgReferenceIdeal.nD Cert.WInDgReferenceIdeal.τ Cert.WInDgReferenceIdeal.sig) → Buf (Elt Ideal) ℓ) (g : Dev Cert.WInDgReferenceIdeal.nD → PrngReg), Pre_WInDgReferenceIdeal m →
    θ_run (Cert.WInDgReferenceIdeal.defs (F := Ideal)) (onTc (τ := Cert.WInDgReferenceIdeal.τ) (Cert.WInDgReferenceIdeal.main (F := Ideal))) ⟨m, fun _ => 0, g⟩ (fun r => (∀ c : Dev Cert.WInDgReferenceIdeal.nD,
      r.2.mem ((c.tc : Thread Cert.WInDgReferenceIdeal.nD Cert.WInDgReferenceIdeal.τ).loc Cert.WInDgReferenceIdeal.main_arg0) = m ((c.tc : Thread Cert.WInDgReferenceIdeal.nD Cert.WInDgReferenceIdeal.τ).loc Cert.WInDgReferenceIdeal.main_arg0)
      ∧ r.2.mem ((c.tc : Thread Cert.WInDgReferenceIdeal.nD Cert.WInDgReferenceIdeal.τ).loc Cert.WInDgReferenceIdeal.main_arg1) = m ((c.tc : Thread Cert.WInDgReferenceIdeal.nD Cert.WInDgReferenceIdeal.τ).loc Cert.WInDgReferenceIdeal.main_arg1)
      ∧ r.2.mem ((c.tc : Thread Cert.WInDgReferenceIdeal.nD Cert.WInDgReferenceIdeal.τ).loc Cert.WInDgReferenceIdeal.main_arg2) = m ((c.tc : Thread Cert.WInDgReferenceIdeal.nD Cert.WInDgReferenceIdeal.τ).loc Cert.WInDgReferenceIdeal.main_arg2))
      ∧ r.2.sem = fun _ => 0)

def quiescent_WInKernel [hWInKernel : Cert.WInKernel.Facts] : Prop :=
  ∀ (m : (ℓ : Loc Cert.WInKernel.nD Cert.WInKernel.τ Cert.WInKernel.sig) → Buf (Elt Bits) ℓ) (g : Dev Cert.WInKernel.nD → PrngReg), Pre_WInKernel m →
    θ_run (Cert.WInKernel.defs (F := Bits)) (onTc (τ := Cert.WInKernel.τ) (Cert.WInKernel.main (F := Bits))) ⟨m, fun _ => 0, g⟩ (fun r => (∀ c : Dev Cert.WInKernel.nD,
      r.2.mem ((c.tc : Thread Cert.WInKernel.nD Cert.WInKernel.τ).loc Cert.WInKernel.main_arg0) = m ((c.tc : Thread Cert.WInKernel.nD Cert.WInKernel.τ).loc Cert.WInKernel.main_arg0)
      ∧ r.2.mem ((c.tc : Thread Cert.WInKernel.nD Cert.WInKernel.τ).loc Cert.WInKernel.main_arg1) = m ((c.tc : Thread Cert.WInKernel.nD Cert.WInKernel.τ).loc Cert.WInKernel.main_arg1))
      ∧ r.2.sem = fun _ => 0)

def quiescent_WInKernelIdeal [hWInKernelIdeal : Cert.WInKernelIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg), Pre_WInKernelIdeal m →
    θ_run (Cert.WInKernelIdeal.defs (F := Ideal)) (onTc (τ := Cert.WInKernelIdeal.τ) (Cert.WInKernelIdeal.main (F := Ideal))) ⟨m, fun _ => 0, g⟩ (fun r => (∀ c : Dev Cert.WInKernelIdeal.nD,
      r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
      ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1))
      ∧ r.2.sem = fun _ => 0)

def quiescent_UpFwdKernel [hUpFwdKernel : Cert.UpFwdKernel.Facts] : Prop :=
  ∀ (m : (ℓ : Loc Cert.UpFwdKernel.nD Cert.UpFwdKernel.τ Cert.UpFwdKernel.sig) → Buf (Elt Bits) ℓ) (g : Dev Cert.UpFwdKernel.nD → PrngReg), Pre_UpFwdKernel m →
    θ_run (Cert.UpFwdKernel.defs (F := Bits)) (onTc (τ := Cert.UpFwdKernel.τ) (Cert.UpFwdKernel.main (F := Bits))) ⟨m, fun _ => 0, g⟩ (fun r => (∀ c : Dev Cert.UpFwdKernel.nD,
      r.2.mem ((c.tc : Thread Cert.UpFwdKernel.nD Cert.UpFwdKernel.τ).loc Cert.UpFwdKernel.main_arg0) = m ((c.tc : Thread Cert.UpFwdKernel.nD Cert.UpFwdKernel.τ).loc Cert.UpFwdKernel.main_arg0)
      ∧ r.2.mem ((c.tc : Thread Cert.UpFwdKernel.nD Cert.UpFwdKernel.τ).loc Cert.UpFwdKernel.main_arg1) = m ((c.tc : Thread Cert.UpFwdKernel.nD Cert.UpFwdKernel.τ).loc Cert.UpFwdKernel.main_arg1))
      ∧ r.2.sem = fun _ => 0)

def quiescent_UpFwdKernelIdeal [hUpFwdKernelIdeal : Cert.UpFwdKernelIdeal.Facts] : Prop :=
  ∀ (m : (ℓ : Loc Cert.UpFwdKernelIdeal.nD Cert.UpFwdKernelIdeal.τ Cert.UpFwdKernelIdeal.sig) → Buf (Elt Ideal) ℓ) (g : Dev Cert.UpFwdKernelIdeal.nD → PrngReg), Pre_UpFwdKernelIdeal m →
    θ_run (Cert.UpFwdKernelIdeal.defs (F := Ideal)) (onTc (τ := Cert.UpFwdKernelIdeal.τ) (Cert.UpFwdKernelIdeal.main (F := Ideal))) ⟨m, fun _ => 0, g⟩ (fun r => (∀ c : Dev Cert.UpFwdKernelIdeal.nD,
      r.2.mem ((c.tc : Thread Cert.UpFwdKernelIdeal.nD Cert.UpFwdKernelIdeal.τ).loc Cert.UpFwdKernelIdeal.main_arg0) = m ((c.tc : Thread Cert.UpFwdKernelIdeal.nD Cert.UpFwdKernelIdeal.τ).loc Cert.UpFwdKernelIdeal.main_arg0)
      ∧ r.2.mem ((c.tc : Thread Cert.UpFwdKernelIdeal.nD Cert.UpFwdKernelIdeal.τ).loc Cert.UpFwdKernelIdeal.main_arg1) = m ((c.tc : Thread Cert.UpFwdKernelIdeal.nD Cert.UpFwdKernelIdeal.τ).loc Cert.UpFwdKernelIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwdKernel [hDownFwdKernel : Cert.DownFwdKernel.Facts] : Prop :=
  ∀ (m : (ℓ : Loc Cert.DownFwdKernel.nD Cert.DownFwdKernel.τ Cert.DownFwdKernel.sig) → Buf (Elt Bits) ℓ) (g : Dev Cert.DownFwdKernel.nD → PrngReg), Pre_DownFwdKernel m →
    θ_run (Cert.DownFwdKernel.defs (F := Bits)) (onTc (τ := Cert.DownFwdKernel.τ) (Cert.DownFwdKernel.main (F := Bits))) ⟨m, fun _ => 0, g⟩ (fun r => (∀ c : Dev Cert.DownFwdKernel.nD,
      r.2.mem ((c.tc : Thread Cert.DownFwdKernel.nD Cert.DownFwdKernel.τ).loc Cert.DownFwdKernel.main_arg0) = m ((c.tc : Thread Cert.DownFwdKernel.nD Cert.DownFwdKernel.τ).loc Cert.DownFwdKernel.main_arg0)
      ∧ r.2.mem ((c.tc : Thread Cert.DownFwdKernel.nD Cert.DownFwdKernel.τ).loc Cert.DownFwdKernel.main_arg1) = m ((c.tc : Thread Cert.DownFwdKernel.nD Cert.DownFwdKernel.τ).loc Cert.DownFwdKernel.main_arg1)
      ∧ r.2.mem ((c.tc : Thread Cert.DownFwdKernel.nD Cert.DownFwdKernel.τ).loc Cert.DownFwdKernel.main_arg2) = m ((c.tc : Thread Cert.DownFwdKernel.nD Cert.DownFwdKernel.τ).loc Cert.DownFwdKernel.main_arg2)
      ∧ r.2.mem ((c.tc : Thread Cert.DownFwdKernel.nD Cert.DownFwdKernel.τ).loc Cert.DownFwdKernel.main_arg3) = m ((c.tc : Thread Cert.DownFwdKernel.nD Cert.DownFwdKernel.τ).loc Cert.DownFwdKernel.main_arg3))
      ∧ r.2.sem = fun _ => 0)

def quiescent_DownFwdKernelIdeal [hDownFwdKernelIdeal : Cert.DownFwdKernelIdeal.Facts] : Prop :=
  ∀ (m : (ℓ : Loc Cert.DownFwdKernelIdeal.nD Cert.DownFwdKernelIdeal.τ Cert.DownFwdKernelIdeal.sig) → Buf (Elt Ideal) ℓ) (g : Dev Cert.DownFwdKernelIdeal.nD → PrngReg), Pre_DownFwdKernelIdeal m →
    θ_run (Cert.DownFwdKernelIdeal.defs (F := Ideal)) (onTc (τ := Cert.DownFwdKernelIdeal.τ) (Cert.DownFwdKernelIdeal.main (F := Ideal))) ⟨m, fun _ => 0, g⟩ (fun r => (∀ c : Dev Cert.DownFwdKernelIdeal.nD,
      r.2.mem ((c.tc : Thread Cert.DownFwdKernelIdeal.nD Cert.DownFwdKernelIdeal.τ).loc Cert.DownFwdKernelIdeal.main_arg0) = m ((c.tc : Thread Cert.DownFwdKernelIdeal.nD Cert.DownFwdKernelIdeal.τ).loc Cert.DownFwdKernelIdeal.main_arg0)
      ∧ r.2.mem ((c.tc : Thread Cert.DownFwdKernelIdeal.nD Cert.DownFwdKernelIdeal.τ).loc Cert.DownFwdKernelIdeal.main_arg1) = m ((c.tc : Thread Cert.DownFwdKernelIdeal.nD Cert.DownFwdKernelIdeal.τ).loc Cert.DownFwdKernelIdeal.main_arg1)
      ∧ r.2.mem ((c.tc : Thread Cert.DownFwdKernelIdeal.nD Cert.DownFwdKernelIdeal.τ).loc Cert.DownFwdKernelIdeal.main_arg2) = m ((c.tc : Thread Cert.DownFwdKernelIdeal.nD Cert.DownFwdKernelIdeal.τ).loc Cert.DownFwdKernelIdeal.main_arg2)
      ∧ r.2.mem ((c.tc : Thread Cert.DownFwdKernelIdeal.nD Cert.DownFwdKernelIdeal.τ).loc Cert.DownFwdKernelIdeal.main_arg3) = m ((c.tc : Thread Cert.DownFwdKernelIdeal.nD Cert.DownFwdKernelIdeal.τ).loc Cert.DownFwdKernelIdeal.main_arg3))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2)
      ∧ r.2.mem ((c.tc : Thread Cert.DownFwdReferenceIdeal.nD Cert.DownFwdReferenceIdeal.τ).loc Cert.DownFwdReferenceIdeal.main_arg3) = m ((c.tc : Thread Cert.DownFwdReferenceIdeal.nD Cert.DownFwdReferenceIdeal.τ).loc Cert.DownFwdReferenceIdeal.main_arg3))
      ∧ r.2.sem = fun _ => 0)

def quiescent_DownWgKernel [hDownWgKernel : Cert.DownWgKernel.Facts] : Prop :=
  ∀ (m : (ℓ : Loc Cert.DownWgKernel.nD Cert.DownWgKernel.τ Cert.DownWgKernel.sig) → Buf (Elt Bits) ℓ) (g : Dev Cert.DownWgKernel.nD → PrngReg), Pre_DownWgKernel m →
    θ_run (Cert.DownWgKernel.defs (F := Bits)) (onTc (τ := Cert.DownWgKernel.τ) (Cert.DownWgKernel.main (F := Bits))) ⟨m, fun _ => 0, g⟩ (fun r => (∀ c : Dev Cert.DownWgKernel.nD,
      r.2.mem ((c.tc : Thread Cert.DownWgKernel.nD Cert.DownWgKernel.τ).loc Cert.DownWgKernel.main_arg0) = m ((c.tc : Thread Cert.DownWgKernel.nD Cert.DownWgKernel.τ).loc Cert.DownWgKernel.main_arg0)
      ∧ r.2.mem ((c.tc : Thread Cert.DownWgKernel.nD Cert.DownWgKernel.τ).loc Cert.DownWgKernel.main_arg1) = m ((c.tc : Thread Cert.DownWgKernel.nD Cert.DownWgKernel.τ).loc Cert.DownWgKernel.main_arg1)
      ∧ r.2.mem ((c.tc : Thread Cert.DownWgKernel.nD Cert.DownWgKernel.τ).loc Cert.DownWgKernel.main_arg2) = m ((c.tc : Thread Cert.DownWgKernel.nD Cert.DownWgKernel.τ).loc Cert.DownWgKernel.main_arg2)
      ∧ r.2.mem ((c.tc : Thread Cert.DownWgKernel.nD Cert.DownWgKernel.τ).loc Cert.DownWgKernel.main_arg3) = m ((c.tc : Thread Cert.DownWgKernel.nD Cert.DownWgKernel.τ).loc Cert.DownWgKernel.main_arg3))
      ∧ r.2.sem = fun _ => 0)

def quiescent_DownWgKernelIdeal [hDownWgKernelIdeal : Cert.DownWgKernelIdeal.Facts] : Prop :=
  ∀ (m : (ℓ : Loc Cert.DownWgKernelIdeal.nD Cert.DownWgKernelIdeal.τ Cert.DownWgKernelIdeal.sig) → Buf (Elt Ideal) ℓ) (g : Dev Cert.DownWgKernelIdeal.nD → PrngReg), Pre_DownWgKernelIdeal m →
    θ_run (Cert.DownWgKernelIdeal.defs (F := Ideal)) (onTc (τ := Cert.DownWgKernelIdeal.τ) (Cert.DownWgKernelIdeal.main (F := Ideal))) ⟨m, fun _ => 0, g⟩ (fun r => (∀ c : Dev Cert.DownWgKernelIdeal.nD,
      r.2.mem ((c.tc : Thread Cert.DownWgKernelIdeal.nD Cert.DownWgKernelIdeal.τ).loc Cert.DownWgKernelIdeal.main_arg0) = m ((c.tc : Thread Cert.DownWgKernelIdeal.nD Cert.DownWgKernelIdeal.τ).loc Cert.DownWgKernelIdeal.main_arg0)
      ∧ r.2.mem ((c.tc : Thread Cert.DownWgKernelIdeal.nD Cert.DownWgKernelIdeal.τ).loc Cert.DownWgKernelIdeal.main_arg1) = m ((c.tc : Thread Cert.DownWgKernelIdeal.nD Cert.DownWgKernelIdeal.τ).loc Cert.DownWgKernelIdeal.main_arg1)
      ∧ r.2.mem ((c.tc : Thread Cert.DownWgKernelIdeal.nD Cert.DownWgKernelIdeal.τ).loc Cert.DownWgKernelIdeal.main_arg2) = m ((c.tc : Thread Cert.DownWgKernelIdeal.nD Cert.DownWgKernelIdeal.τ).loc Cert.DownWgKernelIdeal.main_arg2)
      ∧ r.2.mem ((c.tc : Thread Cert.DownWgKernelIdeal.nD Cert.DownWgKernelIdeal.τ).loc Cert.DownWgKernelIdeal.main_arg3) = m ((c.tc : Thread Cert.DownWgKernelIdeal.nD Cert.DownWgKernelIdeal.τ).loc Cert.DownWgKernelIdeal.main_arg3))
      ∧ r.2.sem = fun _ => 0)

def quiescent_DownWgKernelIdeal_pre_a_gt_dxo_finite [hDownWgKernelIdeal : Cert.DownWgKernelIdeal.Facts] [hPre_a_gt_dxo_finite : Cert.Pre_a_gt_dxo_finite.Facts] : Prop :=
  ∀ (m : (ℓ : Loc Cert.DownWgKernelIdeal.nD Cert.DownWgKernelIdeal.τ Cert.DownWgKernelIdeal.sig) → Buf (Elt Ideal) ℓ) (g : Dev Cert.DownWgKernelIdeal.nD → PrngReg), Pre_DownWgKernelIdeal_a_gt_dxo_finite m →
    θ_run (Cert.DownWgKernelIdeal.defs (F := Ideal)) (onTc (τ := Cert.DownWgKernelIdeal.τ) (Cert.DownWgKernelIdeal.main (F := Ideal))) ⟨m, fun _ => 0, g⟩ (fun r => (∀ c : Dev Cert.DownWgKernelIdeal.nD,
      r.2.mem ((c.tc : Thread Cert.DownWgKernelIdeal.nD Cert.DownWgKernelIdeal.τ).loc Cert.DownWgKernelIdeal.main_arg0) = m ((c.tc : Thread Cert.DownWgKernelIdeal.nD Cert.DownWgKernelIdeal.τ).loc Cert.DownWgKernelIdeal.main_arg0)
      ∧ r.2.mem ((c.tc : Thread Cert.DownWgKernelIdeal.nD Cert.DownWgKernelIdeal.τ).loc Cert.DownWgKernelIdeal.main_arg1) = m ((c.tc : Thread Cert.DownWgKernelIdeal.nD Cert.DownWgKernelIdeal.τ).loc Cert.DownWgKernelIdeal.main_arg1)
      ∧ r.2.mem ((c.tc : Thread Cert.DownWgKernelIdeal.nD Cert.DownWgKernelIdeal.τ).loc Cert.DownWgKernelIdeal.main_arg2) = m ((c.tc : Thread Cert.DownWgKernelIdeal.nD Cert.DownWgKernelIdeal.τ).loc Cert.DownWgKernelIdeal.main_arg2)
      ∧ r.2.mem ((c.tc : Thread Cert.DownWgKernelIdeal.nD Cert.DownWgKernelIdeal.τ).loc Cert.DownWgKernelIdeal.main_arg3) = m ((c.tc : Thread Cert.DownWgKernelIdeal.nD Cert.DownWgKernelIdeal.τ).loc Cert.DownWgKernelIdeal.main_arg3))
      ∧ r.2.sem = fun _ => 0)

def quiescent_DownWgReferenceIdeal [hDownWgReferenceIdeal : Cert.DownWgReferenceIdeal.Facts] : Prop :=
  ∀ (m : (ℓ : Loc Cert.DownWgReferenceIdeal.nD Cert.DownWgReferenceIdeal.τ Cert.DownWgReferenceIdeal.sig) → Buf (Elt Ideal) ℓ) (g : Dev Cert.DownWgReferenceIdeal.nD → PrngReg), Pre_DownWgReferenceIdeal m →
    θ_run (Cert.DownWgReferenceIdeal.defs (F := Ideal)) (onTc (τ := Cert.DownWgReferenceIdeal.τ) (Cert.DownWgReferenceIdeal.main (F := Ideal))) ⟨m, fun _ => 0, g⟩ (fun r => (∀ c : Dev Cert.DownWgReferenceIdeal.nD,
      r.2.mem ((c.tc : Thread Cert.DownWgReferenceIdeal.nD Cert.DownWgReferenceIdeal.τ).loc Cert.DownWgReferenceIdeal.main_arg0) = m ((c.tc : Thread Cert.DownWgReferenceIdeal.nD Cert.DownWgReferenceIdeal.τ).loc Cert.DownWgReferenceIdeal.main_arg0)
      ∧ r.2.mem ((c.tc : Thread Cert.DownWgReferenceIdeal.nD Cert.DownWgReferenceIdeal.τ).loc Cert.DownWgReferenceIdeal.main_arg1) = m ((c.tc : Thread Cert.DownWgReferenceIdeal.nD Cert.DownWgReferenceIdeal.τ).loc Cert.DownWgReferenceIdeal.main_arg1)
      ∧ r.2.mem ((c.tc : Thread Cert.DownWgReferenceIdeal.nD Cert.DownWgReferenceIdeal.τ).loc Cert.DownWgReferenceIdeal.main_arg2) = m ((c.tc : Thread Cert.DownWgReferenceIdeal.nD Cert.DownWgReferenceIdeal.τ).loc Cert.DownWgReferenceIdeal.main_arg2)
      ∧ r.2.mem ((c.tc : Thread Cert.DownWgReferenceIdeal.nD Cert.DownWgReferenceIdeal.τ).loc Cert.DownWgReferenceIdeal.main_arg3) = m ((c.tc : Thread Cert.DownWgReferenceIdeal.nD Cert.DownWgReferenceIdeal.τ).loc Cert.DownWgReferenceIdeal.main_arg3))
      ∧ r.2.sem = fun _ => 0)

def quiescent_DownWgReferenceIdeal_pre_a_gt_dxo_finite [hDownWgReferenceIdeal : Cert.DownWgReferenceIdeal.Facts] [hPre_a_gt_dxo_finite : Cert.Pre_a_gt_dxo_finite.Facts] : Prop :=
  ∀ (m : (ℓ : Loc Cert.DownWgReferenceIdeal.nD Cert.DownWgReferenceIdeal.τ Cert.DownWgReferenceIdeal.sig) → Buf (Elt Ideal) ℓ) (g : Dev Cert.DownWgReferenceIdeal.nD → PrngReg), Pre_DownWgReferenceIdeal_a_gt_dxo_finite m →
    θ_run (Cert.DownWgReferenceIdeal.defs (F := Ideal)) (onTc (τ := Cert.DownWgReferenceIdeal.τ) (Cert.DownWgReferenceIdeal.main (F := Ideal))) ⟨m, fun _ => 0, g⟩ (fun r => (∀ c : Dev Cert.DownWgReferenceIdeal.nD,
      r.2.mem ((c.tc : Thread Cert.DownWgReferenceIdeal.nD Cert.DownWgReferenceIdeal.τ).loc Cert.DownWgReferenceIdeal.main_arg0) = m ((c.tc : Thread Cert.DownWgReferenceIdeal.nD Cert.DownWgReferenceIdeal.τ).loc Cert.DownWgReferenceIdeal.main_arg0)
      ∧ r.2.mem ((c.tc : Thread Cert.DownWgReferenceIdeal.nD Cert.DownWgReferenceIdeal.τ).loc Cert.DownWgReferenceIdeal.main_arg1) = m ((c.tc : Thread Cert.DownWgReferenceIdeal.nD Cert.DownWgReferenceIdeal.τ).loc Cert.DownWgReferenceIdeal.main_arg1)
      ∧ r.2.mem ((c.tc : Thread Cert.DownWgReferenceIdeal.nD Cert.DownWgReferenceIdeal.τ).loc Cert.DownWgReferenceIdeal.main_arg2) = m ((c.tc : Thread Cert.DownWgReferenceIdeal.nD Cert.DownWgReferenceIdeal.τ).loc Cert.DownWgReferenceIdeal.main_arg2)
      ∧ r.2.mem ((c.tc : Thread Cert.DownWgReferenceIdeal.nD Cert.DownWgReferenceIdeal.τ).loc Cert.DownWgReferenceIdeal.main_arg3) = m ((c.tc : Thread Cert.DownWgReferenceIdeal.nD Cert.DownWgReferenceIdeal.τ).loc Cert.DownWgReferenceIdeal.main_arg3))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2)
      ∧ r.2.mem ((c.tc : Thread Cert.DactKernel.nD Cert.DactKernel.τ).loc Cert.DactKernel.main_arg3) = m ((c.tc : Thread Cert.DactKernel.nD Cert.DactKernel.τ).loc Cert.DactKernel.main_arg3)
      ∧ r.2.mem ((c.tc : Thread Cert.DactKernel.nD Cert.DactKernel.τ).loc Cert.DactKernel.main_arg4) = m ((c.tc : Thread Cert.DactKernel.nD Cert.DactKernel.τ).loc Cert.DactKernel.main_arg4))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3)
      ∧ r.2.mem ((c.tc : Thread Cert.DactKernelIdeal.nD Cert.DactKernelIdeal.τ).loc Cert.DactKernelIdeal.main_arg4) = m ((c.tc : Thread Cert.DactKernelIdeal.nD Cert.DactKernelIdeal.τ).loc Cert.DactKernelIdeal.main_arg4))
      ∧ r.2.sem = fun _ => 0)

def quiescent_DactKernelIdeal_pre_dact_finite [hDactKernelIdeal : Cert.DactKernelIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal_dact_finite m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3)
      ∧ r.2.mem ((c.tc : Thread Cert.DactKernelIdeal.nD Cert.DactKernelIdeal.τ).loc Cert.DactKernelIdeal.main_arg4) = m ((c.tc : Thread Cert.DactKernelIdeal.nD Cert.DactKernelIdeal.τ).loc Cert.DactKernelIdeal.main_arg4))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3)
      ∧ r.2.mem ((c.tc : Thread Cert.DactReferenceIdeal.nD Cert.DactReferenceIdeal.τ).loc Cert.DactReferenceIdeal.main_arg4) = m ((c.tc : Thread Cert.DactReferenceIdeal.nD Cert.DactReferenceIdeal.τ).loc Cert.DactReferenceIdeal.main_arg4))
      ∧ r.2.sem = fun _ => 0)

def quiescent_DactReferenceIdeal_pre_dact_finite [hDactReferenceIdeal : Cert.DactReferenceIdeal.Facts] [hPre_dact_finite : Cert.Pre_dact_finite.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_dact_finite m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3)
      ∧ r.2.mem ((c.tc : Thread Cert.DactReferenceIdeal.nD Cert.DactReferenceIdeal.τ).loc Cert.DactReferenceIdeal.main_arg4) = m ((c.tc : Thread Cert.DactReferenceIdeal.nD Cert.DactReferenceIdeal.τ).loc Cert.DactReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_AdaWKernel [hAdaWKernel : Cert.AdaWKernel.Facts] : Prop :=
  ∀ (m : (ℓ : Loc Cert.AdaWKernel.nD Cert.AdaWKernel.τ Cert.AdaWKernel.sig) → Buf (Elt Bits) ℓ) (g : Dev Cert.AdaWKernel.nD → PrngReg), Pre_AdaWKernel m →
    θ_run (Cert.AdaWKernel.defs (F := Bits)) (onTc (τ := Cert.AdaWKernel.τ) (Cert.AdaWKernel.main (F := Bits))) ⟨m, fun _ => 0, g⟩ (fun r => (∀ c : Dev Cert.AdaWKernel.nD,
      r.2.mem ((c.tc : Thread Cert.AdaWKernel.nD Cert.AdaWKernel.τ).loc Cert.AdaWKernel.main_arg0) = m ((c.tc : Thread Cert.AdaWKernel.nD Cert.AdaWKernel.τ).loc Cert.AdaWKernel.main_arg0)
      ∧ r.2.mem ((c.tc : Thread Cert.AdaWKernel.nD Cert.AdaWKernel.τ).loc Cert.AdaWKernel.main_arg1) = m ((c.tc : Thread Cert.AdaWKernel.nD Cert.AdaWKernel.τ).loc Cert.AdaWKernel.main_arg1)
      ∧ r.2.mem ((c.tc : Thread Cert.AdaWKernel.nD Cert.AdaWKernel.τ).loc Cert.AdaWKernel.main_arg2) = m ((c.tc : Thread Cert.AdaWKernel.nD Cert.AdaWKernel.τ).loc Cert.AdaWKernel.main_arg2)
      ∧ r.2.mem ((c.tc : Thread Cert.AdaWKernel.nD Cert.AdaWKernel.τ).loc Cert.AdaWKernel.main_arg3) = m ((c.tc : Thread Cert.AdaWKernel.nD Cert.AdaWKernel.τ).loc Cert.AdaWKernel.main_arg3))
      ∧ r.2.sem = fun _ => 0)

def quiescent_AdaWKernelIdeal [hAdaWKernelIdeal : Cert.AdaWKernelIdeal.Facts] : Prop :=
  ∀ (m : (ℓ : Loc Cert.AdaWKernelIdeal.nD Cert.AdaWKernelIdeal.τ Cert.AdaWKernelIdeal.sig) → Buf (Elt Ideal) ℓ) (g : Dev Cert.AdaWKernelIdeal.nD → PrngReg), Pre_AdaWKernelIdeal m →
    θ_run (Cert.AdaWKernelIdeal.defs (F := Ideal)) (onTc (τ := Cert.AdaWKernelIdeal.τ) (Cert.AdaWKernelIdeal.main (F := Ideal))) ⟨m, fun _ => 0, g⟩ (fun r => (∀ c : Dev Cert.AdaWKernelIdeal.nD,
      r.2.mem ((c.tc : Thread Cert.AdaWKernelIdeal.nD Cert.AdaWKernelIdeal.τ).loc Cert.AdaWKernelIdeal.main_arg0) = m ((c.tc : Thread Cert.AdaWKernelIdeal.nD Cert.AdaWKernelIdeal.τ).loc Cert.AdaWKernelIdeal.main_arg0)
      ∧ r.2.mem ((c.tc : Thread Cert.AdaWKernelIdeal.nD Cert.AdaWKernelIdeal.τ).loc Cert.AdaWKernelIdeal.main_arg1) = m ((c.tc : Thread Cert.AdaWKernelIdeal.nD Cert.AdaWKernelIdeal.τ).loc Cert.AdaWKernelIdeal.main_arg1)
      ∧ r.2.mem ((c.tc : Thread Cert.AdaWKernelIdeal.nD Cert.AdaWKernelIdeal.τ).loc Cert.AdaWKernelIdeal.main_arg2) = m ((c.tc : Thread Cert.AdaWKernelIdeal.nD Cert.AdaWKernelIdeal.τ).loc Cert.AdaWKernelIdeal.main_arg2)
      ∧ r.2.mem ((c.tc : Thread Cert.AdaWKernelIdeal.nD Cert.AdaWKernelIdeal.τ).loc Cert.AdaWKernelIdeal.main_arg3) = m ((c.tc : Thread Cert.AdaWKernelIdeal.nD Cert.AdaWKernelIdeal.τ).loc Cert.AdaWKernelIdeal.main_arg3))
      ∧ r.2.sem = fun _ => 0)

def quiescent_AdaWReferenceIdeal [hAdaWReferenceIdeal : Cert.AdaWReferenceIdeal.Facts] : Prop :=
  ∀ (m : (ℓ : Loc Cert.AdaWReferenceIdeal.nD Cert.AdaWReferenceIdeal.τ Cert.AdaWReferenceIdeal.sig) → Buf (Elt Ideal) ℓ) (g : Dev Cert.AdaWReferenceIdeal.nD → PrngReg), Pre_AdaWReferenceIdeal m →
    θ_run (Cert.AdaWReferenceIdeal.defs (F := Ideal)) (onTc (τ := Cert.AdaWReferenceIdeal.τ) (Cert.AdaWReferenceIdeal.main (F := Ideal))) ⟨m, fun _ => 0, g⟩ (fun r => (∀ c : Dev Cert.AdaWReferenceIdeal.nD,
      r.2.mem ((c.tc : Thread Cert.AdaWReferenceIdeal.nD Cert.AdaWReferenceIdeal.τ).loc Cert.AdaWReferenceIdeal.main_arg0) = m ((c.tc : Thread Cert.AdaWReferenceIdeal.nD Cert.AdaWReferenceIdeal.τ).loc Cert.AdaWReferenceIdeal.main_arg0)
      ∧ r.2.mem ((c.tc : Thread Cert.AdaWReferenceIdeal.nD Cert.AdaWReferenceIdeal.τ).loc Cert.AdaWReferenceIdeal.main_arg1) = m ((c.tc : Thread Cert.AdaWReferenceIdeal.nD Cert.AdaWReferenceIdeal.τ).loc Cert.AdaWReferenceIdeal.main_arg1)
      ∧ r.2.mem ((c.tc : Thread Cert.AdaWReferenceIdeal.nD Cert.AdaWReferenceIdeal.τ).loc Cert.AdaWReferenceIdeal.main_arg2) = m ((c.tc : Thread Cert.AdaWReferenceIdeal.nD Cert.AdaWReferenceIdeal.τ).loc Cert.AdaWReferenceIdeal.main_arg2)
      ∧ r.2.mem ((c.tc : Thread Cert.AdaWReferenceIdeal.nD Cert.AdaWReferenceIdeal.τ).loc Cert.AdaWReferenceIdeal.main_arg3) = m ((c.tc : Thread Cert.AdaWReferenceIdeal.nD Cert.AdaWReferenceIdeal.τ).loc Cert.AdaWReferenceIdeal.main_arg3))
      ∧ r.2.sem = fun _ => 0)

def quiescent_AdaBKernel [hAdaBKernel : Cert.AdaBKernel.Facts] : Prop :=
  ∀ (m : (ℓ : Loc Cert.AdaBKernel.nD Cert.AdaBKernel.τ Cert.AdaBKernel.sig) → Buf (Elt Bits) ℓ) (g : Dev Cert.AdaBKernel.nD → PrngReg), Pre_AdaBKernel m →
    θ_run (Cert.AdaBKernel.defs (F := Bits)) (onTc (τ := Cert.AdaBKernel.τ) (Cert.AdaBKernel.main (F := Bits))) ⟨m, fun _ => 0, g⟩ (fun r => (∀ c : Dev Cert.AdaBKernel.nD,
      r.2.mem ((c.tc : Thread Cert.AdaBKernel.nD Cert.AdaBKernel.τ).loc Cert.AdaBKernel.main_arg0) = m ((c.tc : Thread Cert.AdaBKernel.nD Cert.AdaBKernel.τ).loc Cert.AdaBKernel.main_arg0)
      ∧ r.2.mem ((c.tc : Thread Cert.AdaBKernel.nD Cert.AdaBKernel.τ).loc Cert.AdaBKernel.main_arg1) = m ((c.tc : Thread Cert.AdaBKernel.nD Cert.AdaBKernel.τ).loc Cert.AdaBKernel.main_arg1)
      ∧ r.2.mem ((c.tc : Thread Cert.AdaBKernel.nD Cert.AdaBKernel.τ).loc Cert.AdaBKernel.main_arg2) = m ((c.tc : Thread Cert.AdaBKernel.nD Cert.AdaBKernel.τ).loc Cert.AdaBKernel.main_arg2)
      ∧ r.2.mem ((c.tc : Thread Cert.AdaBKernel.nD Cert.AdaBKernel.τ).loc Cert.AdaBKernel.main_arg3) = m ((c.tc : Thread Cert.AdaBKernel.nD Cert.AdaBKernel.τ).loc Cert.AdaBKernel.main_arg3))
      ∧ r.2.sem = fun _ => 0)

def quiescent_AdaBKernelIdeal [hAdaBKernelIdeal : Cert.AdaBKernelIdeal.Facts] : Prop :=
  ∀ (m : (ℓ : Loc Cert.AdaBKernelIdeal.nD Cert.AdaBKernelIdeal.τ Cert.AdaBKernelIdeal.sig) → Buf (Elt Ideal) ℓ) (g : Dev Cert.AdaBKernelIdeal.nD → PrngReg), Pre_AdaBKernelIdeal m →
    θ_run (Cert.AdaBKernelIdeal.defs (F := Ideal)) (onTc (τ := Cert.AdaBKernelIdeal.τ) (Cert.AdaBKernelIdeal.main (F := Ideal))) ⟨m, fun _ => 0, g⟩ (fun r => (∀ c : Dev Cert.AdaBKernelIdeal.nD,
      r.2.mem ((c.tc : Thread Cert.AdaBKernelIdeal.nD Cert.AdaBKernelIdeal.τ).loc Cert.AdaBKernelIdeal.main_arg0) = m ((c.tc : Thread Cert.AdaBKernelIdeal.nD Cert.AdaBKernelIdeal.τ).loc Cert.AdaBKernelIdeal.main_arg0)
      ∧ r.2.mem ((c.tc : Thread Cert.AdaBKernelIdeal.nD Cert.AdaBKernelIdeal.τ).loc Cert.AdaBKernelIdeal.main_arg1) = m ((c.tc : Thread Cert.AdaBKernelIdeal.nD Cert.AdaBKernelIdeal.τ).loc Cert.AdaBKernelIdeal.main_arg1)
      ∧ r.2.mem ((c.tc : Thread Cert.AdaBKernelIdeal.nD Cert.AdaBKernelIdeal.τ).loc Cert.AdaBKernelIdeal.main_arg2) = m ((c.tc : Thread Cert.AdaBKernelIdeal.nD Cert.AdaBKernelIdeal.τ).loc Cert.AdaBKernelIdeal.main_arg2)
      ∧ r.2.mem ((c.tc : Thread Cert.AdaBKernelIdeal.nD Cert.AdaBKernelIdeal.τ).loc Cert.AdaBKernelIdeal.main_arg3) = m ((c.tc : Thread Cert.AdaBKernelIdeal.nD Cert.AdaBKernelIdeal.τ).loc Cert.AdaBKernelIdeal.main_arg3))
      ∧ r.2.sem = fun _ => 0)

def quiescent_AdaBReferenceIdeal [hAdaBReferenceIdeal : Cert.AdaBReferenceIdeal.Facts] : Prop :=
  ∀ (m : (ℓ : Loc Cert.AdaBReferenceIdeal.nD Cert.AdaBReferenceIdeal.τ Cert.AdaBReferenceIdeal.sig) → Buf (Elt Ideal) ℓ) (g : Dev Cert.AdaBReferenceIdeal.nD → PrngReg), Pre_AdaBReferenceIdeal m →
    θ_run (Cert.AdaBReferenceIdeal.defs (F := Ideal)) (onTc (τ := Cert.AdaBReferenceIdeal.τ) (Cert.AdaBReferenceIdeal.main (F := Ideal))) ⟨m, fun _ => 0, g⟩ (fun r => (∀ c : Dev Cert.AdaBReferenceIdeal.nD,
      r.2.mem ((c.tc : Thread Cert.AdaBReferenceIdeal.nD Cert.AdaBReferenceIdeal.τ).loc Cert.AdaBReferenceIdeal.main_arg0) = m ((c.tc : Thread Cert.AdaBReferenceIdeal.nD Cert.AdaBReferenceIdeal.τ).loc Cert.AdaBReferenceIdeal.main_arg0)
      ∧ r.2.mem ((c.tc : Thread Cert.AdaBReferenceIdeal.nD Cert.AdaBReferenceIdeal.τ).loc Cert.AdaBReferenceIdeal.main_arg1) = m ((c.tc : Thread Cert.AdaBReferenceIdeal.nD Cert.AdaBReferenceIdeal.τ).loc Cert.AdaBReferenceIdeal.main_arg1)
      ∧ r.2.mem ((c.tc : Thread Cert.AdaBReferenceIdeal.nD Cert.AdaBReferenceIdeal.τ).loc Cert.AdaBReferenceIdeal.main_arg2) = m ((c.tc : Thread Cert.AdaBReferenceIdeal.nD Cert.AdaBReferenceIdeal.τ).loc Cert.AdaBReferenceIdeal.main_arg2)
      ∧ r.2.mem ((c.tc : Thread Cert.AdaBReferenceIdeal.nD Cert.AdaBReferenceIdeal.τ).loc Cert.AdaBReferenceIdeal.main_arg3) = m ((c.tc : Thread Cert.AdaBReferenceIdeal.nD Cert.AdaBReferenceIdeal.τ).loc Cert.AdaBReferenceIdeal.main_arg3))
      ∧ r.2.sem = fun _ => 0)

def quiescent_AdaNormKernel [hAdaNormKernel : Cert.AdaNormKernel.Facts] : Prop :=
  ∀ (m : (ℓ : Loc Cert.AdaNormKernel.nD Cert.AdaNormKernel.τ Cert.AdaNormKernel.sig) → Buf (Elt Bits) ℓ) (g : Dev Cert.AdaNormKernel.nD → PrngReg), Pre_AdaNormKernel m →
    θ_run (Cert.AdaNormKernel.defs (F := Bits)) (onTc (τ := Cert.AdaNormKernel.τ) (Cert.AdaNormKernel.main (F := Bits))) ⟨m, fun _ => 0, g⟩ (fun r => (∀ c : Dev Cert.AdaNormKernel.nD,
      r.2.mem ((c.tc : Thread Cert.AdaNormKernel.nD Cert.AdaNormKernel.τ).loc Cert.AdaNormKernel.main_arg0) = m ((c.tc : Thread Cert.AdaNormKernel.nD Cert.AdaNormKernel.τ).loc Cert.AdaNormKernel.main_arg0)
      ∧ r.2.mem ((c.tc : Thread Cert.AdaNormKernel.nD Cert.AdaNormKernel.τ).loc Cert.AdaNormKernel.main_arg1) = m ((c.tc : Thread Cert.AdaNormKernel.nD Cert.AdaNormKernel.τ).loc Cert.AdaNormKernel.main_arg1)
      ∧ r.2.mem ((c.tc : Thread Cert.AdaNormKernel.nD Cert.AdaNormKernel.τ).loc Cert.AdaNormKernel.main_arg2) = m ((c.tc : Thread Cert.AdaNormKernel.nD Cert.AdaNormKernel.τ).loc Cert.AdaNormKernel.main_arg2)
      ∧ r.2.mem ((c.tc : Thread Cert.AdaNormKernel.nD Cert.AdaNormKernel.τ).loc Cert.AdaNormKernel.main_arg3) = m ((c.tc : Thread Cert.AdaNormKernel.nD Cert.AdaNormKernel.τ).loc Cert.AdaNormKernel.main_arg3))
      ∧ r.2.sem = fun _ => 0)

def quiescent_AdaNormKernelIdeal [hAdaNormKernelIdeal : Cert.AdaNormKernelIdeal.Facts] : Prop :=
  ∀ (m : (ℓ : Loc Cert.AdaNormKernelIdeal.nD Cert.AdaNormKernelIdeal.τ Cert.AdaNormKernelIdeal.sig) → Buf (Elt Ideal) ℓ) (g : Dev Cert.AdaNormKernelIdeal.nD → PrngReg), Pre_AdaNormKernelIdeal m →
    θ_run (Cert.AdaNormKernelIdeal.defs (F := Ideal)) (onTc (τ := Cert.AdaNormKernelIdeal.τ) (Cert.AdaNormKernelIdeal.main (F := Ideal))) ⟨m, fun _ => 0, g⟩ (fun r => (∀ c : Dev Cert.AdaNormKernelIdeal.nD,
      r.2.mem ((c.tc : Thread Cert.AdaNormKernelIdeal.nD Cert.AdaNormKernelIdeal.τ).loc Cert.AdaNormKernelIdeal.main_arg0) = m ((c.tc : Thread Cert.AdaNormKernelIdeal.nD Cert.AdaNormKernelIdeal.τ).loc Cert.AdaNormKernelIdeal.main_arg0)
      ∧ r.2.mem ((c.tc : Thread Cert.AdaNormKernelIdeal.nD Cert.AdaNormKernelIdeal.τ).loc Cert.AdaNormKernelIdeal.main_arg1) = m ((c.tc : Thread Cert.AdaNormKernelIdeal.nD Cert.AdaNormKernelIdeal.τ).loc Cert.AdaNormKernelIdeal.main_arg1)
      ∧ r.2.mem ((c.tc : Thread Cert.AdaNormKernelIdeal.nD Cert.AdaNormKernelIdeal.τ).loc Cert.AdaNormKernelIdeal.main_arg2) = m ((c.tc : Thread Cert.AdaNormKernelIdeal.nD Cert.AdaNormKernelIdeal.τ).loc Cert.AdaNormKernelIdeal.main_arg2)
      ∧ r.2.mem ((c.tc : Thread Cert.AdaNormKernelIdeal.nD Cert.AdaNormKernelIdeal.τ).loc Cert.AdaNormKernelIdeal.main_arg3) = m ((c.tc : Thread Cert.AdaNormKernelIdeal.nD Cert.AdaNormKernelIdeal.τ).loc Cert.AdaNormKernelIdeal.main_arg3))
      ∧ r.2.sem = fun _ => 0)

def quiescent_AdaNormReferenceIdeal [hAdaNormReferenceIdeal : Cert.AdaNormReferenceIdeal.Facts] : Prop :=
  ∀ (m : (ℓ : Loc Cert.AdaNormReferenceIdeal.nD Cert.AdaNormReferenceIdeal.τ Cert.AdaNormReferenceIdeal.sig) → Buf (Elt Ideal) ℓ) (g : Dev Cert.AdaNormReferenceIdeal.nD → PrngReg), Pre_AdaNormReferenceIdeal m →
    θ_run (Cert.AdaNormReferenceIdeal.defs (F := Ideal)) (onTc (τ := Cert.AdaNormReferenceIdeal.τ) (Cert.AdaNormReferenceIdeal.main (F := Ideal))) ⟨m, fun _ => 0, g⟩ (fun r => (∀ c : Dev Cert.AdaNormReferenceIdeal.nD,
      r.2.mem ((c.tc : Thread Cert.AdaNormReferenceIdeal.nD Cert.AdaNormReferenceIdeal.τ).loc Cert.AdaNormReferenceIdeal.main_arg0) = m ((c.tc : Thread Cert.AdaNormReferenceIdeal.nD Cert.AdaNormReferenceIdeal.τ).loc Cert.AdaNormReferenceIdeal.main_arg0)
      ∧ r.2.mem ((c.tc : Thread Cert.AdaNormReferenceIdeal.nD Cert.AdaNormReferenceIdeal.τ).loc Cert.AdaNormReferenceIdeal.main_arg1) = m ((c.tc : Thread Cert.AdaNormReferenceIdeal.nD Cert.AdaNormReferenceIdeal.τ).loc Cert.AdaNormReferenceIdeal.main_arg1)
      ∧ r.2.mem ((c.tc : Thread Cert.AdaNormReferenceIdeal.nD Cert.AdaNormReferenceIdeal.τ).loc Cert.AdaNormReferenceIdeal.main_arg2) = m ((c.tc : Thread Cert.AdaNormReferenceIdeal.nD Cert.AdaNormReferenceIdeal.τ).loc Cert.AdaNormReferenceIdeal.main_arg2)
      ∧ r.2.mem ((c.tc : Thread Cert.AdaNormReferenceIdeal.nD Cert.AdaNormReferenceIdeal.τ).loc Cert.AdaNormReferenceIdeal.main_arg3) = m ((c.tc : Thread Cert.AdaNormReferenceIdeal.nD Cert.AdaNormReferenceIdeal.τ).loc Cert.AdaNormReferenceIdeal.main_arg3))
      ∧ r.2.sem = fun _ => 0)

def quiescent_AdaConvKernel [hAdaConvKernel : Cert.AdaConvKernel.Facts] : Prop :=
  ∀ (m : (ℓ : Loc Cert.AdaConvKernel.nD Cert.AdaConvKernel.τ Cert.AdaConvKernel.sig) → Buf (Elt Bits) ℓ) (g : Dev Cert.AdaConvKernel.nD → PrngReg), Pre_AdaConvKernel m →
    θ_run (Cert.AdaConvKernel.defs (F := Bits)) (onTc (τ := Cert.AdaConvKernel.τ) (Cert.AdaConvKernel.main (F := Bits))) ⟨m, fun _ => 0, g⟩ (fun r => (∀ c : Dev Cert.AdaConvKernel.nD,
      r.2.mem ((c.tc : Thread Cert.AdaConvKernel.nD Cert.AdaConvKernel.τ).loc Cert.AdaConvKernel.main_arg0) = m ((c.tc : Thread Cert.AdaConvKernel.nD Cert.AdaConvKernel.τ).loc Cert.AdaConvKernel.main_arg0)
      ∧ r.2.mem ((c.tc : Thread Cert.AdaConvKernel.nD Cert.AdaConvKernel.τ).loc Cert.AdaConvKernel.main_arg1) = m ((c.tc : Thread Cert.AdaConvKernel.nD Cert.AdaConvKernel.τ).loc Cert.AdaConvKernel.main_arg1)
      ∧ r.2.mem ((c.tc : Thread Cert.AdaConvKernel.nD Cert.AdaConvKernel.τ).loc Cert.AdaConvKernel.main_arg2) = m ((c.tc : Thread Cert.AdaConvKernel.nD Cert.AdaConvKernel.τ).loc Cert.AdaConvKernel.main_arg2)
      ∧ r.2.mem ((c.tc : Thread Cert.AdaConvKernel.nD Cert.AdaConvKernel.τ).loc Cert.AdaConvKernel.main_arg3) = m ((c.tc : Thread Cert.AdaConvKernel.nD Cert.AdaConvKernel.τ).loc Cert.AdaConvKernel.main_arg3))
      ∧ r.2.sem = fun _ => 0)

def quiescent_AdaConvKernelIdeal [hAdaConvKernelIdeal : Cert.AdaConvKernelIdeal.Facts] : Prop :=
  ∀ (m : (ℓ : Loc Cert.AdaConvKernelIdeal.nD Cert.AdaConvKernelIdeal.τ Cert.AdaConvKernelIdeal.sig) → Buf (Elt Ideal) ℓ) (g : Dev Cert.AdaConvKernelIdeal.nD → PrngReg), Pre_AdaConvKernelIdeal m →
    θ_run (Cert.AdaConvKernelIdeal.defs (F := Ideal)) (onTc (τ := Cert.AdaConvKernelIdeal.τ) (Cert.AdaConvKernelIdeal.main (F := Ideal))) ⟨m, fun _ => 0, g⟩ (fun r => (∀ c : Dev Cert.AdaConvKernelIdeal.nD,
      r.2.mem ((c.tc : Thread Cert.AdaConvKernelIdeal.nD Cert.AdaConvKernelIdeal.τ).loc Cert.AdaConvKernelIdeal.main_arg0) = m ((c.tc : Thread Cert.AdaConvKernelIdeal.nD Cert.AdaConvKernelIdeal.τ).loc Cert.AdaConvKernelIdeal.main_arg0)
      ∧ r.2.mem ((c.tc : Thread Cert.AdaConvKernelIdeal.nD Cert.AdaConvKernelIdeal.τ).loc Cert.AdaConvKernelIdeal.main_arg1) = m ((c.tc : Thread Cert.AdaConvKernelIdeal.nD Cert.AdaConvKernelIdeal.τ).loc Cert.AdaConvKernelIdeal.main_arg1)
      ∧ r.2.mem ((c.tc : Thread Cert.AdaConvKernelIdeal.nD Cert.AdaConvKernelIdeal.τ).loc Cert.AdaConvKernelIdeal.main_arg2) = m ((c.tc : Thread Cert.AdaConvKernelIdeal.nD Cert.AdaConvKernelIdeal.τ).loc Cert.AdaConvKernelIdeal.main_arg2)
      ∧ r.2.mem ((c.tc : Thread Cert.AdaConvKernelIdeal.nD Cert.AdaConvKernelIdeal.τ).loc Cert.AdaConvKernelIdeal.main_arg3) = m ((c.tc : Thread Cert.AdaConvKernelIdeal.nD Cert.AdaConvKernelIdeal.τ).loc Cert.AdaConvKernelIdeal.main_arg3))
      ∧ r.2.sem = fun _ => 0)

def quiescent_AdaConvReferenceIdeal [hAdaConvReferenceIdeal : Cert.AdaConvReferenceIdeal.Facts] : Prop :=
  ∀ (m : (ℓ : Loc Cert.AdaConvReferenceIdeal.nD Cert.AdaConvReferenceIdeal.τ Cert.AdaConvReferenceIdeal.sig) → Buf (Elt Ideal) ℓ) (g : Dev Cert.AdaConvReferenceIdeal.nD → PrngReg), Pre_AdaConvReferenceIdeal m →
    θ_run (Cert.AdaConvReferenceIdeal.defs (F := Ideal)) (onTc (τ := Cert.AdaConvReferenceIdeal.τ) (Cert.AdaConvReferenceIdeal.main (F := Ideal))) ⟨m, fun _ => 0, g⟩ (fun r => (∀ c : Dev Cert.AdaConvReferenceIdeal.nD,
      r.2.mem ((c.tc : Thread Cert.AdaConvReferenceIdeal.nD Cert.AdaConvReferenceIdeal.τ).loc Cert.AdaConvReferenceIdeal.main_arg0) = m ((c.tc : Thread Cert.AdaConvReferenceIdeal.nD Cert.AdaConvReferenceIdeal.τ).loc Cert.AdaConvReferenceIdeal.main_arg0)
      ∧ r.2.mem ((c.tc : Thread Cert.AdaConvReferenceIdeal.nD Cert.AdaConvReferenceIdeal.τ).loc Cert.AdaConvReferenceIdeal.main_arg1) = m ((c.tc : Thread Cert.AdaConvReferenceIdeal.nD Cert.AdaConvReferenceIdeal.τ).loc Cert.AdaConvReferenceIdeal.main_arg1)
      ∧ r.2.mem ((c.tc : Thread Cert.AdaConvReferenceIdeal.nD Cert.AdaConvReferenceIdeal.τ).loc Cert.AdaConvReferenceIdeal.main_arg2) = m ((c.tc : Thread Cert.AdaConvReferenceIdeal.nD Cert.AdaConvReferenceIdeal.τ).loc Cert.AdaConvReferenceIdeal.main_arg2)
      ∧ r.2.mem ((c.tc : Thread Cert.AdaConvReferenceIdeal.nD Cert.AdaConvReferenceIdeal.τ).loc Cert.AdaConvReferenceIdeal.main_arg3) = m ((c.tc : Thread Cert.AdaConvReferenceIdeal.nD Cert.AdaConvReferenceIdeal.τ).loc Cert.AdaConvReferenceIdeal.main_arg3))
      ∧ r.2.sem = fun _ => 0)

def quiescent_AdaQkKernel [hAdaQkKernel : Cert.AdaQkKernel.Facts] : Prop :=
  ∀ (m : (ℓ : Loc Cert.AdaQkKernel.nD Cert.AdaQkKernel.τ Cert.AdaQkKernel.sig) → Buf (Elt Bits) ℓ) (g : Dev Cert.AdaQkKernel.nD → PrngReg), Pre_AdaQkKernel m →
    θ_run (Cert.AdaQkKernel.defs (F := Bits)) (onTc (τ := Cert.AdaQkKernel.τ) (Cert.AdaQkKernel.main (F := Bits))) ⟨m, fun _ => 0, g⟩ (fun r => (∀ c : Dev Cert.AdaQkKernel.nD,
      r.2.mem ((c.tc : Thread Cert.AdaQkKernel.nD Cert.AdaQkKernel.τ).loc Cert.AdaQkKernel.main_arg0) = m ((c.tc : Thread Cert.AdaQkKernel.nD Cert.AdaQkKernel.τ).loc Cert.AdaQkKernel.main_arg0)
      ∧ r.2.mem ((c.tc : Thread Cert.AdaQkKernel.nD Cert.AdaQkKernel.τ).loc Cert.AdaQkKernel.main_arg1) = m ((c.tc : Thread Cert.AdaQkKernel.nD Cert.AdaQkKernel.τ).loc Cert.AdaQkKernel.main_arg1)
      ∧ r.2.mem ((c.tc : Thread Cert.AdaQkKernel.nD Cert.AdaQkKernel.τ).loc Cert.AdaQkKernel.main_arg2) = m ((c.tc : Thread Cert.AdaQkKernel.nD Cert.AdaQkKernel.τ).loc Cert.AdaQkKernel.main_arg2)
      ∧ r.2.mem ((c.tc : Thread Cert.AdaQkKernel.nD Cert.AdaQkKernel.τ).loc Cert.AdaQkKernel.main_arg3) = m ((c.tc : Thread Cert.AdaQkKernel.nD Cert.AdaQkKernel.τ).loc Cert.AdaQkKernel.main_arg3))
      ∧ r.2.sem = fun _ => 0)

def quiescent_AdaQkKernelIdeal [hAdaQkKernelIdeal : Cert.AdaQkKernelIdeal.Facts] : Prop :=
  ∀ (m : (ℓ : Loc Cert.AdaQkKernelIdeal.nD Cert.AdaQkKernelIdeal.τ Cert.AdaQkKernelIdeal.sig) → Buf (Elt Ideal) ℓ) (g : Dev Cert.AdaQkKernelIdeal.nD → PrngReg), Pre_AdaQkKernelIdeal m →
    θ_run (Cert.AdaQkKernelIdeal.defs (F := Ideal)) (onTc (τ := Cert.AdaQkKernelIdeal.τ) (Cert.AdaQkKernelIdeal.main (F := Ideal))) ⟨m, fun _ => 0, g⟩ (fun r => (∀ c : Dev Cert.AdaQkKernelIdeal.nD,
      r.2.mem ((c.tc : Thread Cert.AdaQkKernelIdeal.nD Cert.AdaQkKernelIdeal.τ).loc Cert.AdaQkKernelIdeal.main_arg0) = m ((c.tc : Thread Cert.AdaQkKernelIdeal.nD Cert.AdaQkKernelIdeal.τ).loc Cert.AdaQkKernelIdeal.main_arg0)
      ∧ r.2.mem ((c.tc : Thread Cert.AdaQkKernelIdeal.nD Cert.AdaQkKernelIdeal.τ).loc Cert.AdaQkKernelIdeal.main_arg1) = m ((c.tc : Thread Cert.AdaQkKernelIdeal.nD Cert.AdaQkKernelIdeal.τ).loc Cert.AdaQkKernelIdeal.main_arg1)
      ∧ r.2.mem ((c.tc : Thread Cert.AdaQkKernelIdeal.nD Cert.AdaQkKernelIdeal.τ).loc Cert.AdaQkKernelIdeal.main_arg2) = m ((c.tc : Thread Cert.AdaQkKernelIdeal.nD Cert.AdaQkKernelIdeal.τ).loc Cert.AdaQkKernelIdeal.main_arg2)
      ∧ r.2.mem ((c.tc : Thread Cert.AdaQkKernelIdeal.nD Cert.AdaQkKernelIdeal.τ).loc Cert.AdaQkKernelIdeal.main_arg3) = m ((c.tc : Thread Cert.AdaQkKernelIdeal.nD Cert.AdaQkKernelIdeal.τ).loc Cert.AdaQkKernelIdeal.main_arg3))
      ∧ r.2.sem = fun _ => 0)

def quiescent_AdaQkReferenceIdeal [hAdaQkReferenceIdeal : Cert.AdaQkReferenceIdeal.Facts] : Prop :=
  ∀ (m : (ℓ : Loc Cert.AdaQkReferenceIdeal.nD Cert.AdaQkReferenceIdeal.τ Cert.AdaQkReferenceIdeal.sig) → Buf (Elt Ideal) ℓ) (g : Dev Cert.AdaQkReferenceIdeal.nD → PrngReg), Pre_AdaQkReferenceIdeal m →
    θ_run (Cert.AdaQkReferenceIdeal.defs (F := Ideal)) (onTc (τ := Cert.AdaQkReferenceIdeal.τ) (Cert.AdaQkReferenceIdeal.main (F := Ideal))) ⟨m, fun _ => 0, g⟩ (fun r => (∀ c : Dev Cert.AdaQkReferenceIdeal.nD,
      r.2.mem ((c.tc : Thread Cert.AdaQkReferenceIdeal.nD Cert.AdaQkReferenceIdeal.τ).loc Cert.AdaQkReferenceIdeal.main_arg0) = m ((c.tc : Thread Cert.AdaQkReferenceIdeal.nD Cert.AdaQkReferenceIdeal.τ).loc Cert.AdaQkReferenceIdeal.main_arg0)
      ∧ r.2.mem ((c.tc : Thread Cert.AdaQkReferenceIdeal.nD Cert.AdaQkReferenceIdeal.τ).loc Cert.AdaQkReferenceIdeal.main_arg1) = m ((c.tc : Thread Cert.AdaQkReferenceIdeal.nD Cert.AdaQkReferenceIdeal.τ).loc Cert.AdaQkReferenceIdeal.main_arg1)
      ∧ r.2.mem ((c.tc : Thread Cert.AdaQkReferenceIdeal.nD Cert.AdaQkReferenceIdeal.τ).loc Cert.AdaQkReferenceIdeal.main_arg2) = m ((c.tc : Thread Cert.AdaQkReferenceIdeal.nD Cert.AdaQkReferenceIdeal.τ).loc Cert.AdaQkReferenceIdeal.main_arg2)
      ∧ r.2.mem ((c.tc : Thread Cert.AdaQkReferenceIdeal.nD Cert.AdaQkReferenceIdeal.τ).loc Cert.AdaQkReferenceIdeal.main_arg3) = m ((c.tc : Thread Cert.AdaQkReferenceIdeal.nD Cert.AdaQkReferenceIdeal.τ).loc Cert.AdaQkReferenceIdeal.main_arg3))
      ∧ r.2.sem = fun _ => 0)

def quiescent_AdaHeadKernel [hAdaHeadKernel : Cert.AdaHeadKernel.Facts] : Prop :=
  ∀ (m : (ℓ : Loc Cert.AdaHeadKernel.nD Cert.AdaHeadKernel.τ Cert.AdaHeadKernel.sig) → Buf (Elt Bits) ℓ) (g : Dev Cert.AdaHeadKernel.nD → PrngReg), Pre_AdaHeadKernel m →
    θ_run (Cert.AdaHeadKernel.defs (F := Bits)) (onTc (τ := Cert.AdaHeadKernel.τ) (Cert.AdaHeadKernel.main (F := Bits))) ⟨m, fun _ => 0, g⟩ (fun r => (∀ c : Dev Cert.AdaHeadKernel.nD,
      r.2.mem ((c.tc : Thread Cert.AdaHeadKernel.nD Cert.AdaHeadKernel.τ).loc Cert.AdaHeadKernel.main_arg0) = m ((c.tc : Thread Cert.AdaHeadKernel.nD Cert.AdaHeadKernel.τ).loc Cert.AdaHeadKernel.main_arg0)
      ∧ r.2.mem ((c.tc : Thread Cert.AdaHeadKernel.nD Cert.AdaHeadKernel.τ).loc Cert.AdaHeadKernel.main_arg1) = m ((c.tc : Thread Cert.AdaHeadKernel.nD Cert.AdaHeadKernel.τ).loc Cert.AdaHeadKernel.main_arg1)
      ∧ r.2.mem ((c.tc : Thread Cert.AdaHeadKernel.nD Cert.AdaHeadKernel.τ).loc Cert.AdaHeadKernel.main_arg2) = m ((c.tc : Thread Cert.AdaHeadKernel.nD Cert.AdaHeadKernel.τ).loc Cert.AdaHeadKernel.main_arg2)
      ∧ r.2.mem ((c.tc : Thread Cert.AdaHeadKernel.nD Cert.AdaHeadKernel.τ).loc Cert.AdaHeadKernel.main_arg3) = m ((c.tc : Thread Cert.AdaHeadKernel.nD Cert.AdaHeadKernel.τ).loc Cert.AdaHeadKernel.main_arg3))
      ∧ r.2.sem = fun _ => 0)

def quiescent_AdaHeadKernelIdeal [hAdaHeadKernelIdeal : Cert.AdaHeadKernelIdeal.Facts] : Prop :=
  ∀ (m : (ℓ : Loc Cert.AdaHeadKernelIdeal.nD Cert.AdaHeadKernelIdeal.τ Cert.AdaHeadKernelIdeal.sig) → Buf (Elt Ideal) ℓ) (g : Dev Cert.AdaHeadKernelIdeal.nD → PrngReg), Pre_AdaHeadKernelIdeal m →
    θ_run (Cert.AdaHeadKernelIdeal.defs (F := Ideal)) (onTc (τ := Cert.AdaHeadKernelIdeal.τ) (Cert.AdaHeadKernelIdeal.main (F := Ideal))) ⟨m, fun _ => 0, g⟩ (fun r => (∀ c : Dev Cert.AdaHeadKernelIdeal.nD,
      r.2.mem ((c.tc : Thread Cert.AdaHeadKernelIdeal.nD Cert.AdaHeadKernelIdeal.τ).loc Cert.AdaHeadKernelIdeal.main_arg0) = m ((c.tc : Thread Cert.AdaHeadKernelIdeal.nD Cert.AdaHeadKernelIdeal.τ).loc Cert.AdaHeadKernelIdeal.main_arg0)
      ∧ r.2.mem ((c.tc : Thread Cert.AdaHeadKernelIdeal.nD Cert.AdaHeadKernelIdeal.τ).loc Cert.AdaHeadKernelIdeal.main_arg1) = m ((c.tc : Thread Cert.AdaHeadKernelIdeal.nD Cert.AdaHeadKernelIdeal.τ).loc Cert.AdaHeadKernelIdeal.main_arg1)
      ∧ r.2.mem ((c.tc : Thread Cert.AdaHeadKernelIdeal.nD Cert.AdaHeadKernelIdeal.τ).loc Cert.AdaHeadKernelIdeal.main_arg2) = m ((c.tc : Thread Cert.AdaHeadKernelIdeal.nD Cert.AdaHeadKernelIdeal.τ).loc Cert.AdaHeadKernelIdeal.main_arg2)
      ∧ r.2.mem ((c.tc : Thread Cert.AdaHeadKernelIdeal.nD Cert.AdaHeadKernelIdeal.τ).loc Cert.AdaHeadKernelIdeal.main_arg3) = m ((c.tc : Thread Cert.AdaHeadKernelIdeal.nD Cert.AdaHeadKernelIdeal.τ).loc Cert.AdaHeadKernelIdeal.main_arg3))
      ∧ r.2.sem = fun _ => 0)

def quiescent_AdaHeadReferenceIdeal [hAdaHeadReferenceIdeal : Cert.AdaHeadReferenceIdeal.Facts] : Prop :=
  ∀ (m : (ℓ : Loc Cert.AdaHeadReferenceIdeal.nD Cert.AdaHeadReferenceIdeal.τ Cert.AdaHeadReferenceIdeal.sig) → Buf (Elt Ideal) ℓ) (g : Dev Cert.AdaHeadReferenceIdeal.nD → PrngReg), Pre_AdaHeadReferenceIdeal m →
    θ_run (Cert.AdaHeadReferenceIdeal.defs (F := Ideal)) (onTc (τ := Cert.AdaHeadReferenceIdeal.τ) (Cert.AdaHeadReferenceIdeal.main (F := Ideal))) ⟨m, fun _ => 0, g⟩ (fun r => (∀ c : Dev Cert.AdaHeadReferenceIdeal.nD,
      r.2.mem ((c.tc : Thread Cert.AdaHeadReferenceIdeal.nD Cert.AdaHeadReferenceIdeal.τ).loc Cert.AdaHeadReferenceIdeal.main_arg0) = m ((c.tc : Thread Cert.AdaHeadReferenceIdeal.nD Cert.AdaHeadReferenceIdeal.τ).loc Cert.AdaHeadReferenceIdeal.main_arg0)
      ∧ r.2.mem ((c.tc : Thread Cert.AdaHeadReferenceIdeal.nD Cert.AdaHeadReferenceIdeal.τ).loc Cert.AdaHeadReferenceIdeal.main_arg1) = m ((c.tc : Thread Cert.AdaHeadReferenceIdeal.nD Cert.AdaHeadReferenceIdeal.τ).loc Cert.AdaHeadReferenceIdeal.main_arg1)
      ∧ r.2.mem ((c.tc : Thread Cert.AdaHeadReferenceIdeal.nD Cert.AdaHeadReferenceIdeal.τ).loc Cert.AdaHeadReferenceIdeal.main_arg2) = m ((c.tc : Thread Cert.AdaHeadReferenceIdeal.nD Cert.AdaHeadReferenceIdeal.τ).loc Cert.AdaHeadReferenceIdeal.main_arg2)
      ∧ r.2.mem ((c.tc : Thread Cert.AdaHeadReferenceIdeal.nD Cert.AdaHeadReferenceIdeal.τ).loc Cert.AdaHeadReferenceIdeal.main_arg3) = m ((c.tc : Thread Cert.AdaHeadReferenceIdeal.nD Cert.AdaHeadReferenceIdeal.τ).loc Cert.AdaHeadReferenceIdeal.main_arg3))
      ∧ r.2.sem = fun _ => 0)

def quiescent_AdaDnKernel [hAdaDnKernel : Cert.AdaDnKernel.Facts] : Prop :=
  ∀ (m : (ℓ : Loc Cert.AdaDnKernel.nD Cert.AdaDnKernel.τ Cert.AdaDnKernel.sig) → Buf (Elt Bits) ℓ) (g : Dev Cert.AdaDnKernel.nD → PrngReg), Pre_AdaDnKernel m →
    θ_run (Cert.AdaDnKernel.defs (F := Bits)) (onTc (τ := Cert.AdaDnKernel.τ) (Cert.AdaDnKernel.main (F := Bits))) ⟨m, fun _ => 0, g⟩ (fun r => (∀ c : Dev Cert.AdaDnKernel.nD,
      r.2.mem ((c.tc : Thread Cert.AdaDnKernel.nD Cert.AdaDnKernel.τ).loc Cert.AdaDnKernel.main_arg0) = m ((c.tc : Thread Cert.AdaDnKernel.nD Cert.AdaDnKernel.τ).loc Cert.AdaDnKernel.main_arg0)
      ∧ r.2.mem ((c.tc : Thread Cert.AdaDnKernel.nD Cert.AdaDnKernel.τ).loc Cert.AdaDnKernel.main_arg1) = m ((c.tc : Thread Cert.AdaDnKernel.nD Cert.AdaDnKernel.τ).loc Cert.AdaDnKernel.main_arg1)
      ∧ r.2.mem ((c.tc : Thread Cert.AdaDnKernel.nD Cert.AdaDnKernel.τ).loc Cert.AdaDnKernel.main_arg2) = m ((c.tc : Thread Cert.AdaDnKernel.nD Cert.AdaDnKernel.τ).loc Cert.AdaDnKernel.main_arg2)
      ∧ r.2.mem ((c.tc : Thread Cert.AdaDnKernel.nD Cert.AdaDnKernel.τ).loc Cert.AdaDnKernel.main_arg3) = m ((c.tc : Thread Cert.AdaDnKernel.nD Cert.AdaDnKernel.τ).loc Cert.AdaDnKernel.main_arg3))
      ∧ r.2.sem = fun _ => 0)

def quiescent_AdaDnKernelIdeal [hAdaDnKernelIdeal : Cert.AdaDnKernelIdeal.Facts] : Prop :=
  ∀ (m : (ℓ : Loc Cert.AdaDnKernelIdeal.nD Cert.AdaDnKernelIdeal.τ Cert.AdaDnKernelIdeal.sig) → Buf (Elt Ideal) ℓ) (g : Dev Cert.AdaDnKernelIdeal.nD → PrngReg), Pre_AdaDnKernelIdeal m →
    θ_run (Cert.AdaDnKernelIdeal.defs (F := Ideal)) (onTc (τ := Cert.AdaDnKernelIdeal.τ) (Cert.AdaDnKernelIdeal.main (F := Ideal))) ⟨m, fun _ => 0, g⟩ (fun r => (∀ c : Dev Cert.AdaDnKernelIdeal.nD,
      r.2.mem ((c.tc : Thread Cert.AdaDnKernelIdeal.nD Cert.AdaDnKernelIdeal.τ).loc Cert.AdaDnKernelIdeal.main_arg0) = m ((c.tc : Thread Cert.AdaDnKernelIdeal.nD Cert.AdaDnKernelIdeal.τ).loc Cert.AdaDnKernelIdeal.main_arg0)
      ∧ r.2.mem ((c.tc : Thread Cert.AdaDnKernelIdeal.nD Cert.AdaDnKernelIdeal.τ).loc Cert.AdaDnKernelIdeal.main_arg1) = m ((c.tc : Thread Cert.AdaDnKernelIdeal.nD Cert.AdaDnKernelIdeal.τ).loc Cert.AdaDnKernelIdeal.main_arg1)
      ∧ r.2.mem ((c.tc : Thread Cert.AdaDnKernelIdeal.nD Cert.AdaDnKernelIdeal.τ).loc Cert.AdaDnKernelIdeal.main_arg2) = m ((c.tc : Thread Cert.AdaDnKernelIdeal.nD Cert.AdaDnKernelIdeal.τ).loc Cert.AdaDnKernelIdeal.main_arg2)
      ∧ r.2.mem ((c.tc : Thread Cert.AdaDnKernelIdeal.nD Cert.AdaDnKernelIdeal.τ).loc Cert.AdaDnKernelIdeal.main_arg3) = m ((c.tc : Thread Cert.AdaDnKernelIdeal.nD Cert.AdaDnKernelIdeal.τ).loc Cert.AdaDnKernelIdeal.main_arg3))
      ∧ r.2.sem = fun _ => 0)

def quiescent_AdaDnReferenceIdeal [hAdaDnReferenceIdeal : Cert.AdaDnReferenceIdeal.Facts] : Prop :=
  ∀ (m : (ℓ : Loc Cert.AdaDnReferenceIdeal.nD Cert.AdaDnReferenceIdeal.τ Cert.AdaDnReferenceIdeal.sig) → Buf (Elt Ideal) ℓ) (g : Dev Cert.AdaDnReferenceIdeal.nD → PrngReg), Pre_AdaDnReferenceIdeal m →
    θ_run (Cert.AdaDnReferenceIdeal.defs (F := Ideal)) (onTc (τ := Cert.AdaDnReferenceIdeal.τ) (Cert.AdaDnReferenceIdeal.main (F := Ideal))) ⟨m, fun _ => 0, g⟩ (fun r => (∀ c : Dev Cert.AdaDnReferenceIdeal.nD,
      r.2.mem ((c.tc : Thread Cert.AdaDnReferenceIdeal.nD Cert.AdaDnReferenceIdeal.τ).loc Cert.AdaDnReferenceIdeal.main_arg0) = m ((c.tc : Thread Cert.AdaDnReferenceIdeal.nD Cert.AdaDnReferenceIdeal.τ).loc Cert.AdaDnReferenceIdeal.main_arg0)
      ∧ r.2.mem ((c.tc : Thread Cert.AdaDnReferenceIdeal.nD Cert.AdaDnReferenceIdeal.τ).loc Cert.AdaDnReferenceIdeal.main_arg1) = m ((c.tc : Thread Cert.AdaDnReferenceIdeal.nD Cert.AdaDnReferenceIdeal.τ).loc Cert.AdaDnReferenceIdeal.main_arg1)
      ∧ r.2.mem ((c.tc : Thread Cert.AdaDnReferenceIdeal.nD Cert.AdaDnReferenceIdeal.τ).loc Cert.AdaDnReferenceIdeal.main_arg2) = m ((c.tc : Thread Cert.AdaDnReferenceIdeal.nD Cert.AdaDnReferenceIdeal.τ).loc Cert.AdaDnReferenceIdeal.main_arg2)
      ∧ r.2.mem ((c.tc : Thread Cert.AdaDnReferenceIdeal.nD Cert.AdaDnReferenceIdeal.τ).loc Cert.AdaDnReferenceIdeal.main_arg3) = m ((c.tc : Thread Cert.AdaDnReferenceIdeal.nD Cert.AdaDnReferenceIdeal.τ).loc Cert.AdaDnReferenceIdeal.main_arg3))
      ∧ r.2.sem = fun _ => 0)

def preserves_Kernel_KernelIdeal : Prop :=
  True

def preserves_UpWgKernel_UpWgKernelIdeal : Prop :=
  True

def algebraic_UpWgKernelIdeal_UpWgReferenceIdeal [hUpWgKernelIdeal : Cert.UpWgKernelIdeal.Facts] [hUpWgReferenceIdeal : Cert.UpWgReferenceIdeal.Facts] : Prop :=
  ∀ (m : (ℓ : Loc Cert.UpWgKernelIdeal.nD Cert.UpWgKernelIdeal.τ Cert.UpWgKernelIdeal.sig) → Buf (Elt Ideal) ℓ) (g : Dev Cert.UpWgKernelIdeal.nD → PrngReg)
    (m' : (ℓ : Loc Cert.UpWgReferenceIdeal.nD Cert.UpWgReferenceIdeal.τ Cert.UpWgReferenceIdeal.sig) → Buf (Elt Ideal) ℓ) (g' : Dev Cert.UpWgReferenceIdeal.nD → PrngReg), Pre_UpWgKernelIdeal m →
    (∀ c : Dev Cert.UpWgKernelIdeal.nD,
      m' ((c.tc : Thread Cert.UpWgReferenceIdeal.nD Cert.UpWgReferenceIdeal.τ).loc Cert.UpWgReferenceIdeal.main_arg0) = m ((c.tc : Thread Cert.UpWgKernelIdeal.nD Cert.UpWgKernelIdeal.τ).loc Cert.UpWgKernelIdeal.main_arg0)
      ∧ m' ((c.tc : Thread Cert.UpWgReferenceIdeal.nD Cert.UpWgReferenceIdeal.τ).loc Cert.UpWgReferenceIdeal.main_arg1) = m ((c.tc : Thread Cert.UpWgKernelIdeal.nD Cert.UpWgKernelIdeal.τ).loc Cert.UpWgKernelIdeal.main_arg1)
      ∧ m' ((c.tc : Thread Cert.UpWgReferenceIdeal.nD Cert.UpWgReferenceIdeal.τ).loc Cert.UpWgReferenceIdeal.main_arg2) = m ((c.tc : Thread Cert.UpWgKernelIdeal.nD Cert.UpWgKernelIdeal.τ).loc Cert.UpWgKernelIdeal.main_arg2)
      ∧ m' ((c.tc : Thread Cert.UpWgReferenceIdeal.nD Cert.UpWgReferenceIdeal.τ).loc Cert.UpWgReferenceIdeal.main_arg3) = m ((c.tc : Thread Cert.UpWgKernelIdeal.nD Cert.UpWgKernelIdeal.τ).loc Cert.UpWgKernelIdeal.main_arg3)) →
    ∃ (v0 : (c : Dev Cert.UpWgKernelIdeal.nD) → Buf (Elt Ideal) ((c.tc : Thread Cert.UpWgKernelIdeal.nD Cert.UpWgKernelIdeal.τ).loc Cert.UpWgKernelIdeal.main_v9)),
      θ_run (Cert.UpWgKernelIdeal.defs (F := Ideal)) (onTc (τ := Cert.UpWgKernelIdeal.τ) (Cert.UpWgKernelIdeal.main (F := Ideal))) ⟨m, fun _ => 0, g⟩ (fun r => ∀ c : Dev Cert.UpWgKernelIdeal.nD,
          r.2.mem ((c.tc : Thread Cert.UpWgKernelIdeal.nD Cert.UpWgKernelIdeal.τ).loc Cert.UpWgKernelIdeal.main_v9) = v0 c
          ∧ r.2.mem ((c.tc : Thread Cert.UpWgKernelIdeal.nD Cert.UpWgKernelIdeal.τ).loc Cert.UpWgKernelIdeal.main_arg0) = m ((c.tc : Thread Cert.UpWgKernelIdeal.nD Cert.UpWgKernelIdeal.τ).loc Cert.UpWgKernelIdeal.main_arg0)
          ∧ r.2.mem ((c.tc : Thread Cert.UpWgKernelIdeal.nD Cert.UpWgKernelIdeal.τ).loc Cert.UpWgKernelIdeal.main_arg1) = m ((c.tc : Thread Cert.UpWgKernelIdeal.nD Cert.UpWgKernelIdeal.τ).loc Cert.UpWgKernelIdeal.main_arg1)
          ∧ r.2.mem ((c.tc : Thread Cert.UpWgKernelIdeal.nD Cert.UpWgKernelIdeal.τ).loc Cert.UpWgKernelIdeal.main_arg2) = m ((c.tc : Thread Cert.UpWgKernelIdeal.nD Cert.UpWgKernelIdeal.τ).loc Cert.UpWgKernelIdeal.main_arg2)
          ∧ r.2.mem ((c.tc : Thread Cert.UpWgKernelIdeal.nD Cert.UpWgKernelIdeal.τ).loc Cert.UpWgKernelIdeal.main_arg3) = m ((c.tc : Thread Cert.UpWgKernelIdeal.nD Cert.UpWgKernelIdeal.τ).loc Cert.UpWgKernelIdeal.main_arg3))
      ∧ θ_run (Cert.UpWgReferenceIdeal.defs (F := Ideal)) (onTc (τ := Cert.UpWgReferenceIdeal.τ) (Cert.UpWgReferenceIdeal.main (F := Ideal))) ⟨m', fun _ => 0, g'⟩ (fun r => ∀ c : Dev Cert.UpWgReferenceIdeal.nD,
          r.2.mem ((c.tc : Thread Cert.UpWgReferenceIdeal.nD Cert.UpWgReferenceIdeal.τ).loc Cert.UpWgReferenceIdeal.main_v12) = v0 c
          ∧ r.2.mem ((c.tc : Thread Cert.UpWgReferenceIdeal.nD Cert.UpWgReferenceIdeal.τ).loc Cert.UpWgReferenceIdeal.main_arg0) = m' ((c.tc : Thread Cert.UpWgReferenceIdeal.nD Cert.UpWgReferenceIdeal.τ).loc Cert.UpWgReferenceIdeal.main_arg0)
          ∧ r.2.mem ((c.tc : Thread Cert.UpWgReferenceIdeal.nD Cert.UpWgReferenceIdeal.τ).loc Cert.UpWgReferenceIdeal.main_arg1) = m' ((c.tc : Thread Cert.UpWgReferenceIdeal.nD Cert.UpWgReferenceIdeal.τ).loc Cert.UpWgReferenceIdeal.main_arg1)
          ∧ r.2.mem ((c.tc : Thread Cert.UpWgReferenceIdeal.nD Cert.UpWgReferenceIdeal.τ).loc Cert.UpWgReferenceIdeal.main_arg2) = m' ((c.tc : Thread Cert.UpWgReferenceIdeal.nD Cert.UpWgReferenceIdeal.τ).loc Cert.UpWgReferenceIdeal.main_arg2)
          ∧ r.2.mem ((c.tc : Thread Cert.UpWgReferenceIdeal.nD Cert.UpWgReferenceIdeal.τ).loc Cert.UpWgReferenceIdeal.main_arg3) = m' ((c.tc : Thread Cert.UpWgReferenceIdeal.nD Cert.UpWgReferenceIdeal.τ).loc Cert.UpWgReferenceIdeal.main_arg3))

def preserves_UpDgKernel_UpDgKernelIdeal : Prop :=
  True

def algebraic_UpDgKernelIdeal_UpDgReferenceIdeal [hUpDgKernelIdeal : Cert.UpDgKernelIdeal.Facts] [hUpDgReferenceIdeal : Cert.UpDgReferenceIdeal.Facts] : Prop :=
  ∀ (m : (ℓ : Loc Cert.UpDgKernelIdeal.nD Cert.UpDgKernelIdeal.τ Cert.UpDgKernelIdeal.sig) → Buf (Elt Ideal) ℓ) (g : Dev Cert.UpDgKernelIdeal.nD → PrngReg)
    (m' : (ℓ : Loc Cert.UpDgReferenceIdeal.nD Cert.UpDgReferenceIdeal.τ Cert.UpDgReferenceIdeal.sig) → Buf (Elt Ideal) ℓ) (g' : Dev Cert.UpDgReferenceIdeal.nD → PrngReg), Pre_UpDgKernelIdeal m →
    (∀ c : Dev Cert.UpDgKernelIdeal.nD,
      m' ((c.tc : Thread Cert.UpDgReferenceIdeal.nD Cert.UpDgReferenceIdeal.τ).loc Cert.UpDgReferenceIdeal.main_arg0) = m ((c.tc : Thread Cert.UpDgKernelIdeal.nD Cert.UpDgKernelIdeal.τ).loc Cert.UpDgKernelIdeal.main_arg0)
      ∧ m' ((c.tc : Thread Cert.UpDgReferenceIdeal.nD Cert.UpDgReferenceIdeal.τ).loc Cert.UpDgReferenceIdeal.main_arg1) = m ((c.tc : Thread Cert.UpDgKernelIdeal.nD Cert.UpDgKernelIdeal.τ).loc Cert.UpDgKernelIdeal.main_arg1)
      ∧ m' ((c.tc : Thread Cert.UpDgReferenceIdeal.nD Cert.UpDgReferenceIdeal.τ).loc Cert.UpDgReferenceIdeal.main_arg2) = m ((c.tc : Thread Cert.UpDgKernelIdeal.nD Cert.UpDgKernelIdeal.τ).loc Cert.UpDgKernelIdeal.main_arg2)
      ∧ m' ((c.tc : Thread Cert.UpDgReferenceIdeal.nD Cert.UpDgReferenceIdeal.τ).loc Cert.UpDgReferenceIdeal.main_arg3) = m ((c.tc : Thread Cert.UpDgKernelIdeal.nD Cert.UpDgKernelIdeal.τ).loc Cert.UpDgKernelIdeal.main_arg3)) →
    ∃ (v0 : (c : Dev Cert.UpDgKernelIdeal.nD) → Buf (Elt Ideal) ((c.tc : Thread Cert.UpDgKernelIdeal.nD Cert.UpDgKernelIdeal.τ).loc Cert.UpDgKernelIdeal.main_v12)),
      θ_run (Cert.UpDgKernelIdeal.defs (F := Ideal)) (onTc (τ := Cert.UpDgKernelIdeal.τ) (Cert.UpDgKernelIdeal.main (F := Ideal))) ⟨m, fun _ => 0, g⟩ (fun r => ∀ c : Dev Cert.UpDgKernelIdeal.nD,
          r.2.mem ((c.tc : Thread Cert.UpDgKernelIdeal.nD Cert.UpDgKernelIdeal.τ).loc Cert.UpDgKernelIdeal.main_v12) = v0 c
          ∧ r.2.mem ((c.tc : Thread Cert.UpDgKernelIdeal.nD Cert.UpDgKernelIdeal.τ).loc Cert.UpDgKernelIdeal.main_arg0) = m ((c.tc : Thread Cert.UpDgKernelIdeal.nD Cert.UpDgKernelIdeal.τ).loc Cert.UpDgKernelIdeal.main_arg0)
          ∧ r.2.mem ((c.tc : Thread Cert.UpDgKernelIdeal.nD Cert.UpDgKernelIdeal.τ).loc Cert.UpDgKernelIdeal.main_arg1) = m ((c.tc : Thread Cert.UpDgKernelIdeal.nD Cert.UpDgKernelIdeal.τ).loc Cert.UpDgKernelIdeal.main_arg1)
          ∧ r.2.mem ((c.tc : Thread Cert.UpDgKernelIdeal.nD Cert.UpDgKernelIdeal.τ).loc Cert.UpDgKernelIdeal.main_arg2) = m ((c.tc : Thread Cert.UpDgKernelIdeal.nD Cert.UpDgKernelIdeal.τ).loc Cert.UpDgKernelIdeal.main_arg2)
          ∧ r.2.mem ((c.tc : Thread Cert.UpDgKernelIdeal.nD Cert.UpDgKernelIdeal.τ).loc Cert.UpDgKernelIdeal.main_arg3) = m ((c.tc : Thread Cert.UpDgKernelIdeal.nD Cert.UpDgKernelIdeal.τ).loc Cert.UpDgKernelIdeal.main_arg3))
      ∧ θ_run (Cert.UpDgReferenceIdeal.defs (F := Ideal)) (onTc (τ := Cert.UpDgReferenceIdeal.τ) (Cert.UpDgReferenceIdeal.main (F := Ideal))) ⟨m', fun _ => 0, g'⟩ (fun r => ∀ c : Dev Cert.UpDgReferenceIdeal.nD,
          r.2.mem ((c.tc : Thread Cert.UpDgReferenceIdeal.nD Cert.UpDgReferenceIdeal.τ).loc Cert.UpDgReferenceIdeal.main_v8) = v0 c
          ∧ r.2.mem ((c.tc : Thread Cert.UpDgReferenceIdeal.nD Cert.UpDgReferenceIdeal.τ).loc Cert.UpDgReferenceIdeal.main_arg0) = m' ((c.tc : Thread Cert.UpDgReferenceIdeal.nD Cert.UpDgReferenceIdeal.τ).loc Cert.UpDgReferenceIdeal.main_arg0)
          ∧ r.2.mem ((c.tc : Thread Cert.UpDgReferenceIdeal.nD Cert.UpDgReferenceIdeal.τ).loc Cert.UpDgReferenceIdeal.main_arg1) = m' ((c.tc : Thread Cert.UpDgReferenceIdeal.nD Cert.UpDgReferenceIdeal.τ).loc Cert.UpDgReferenceIdeal.main_arg1)
          ∧ r.2.mem ((c.tc : Thread Cert.UpDgReferenceIdeal.nD Cert.UpDgReferenceIdeal.τ).loc Cert.UpDgReferenceIdeal.main_arg2) = m' ((c.tc : Thread Cert.UpDgReferenceIdeal.nD Cert.UpDgReferenceIdeal.τ).loc Cert.UpDgReferenceIdeal.main_arg2)
          ∧ r.2.mem ((c.tc : Thread Cert.UpDgReferenceIdeal.nD Cert.UpDgReferenceIdeal.τ).loc Cert.UpDgReferenceIdeal.main_arg3) = m' ((c.tc : Thread Cert.UpDgReferenceIdeal.nD Cert.UpDgReferenceIdeal.τ).loc Cert.UpDgReferenceIdeal.main_arg3))

def preserves_WInWgKernel_WInWgKernelIdeal : Prop :=
  True

def algebraic_WInWgKernelIdeal_WInWgReferenceIdeal [hWInWgKernelIdeal : Cert.WInWgKernelIdeal.Facts] [hWInWgReferenceIdeal : Cert.WInWgReferenceIdeal.Facts] : Prop :=
  ∀ (m : (ℓ : Loc Cert.WInWgKernelIdeal.nD Cert.WInWgKernelIdeal.τ Cert.WInWgKernelIdeal.sig) → Buf (Elt Ideal) ℓ) (g : Dev Cert.WInWgKernelIdeal.nD → PrngReg)
    (m' : (ℓ : Loc Cert.WInWgReferenceIdeal.nD Cert.WInWgReferenceIdeal.τ Cert.WInWgReferenceIdeal.sig) → Buf (Elt Ideal) ℓ) (g' : Dev Cert.WInWgReferenceIdeal.nD → PrngReg), Pre_WInWgKernelIdeal m →
    (∀ c : Dev Cert.WInWgKernelIdeal.nD,
      m' ((c.tc : Thread Cert.WInWgReferenceIdeal.nD Cert.WInWgReferenceIdeal.τ).loc Cert.WInWgReferenceIdeal.main_arg0) = m ((c.tc : Thread Cert.WInWgKernelIdeal.nD Cert.WInWgKernelIdeal.τ).loc Cert.WInWgKernelIdeal.main_arg0)
      ∧ m' ((c.tc : Thread Cert.WInWgReferenceIdeal.nD Cert.WInWgReferenceIdeal.τ).loc Cert.WInWgReferenceIdeal.main_arg1) = m ((c.tc : Thread Cert.WInWgKernelIdeal.nD Cert.WInWgKernelIdeal.τ).loc Cert.WInWgKernelIdeal.main_arg1)
      ∧ m' ((c.tc : Thread Cert.WInWgReferenceIdeal.nD Cert.WInWgReferenceIdeal.τ).loc Cert.WInWgReferenceIdeal.main_arg2) = m ((c.tc : Thread Cert.WInWgKernelIdeal.nD Cert.WInWgKernelIdeal.τ).loc Cert.WInWgKernelIdeal.main_arg2)) →
    ∃ (v0 : (c : Dev Cert.WInWgKernelIdeal.nD) → Buf (Elt Ideal) ((c.tc : Thread Cert.WInWgKernelIdeal.nD Cert.WInWgKernelIdeal.τ).loc Cert.WInWgKernelIdeal.main_v8)),
      θ_run (Cert.WInWgKernelIdeal.defs (F := Ideal)) (onTc (τ := Cert.WInWgKernelIdeal.τ) (Cert.WInWgKernelIdeal.main (F := Ideal))) ⟨m, fun _ => 0, g⟩ (fun r => ∀ c : Dev Cert.WInWgKernelIdeal.nD,
          r.2.mem ((c.tc : Thread Cert.WInWgKernelIdeal.nD Cert.WInWgKernelIdeal.τ).loc Cert.WInWgKernelIdeal.main_v8) = v0 c
          ∧ r.2.mem ((c.tc : Thread Cert.WInWgKernelIdeal.nD Cert.WInWgKernelIdeal.τ).loc Cert.WInWgKernelIdeal.main_arg0) = m ((c.tc : Thread Cert.WInWgKernelIdeal.nD Cert.WInWgKernelIdeal.τ).loc Cert.WInWgKernelIdeal.main_arg0)
          ∧ r.2.mem ((c.tc : Thread Cert.WInWgKernelIdeal.nD Cert.WInWgKernelIdeal.τ).loc Cert.WInWgKernelIdeal.main_arg1) = m ((c.tc : Thread Cert.WInWgKernelIdeal.nD Cert.WInWgKernelIdeal.τ).loc Cert.WInWgKernelIdeal.main_arg1)
          ∧ r.2.mem ((c.tc : Thread Cert.WInWgKernelIdeal.nD Cert.WInWgKernelIdeal.τ).loc Cert.WInWgKernelIdeal.main_arg2) = m ((c.tc : Thread Cert.WInWgKernelIdeal.nD Cert.WInWgKernelIdeal.τ).loc Cert.WInWgKernelIdeal.main_arg2))
      ∧ θ_run (Cert.WInWgReferenceIdeal.defs (F := Ideal)) (onTc (τ := Cert.WInWgReferenceIdeal.τ) (Cert.WInWgReferenceIdeal.main (F := Ideal))) ⟨m', fun _ => 0, g'⟩ (fun r => ∀ c : Dev Cert.WInWgReferenceIdeal.nD,
          r.2.mem ((c.tc : Thread Cert.WInWgReferenceIdeal.nD Cert.WInWgReferenceIdeal.τ).loc Cert.WInWgReferenceIdeal.main_v10) = v0 c
          ∧ r.2.mem ((c.tc : Thread Cert.WInWgReferenceIdeal.nD Cert.WInWgReferenceIdeal.τ).loc Cert.WInWgReferenceIdeal.main_arg0) = m' ((c.tc : Thread Cert.WInWgReferenceIdeal.nD Cert.WInWgReferenceIdeal.τ).loc Cert.WInWgReferenceIdeal.main_arg0)
          ∧ r.2.mem ((c.tc : Thread Cert.WInWgReferenceIdeal.nD Cert.WInWgReferenceIdeal.τ).loc Cert.WInWgReferenceIdeal.main_arg1) = m' ((c.tc : Thread Cert.WInWgReferenceIdeal.nD Cert.WInWgReferenceIdeal.τ).loc Cert.WInWgReferenceIdeal.main_arg1)
          ∧ r.2.mem ((c.tc : Thread Cert.WInWgReferenceIdeal.nD Cert.WInWgReferenceIdeal.τ).loc Cert.WInWgReferenceIdeal.main_arg2) = m' ((c.tc : Thread Cert.WInWgReferenceIdeal.nD Cert.WInWgReferenceIdeal.τ).loc Cert.WInWgReferenceIdeal.main_arg2))

def preserves_WInDgKernel_WInDgKernelIdeal : Prop :=
  True

def algebraic_WInDgKernelIdeal_WInDgReferenceIdeal [hWInDgKernelIdeal : Cert.WInDgKernelIdeal.Facts] [hWInDgReferenceIdeal : Cert.WInDgReferenceIdeal.Facts] : Prop :=
  ∀ (m : (ℓ : Loc Cert.WInDgKernelIdeal.nD Cert.WInDgKernelIdeal.τ Cert.WInDgKernelIdeal.sig) → Buf (Elt Ideal) ℓ) (g : Dev Cert.WInDgKernelIdeal.nD → PrngReg)
    (m' : (ℓ : Loc Cert.WInDgReferenceIdeal.nD Cert.WInDgReferenceIdeal.τ Cert.WInDgReferenceIdeal.sig) → Buf (Elt Ideal) ℓ) (g' : Dev Cert.WInDgReferenceIdeal.nD → PrngReg), Pre_WInDgKernelIdeal m →
    (∀ c : Dev Cert.WInDgKernelIdeal.nD,
      m' ((c.tc : Thread Cert.WInDgReferenceIdeal.nD Cert.WInDgReferenceIdeal.τ).loc Cert.WInDgReferenceIdeal.main_arg0) = m ((c.tc : Thread Cert.WInDgKernelIdeal.nD Cert.WInDgKernelIdeal.τ).loc Cert.WInDgKernelIdeal.main_arg0)
      ∧ m' ((c.tc : Thread Cert.WInDgReferenceIdeal.nD Cert.WInDgReferenceIdeal.τ).loc Cert.WInDgReferenceIdeal.main_arg1) = m ((c.tc : Thread Cert.WInDgKernelIdeal.nD Cert.WInDgKernelIdeal.τ).loc Cert.WInDgKernelIdeal.main_arg1)
      ∧ m' ((c.tc : Thread Cert.WInDgReferenceIdeal.nD Cert.WInDgReferenceIdeal.τ).loc Cert.WInDgReferenceIdeal.main_arg2) = m ((c.tc : Thread Cert.WInDgKernelIdeal.nD Cert.WInDgKernelIdeal.τ).loc Cert.WInDgKernelIdeal.main_arg2)) →
    ∃ (v0 : (c : Dev Cert.WInDgKernelIdeal.nD) → Buf (Elt Ideal) ((c.tc : Thread Cert.WInDgKernelIdeal.nD Cert.WInDgKernelIdeal.τ).loc Cert.WInDgKernelIdeal.main_v15)),
      θ_run (Cert.WInDgKernelIdeal.defs (F := Ideal)) (onTc (τ := Cert.WInDgKernelIdeal.τ) (Cert.WInDgKernelIdeal.main (F := Ideal))) ⟨m, fun _ => 0, g⟩ (fun r => ∀ c : Dev Cert.WInDgKernelIdeal.nD,
          r.2.mem ((c.tc : Thread Cert.WInDgKernelIdeal.nD Cert.WInDgKernelIdeal.τ).loc Cert.WInDgKernelIdeal.main_v15) = v0 c
          ∧ r.2.mem ((c.tc : Thread Cert.WInDgKernelIdeal.nD Cert.WInDgKernelIdeal.τ).loc Cert.WInDgKernelIdeal.main_arg0) = m ((c.tc : Thread Cert.WInDgKernelIdeal.nD Cert.WInDgKernelIdeal.τ).loc Cert.WInDgKernelIdeal.main_arg0)
          ∧ r.2.mem ((c.tc : Thread Cert.WInDgKernelIdeal.nD Cert.WInDgKernelIdeal.τ).loc Cert.WInDgKernelIdeal.main_arg1) = m ((c.tc : Thread Cert.WInDgKernelIdeal.nD Cert.WInDgKernelIdeal.τ).loc Cert.WInDgKernelIdeal.main_arg1)
          ∧ r.2.mem ((c.tc : Thread Cert.WInDgKernelIdeal.nD Cert.WInDgKernelIdeal.τ).loc Cert.WInDgKernelIdeal.main_arg2) = m ((c.tc : Thread Cert.WInDgKernelIdeal.nD Cert.WInDgKernelIdeal.τ).loc Cert.WInDgKernelIdeal.main_arg2))
      ∧ θ_run (Cert.WInDgReferenceIdeal.defs (F := Ideal)) (onTc (τ := Cert.WInDgReferenceIdeal.τ) (Cert.WInDgReferenceIdeal.main (F := Ideal))) ⟨m', fun _ => 0, g'⟩ (fun r => ∀ c : Dev Cert.WInDgReferenceIdeal.nD,
          r.2.mem ((c.tc : Thread Cert.WInDgReferenceIdeal.nD Cert.WInDgReferenceIdeal.τ).loc Cert.WInDgReferenceIdeal.main_v3) = v0 c
          ∧ r.2.mem ((c.tc : Thread Cert.WInDgReferenceIdeal.nD Cert.WInDgReferenceIdeal.τ).loc Cert.WInDgReferenceIdeal.main_arg0) = m' ((c.tc : Thread Cert.WInDgReferenceIdeal.nD Cert.WInDgReferenceIdeal.τ).loc Cert.WInDgReferenceIdeal.main_arg0)
          ∧ r.2.mem ((c.tc : Thread Cert.WInDgReferenceIdeal.nD Cert.WInDgReferenceIdeal.τ).loc Cert.WInDgReferenceIdeal.main_arg1) = m' ((c.tc : Thread Cert.WInDgReferenceIdeal.nD Cert.WInDgReferenceIdeal.τ).loc Cert.WInDgReferenceIdeal.main_arg1)
          ∧ r.2.mem ((c.tc : Thread Cert.WInDgReferenceIdeal.nD Cert.WInDgReferenceIdeal.τ).loc Cert.WInDgReferenceIdeal.main_arg2) = m' ((c.tc : Thread Cert.WInDgReferenceIdeal.nD Cert.WInDgReferenceIdeal.τ).loc Cert.WInDgReferenceIdeal.main_arg2))

def preserves_WInKernel_WInKernelIdeal : Prop :=
  True

def algebraic_WInKernelIdeal_WInReferenceIdeal [hWInKernelIdeal : Cert.WInKernelIdeal.Facts] [hWInReferenceIdeal : Cert.WInReferenceIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInKernelIdeal m →
    (∀ c : Dev Cert.WInKernelIdeal.nD,
      m' ((c.tc : Thread Cert.WInReferenceIdeal.nD Cert.WInReferenceIdeal.τ).loc Cert.WInReferenceIdeal.main_arg0) = m ((c.tc : Thread Cert.WInKernelIdeal.nD Cert.WInKernelIdeal.τ).loc Cert.WInKernelIdeal.main_arg0)
      ∧ m' ((c.tc : Thread Cert.WInReferenceIdeal.nD Cert.WInReferenceIdeal.τ).loc Cert.WInReferenceIdeal.main_arg1) = m ((c.tc : Thread Cert.WInKernelIdeal.nD Cert.WInKernelIdeal.τ).loc Cert.WInKernelIdeal.main_arg1)) →
    ∃ (v0 : (c : Dev Cert.WInKernelIdeal.nD) → Buf (Elt Ideal) ((c.tc : Thread Cert.WInKernelIdeal.nD Cert.WInKernelIdeal.τ).loc Cert.WInKernelIdeal.main_v9)),
      θ_run (Cert.WInKernelIdeal.defs (F := Ideal)) (onTc (τ := Cert.WInKernelIdeal.τ) (Cert.WInKernelIdeal.main (F := Ideal))) ⟨m, fun _ => 0, g⟩ (fun r => ∀ c : Dev Cert.WInKernelIdeal.nD,
          r.2.mem ((c.tc : Thread Cert.WInKernelIdeal.nD Cert.WInKernelIdeal.τ).loc Cert.WInKernelIdeal.main_v9) = v0 c
          ∧ r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
          ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v6) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1))

def preserves_UpFwdKernel_UpFwdKernelIdeal : Prop :=
  True

def algebraic_UpFwdKernelIdeal_UpFwdReferenceIdeal [hUpFwdKernelIdeal : Cert.UpFwdKernelIdeal.Facts] [hUpFwdReferenceIdeal : Cert.UpFwdReferenceIdeal.Facts] : Prop :=
  ∀ (m : (ℓ : Loc Cert.UpFwdKernelIdeal.nD Cert.UpFwdKernelIdeal.τ Cert.UpFwdKernelIdeal.sig) → Buf (Elt Ideal) ℓ) (g : Dev Cert.UpFwdKernelIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdKernelIdeal m →
    (∀ c : Dev Cert.UpFwdKernelIdeal.nD,
      m' ((c.tc : Thread Cert.UpFwdReferenceIdeal.nD Cert.UpFwdReferenceIdeal.τ).loc Cert.UpFwdReferenceIdeal.main_arg0) = m ((c.tc : Thread Cert.UpFwdKernelIdeal.nD Cert.UpFwdKernelIdeal.τ).loc Cert.UpFwdKernelIdeal.main_arg0)
      ∧ m' ((c.tc : Thread Cert.UpFwdReferenceIdeal.nD Cert.UpFwdReferenceIdeal.τ).loc Cert.UpFwdReferenceIdeal.main_arg1) = m ((c.tc : Thread Cert.UpFwdKernelIdeal.nD Cert.UpFwdKernelIdeal.τ).loc Cert.UpFwdKernelIdeal.main_arg1)) →
    ∃ (v0 : (c : Dev Cert.UpFwdKernelIdeal.nD) → Buf (Elt Ideal) ((c.tc : Thread Cert.UpFwdKernelIdeal.nD Cert.UpFwdKernelIdeal.τ).loc Cert.UpFwdKernelIdeal.main_v5_0)) (v1 : (c : Dev Cert.UpFwdKernelIdeal.nD) → Buf (Elt Ideal) ((c.tc : Thread Cert.UpFwdKernelIdeal.nD Cert.UpFwdKernelIdeal.τ).loc Cert.UpFwdKernelIdeal.main_v5_1)) (v2 : (c : Dev Cert.UpFwdKernelIdeal.nD) → Buf (Elt Ideal) ((c.tc : Thread Cert.UpFwdKernelIdeal.nD Cert.UpFwdKernelIdeal.τ).loc Cert.UpFwdKernelIdeal.main_v5_2)),
      θ_run (Cert.UpFwdKernelIdeal.defs (F := Ideal)) (onTc (τ := Cert.UpFwdKernelIdeal.τ) (Cert.UpFwdKernelIdeal.main (F := Ideal))) ⟨m, fun _ => 0, g⟩ (fun r => ∀ c : Dev Cert.UpFwdKernelIdeal.nD,
          r.2.mem ((c.tc : Thread Cert.UpFwdKernelIdeal.nD Cert.UpFwdKernelIdeal.τ).loc Cert.UpFwdKernelIdeal.main_v5_0) = v0 c
          ∧ r.2.mem ((c.tc : Thread Cert.UpFwdKernelIdeal.nD Cert.UpFwdKernelIdeal.τ).loc Cert.UpFwdKernelIdeal.main_v5_1) = v1 c
          ∧ r.2.mem ((c.tc : Thread Cert.UpFwdKernelIdeal.nD Cert.UpFwdKernelIdeal.τ).loc Cert.UpFwdKernelIdeal.main_v5_2) = v2 c
          ∧ r.2.mem ((c.tc : Thread Cert.UpFwdKernelIdeal.nD Cert.UpFwdKernelIdeal.τ).loc Cert.UpFwdKernelIdeal.main_arg0) = m ((c.tc : Thread Cert.UpFwdKernelIdeal.nD Cert.UpFwdKernelIdeal.τ).loc Cert.UpFwdKernelIdeal.main_arg0)
          ∧ r.2.mem ((c.tc : Thread Cert.UpFwdKernelIdeal.nD Cert.UpFwdKernelIdeal.τ).loc Cert.UpFwdKernelIdeal.main_arg1) = m ((c.tc : Thread Cert.UpFwdKernelIdeal.nD Cert.UpFwdKernelIdeal.τ).loc Cert.UpFwdKernelIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v8) = v0 c
          ∧ r.2.mem ((c.tc : Thread Cert.UpFwdReferenceIdeal.nD Cert.UpFwdReferenceIdeal.τ).loc Cert.UpFwdReferenceIdeal.main_v12) = v1 c
          ∧ r.2.mem ((c.tc : Thread Cert.UpFwdReferenceIdeal.nD Cert.UpFwdReferenceIdeal.τ).loc Cert.UpFwdReferenceIdeal.main_v16) = v2 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwdKernel_DownFwdKernelIdeal : Prop :=
  True

def algebraic_DownFwdKernelIdeal_DownFwdReferenceIdeal [hDownFwdKernelIdeal : Cert.DownFwdKernelIdeal.Facts] [hDownFwdReferenceIdeal : Cert.DownFwdReferenceIdeal.Facts] : Prop :=
  ∀ (m : (ℓ : Loc Cert.DownFwdKernelIdeal.nD Cert.DownFwdKernelIdeal.τ Cert.DownFwdKernelIdeal.sig) → Buf (Elt Ideal) ℓ) (g : Dev Cert.DownFwdKernelIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdKernelIdeal m →
    (∀ c : Dev Cert.DownFwdKernelIdeal.nD,
      m' ((c.tc : Thread Cert.DownFwdReferenceIdeal.nD Cert.DownFwdReferenceIdeal.τ).loc Cert.DownFwdReferenceIdeal.main_arg0) = m ((c.tc : Thread Cert.DownFwdKernelIdeal.nD Cert.DownFwdKernelIdeal.τ).loc Cert.DownFwdKernelIdeal.main_arg0)
      ∧ m' ((c.tc : Thread Cert.DownFwdReferenceIdeal.nD Cert.DownFwdReferenceIdeal.τ).loc Cert.DownFwdReferenceIdeal.main_arg1) = m ((c.tc : Thread Cert.DownFwdKernelIdeal.nD Cert.DownFwdKernelIdeal.τ).loc Cert.DownFwdKernelIdeal.main_arg1)
      ∧ m' ((c.tc : Thread Cert.DownFwdReferenceIdeal.nD Cert.DownFwdReferenceIdeal.τ).loc Cert.DownFwdReferenceIdeal.main_arg2) = m ((c.tc : Thread Cert.DownFwdKernelIdeal.nD Cert.DownFwdKernelIdeal.τ).loc Cert.DownFwdKernelIdeal.main_arg2)
      ∧ m' ((c.tc : Thread Cert.DownFwdReferenceIdeal.nD Cert.DownFwdReferenceIdeal.τ).loc Cert.DownFwdReferenceIdeal.main_arg3) = m ((c.tc : Thread Cert.DownFwdKernelIdeal.nD Cert.DownFwdKernelIdeal.τ).loc Cert.DownFwdKernelIdeal.main_arg3)) →
    ∃ (v0 : (c : Dev Cert.DownFwdKernelIdeal.nD) → Buf (Elt Ideal) ((c.tc : Thread Cert.DownFwdKernelIdeal.nD Cert.DownFwdKernelIdeal.τ).loc Cert.DownFwdKernelIdeal.main_v10_0)) (v1 : (c : Dev Cert.DownFwdKernelIdeal.nD) → Buf (Elt Ideal) ((c.tc : Thread Cert.DownFwdKernelIdeal.nD Cert.DownFwdKernelIdeal.τ).loc Cert.DownFwdKernelIdeal.main_v10_1)),
      θ_run (Cert.DownFwdKernelIdeal.defs (F := Ideal)) (onTc (τ := Cert.DownFwdKernelIdeal.τ) (Cert.DownFwdKernelIdeal.main (F := Ideal))) ⟨m, fun _ => 0, g⟩ (fun r => ∀ c : Dev Cert.DownFwdKernelIdeal.nD,
          r.2.mem ((c.tc : Thread Cert.DownFwdKernelIdeal.nD Cert.DownFwdKernelIdeal.τ).loc Cert.DownFwdKernelIdeal.main_v10_0) = v0 c
          ∧ r.2.mem ((c.tc : Thread Cert.DownFwdKernelIdeal.nD Cert.DownFwdKernelIdeal.τ).loc Cert.DownFwdKernelIdeal.main_v10_1) = v1 c
          ∧ r.2.mem ((c.tc : Thread Cert.DownFwdKernelIdeal.nD Cert.DownFwdKernelIdeal.τ).loc Cert.DownFwdKernelIdeal.main_arg0) = m ((c.tc : Thread Cert.DownFwdKernelIdeal.nD Cert.DownFwdKernelIdeal.τ).loc Cert.DownFwdKernelIdeal.main_arg0)
          ∧ r.2.mem ((c.tc : Thread Cert.DownFwdKernelIdeal.nD Cert.DownFwdKernelIdeal.τ).loc Cert.DownFwdKernelIdeal.main_arg1) = m ((c.tc : Thread Cert.DownFwdKernelIdeal.nD Cert.DownFwdKernelIdeal.τ).loc Cert.DownFwdKernelIdeal.main_arg1)
          ∧ r.2.mem ((c.tc : Thread Cert.DownFwdKernelIdeal.nD Cert.DownFwdKernelIdeal.τ).loc Cert.DownFwdKernelIdeal.main_arg2) = m ((c.tc : Thread Cert.DownFwdKernelIdeal.nD Cert.DownFwdKernelIdeal.τ).loc Cert.DownFwdKernelIdeal.main_arg2)
          ∧ r.2.mem ((c.tc : Thread Cert.DownFwdKernelIdeal.nD Cert.DownFwdKernelIdeal.τ).loc Cert.DownFwdKernelIdeal.main_arg3) = m ((c.tc : Thread Cert.DownFwdKernelIdeal.nD Cert.DownFwdKernelIdeal.τ).loc Cert.DownFwdKernelIdeal.main_arg3))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v5) = v0 c
          ∧ r.2.mem ((c.tc : Thread Cert.DownFwdReferenceIdeal.nD Cert.DownFwdReferenceIdeal.τ).loc Cert.DownFwdReferenceIdeal.main_v0) = v1 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2)
          ∧ r.2.mem ((c.tc : Thread Cert.DownFwdReferenceIdeal.nD Cert.DownFwdReferenceIdeal.τ).loc Cert.DownFwdReferenceIdeal.main_arg3) = m' ((c.tc : Thread Cert.DownFwdReferenceIdeal.nD Cert.DownFwdReferenceIdeal.τ).loc Cert.DownFwdReferenceIdeal.main_arg3))

def preserves_DownWgKernel_DownWgKernelIdeal : Prop :=
  True

def algebraic_DownWgKernelIdeal_DownWgReferenceIdeal_pre_a_gt_dxo_finite [hDownWgKernelIdeal : Cert.DownWgKernelIdeal.Facts] [hDownWgReferenceIdeal : Cert.DownWgReferenceIdeal.Facts] [hPre_a_gt_dxo_finite : Cert.Pre_a_gt_dxo_finite.Facts] : Prop :=
  ∀ (m : (ℓ : Loc Cert.DownWgKernelIdeal.nD Cert.DownWgKernelIdeal.τ Cert.DownWgKernelIdeal.sig) → Buf (Elt Ideal) ℓ) (g : Dev Cert.DownWgKernelIdeal.nD → PrngReg)
    (m' : (ℓ : Loc Cert.DownWgReferenceIdeal.nD Cert.DownWgReferenceIdeal.τ Cert.DownWgReferenceIdeal.sig) → Buf (Elt Ideal) ℓ) (g' : Dev Cert.DownWgReferenceIdeal.nD → PrngReg), Pre_DownWgKernelIdeal_a_gt_dxo_finite m →
    (∀ c : Dev Cert.DownWgKernelIdeal.nD,
      m' ((c.tc : Thread Cert.DownWgReferenceIdeal.nD Cert.DownWgReferenceIdeal.τ).loc Cert.DownWgReferenceIdeal.main_arg0) = m ((c.tc : Thread Cert.DownWgKernelIdeal.nD Cert.DownWgKernelIdeal.τ).loc Cert.DownWgKernelIdeal.main_arg0)
      ∧ m' ((c.tc : Thread Cert.DownWgReferenceIdeal.nD Cert.DownWgReferenceIdeal.τ).loc Cert.DownWgReferenceIdeal.main_arg1) = m ((c.tc : Thread Cert.DownWgKernelIdeal.nD Cert.DownWgKernelIdeal.τ).loc Cert.DownWgKernelIdeal.main_arg1)
      ∧ m' ((c.tc : Thread Cert.DownWgReferenceIdeal.nD Cert.DownWgReferenceIdeal.τ).loc Cert.DownWgReferenceIdeal.main_arg2) = m ((c.tc : Thread Cert.DownWgKernelIdeal.nD Cert.DownWgKernelIdeal.τ).loc Cert.DownWgKernelIdeal.main_arg2)
      ∧ m' ((c.tc : Thread Cert.DownWgReferenceIdeal.nD Cert.DownWgReferenceIdeal.τ).loc Cert.DownWgReferenceIdeal.main_arg3) = m ((c.tc : Thread Cert.DownWgKernelIdeal.nD Cert.DownWgKernelIdeal.τ).loc Cert.DownWgKernelIdeal.main_arg3)) →
    ∃ (v0 : (c : Dev Cert.DownWgKernelIdeal.nD) → Buf (Elt Ideal) ((c.tc : Thread Cert.DownWgKernelIdeal.nD Cert.DownWgKernelIdeal.τ).loc Cert.DownWgKernelIdeal.main_v6)),
      θ_run (Cert.DownWgKernelIdeal.defs (F := Ideal)) (onTc (τ := Cert.DownWgKernelIdeal.τ) (Cert.DownWgKernelIdeal.main (F := Ideal))) ⟨m, fun _ => 0, g⟩ (fun r => ∀ c : Dev Cert.DownWgKernelIdeal.nD,
          r.2.mem ((c.tc : Thread Cert.DownWgKernelIdeal.nD Cert.DownWgKernelIdeal.τ).loc Cert.DownWgKernelIdeal.main_v6) = v0 c
          ∧ r.2.mem ((c.tc : Thread Cert.DownWgKernelIdeal.nD Cert.DownWgKernelIdeal.τ).loc Cert.DownWgKernelIdeal.main_arg0) = m ((c.tc : Thread Cert.DownWgKernelIdeal.nD Cert.DownWgKernelIdeal.τ).loc Cert.DownWgKernelIdeal.main_arg0)
          ∧ r.2.mem ((c.tc : Thread Cert.DownWgKernelIdeal.nD Cert.DownWgKernelIdeal.τ).loc Cert.DownWgKernelIdeal.main_arg1) = m ((c.tc : Thread Cert.DownWgKernelIdeal.nD Cert.DownWgKernelIdeal.τ).loc Cert.DownWgKernelIdeal.main_arg1)
          ∧ r.2.mem ((c.tc : Thread Cert.DownWgKernelIdeal.nD Cert.DownWgKernelIdeal.τ).loc Cert.DownWgKernelIdeal.main_arg2) = m ((c.tc : Thread Cert.DownWgKernelIdeal.nD Cert.DownWgKernelIdeal.τ).loc Cert.DownWgKernelIdeal.main_arg2)
          ∧ r.2.mem ((c.tc : Thread Cert.DownWgKernelIdeal.nD Cert.DownWgKernelIdeal.τ).loc Cert.DownWgKernelIdeal.main_arg3) = m ((c.tc : Thread Cert.DownWgKernelIdeal.nD Cert.DownWgKernelIdeal.τ).loc Cert.DownWgKernelIdeal.main_arg3))
      ∧ θ_run (Cert.DownWgReferenceIdeal.defs (F := Ideal)) (onTc (τ := Cert.DownWgReferenceIdeal.τ) (Cert.DownWgReferenceIdeal.main (F := Ideal))) ⟨m', fun _ => 0, g'⟩ (fun r => ∀ c : Dev Cert.DownWgReferenceIdeal.nD,
          r.2.mem ((c.tc : Thread Cert.DownWgReferenceIdeal.nD Cert.DownWgReferenceIdeal.τ).loc Cert.DownWgReferenceIdeal.main_v18) = v0 c
          ∧ r.2.mem ((c.tc : Thread Cert.DownWgReferenceIdeal.nD Cert.DownWgReferenceIdeal.τ).loc Cert.DownWgReferenceIdeal.main_arg0) = m' ((c.tc : Thread Cert.DownWgReferenceIdeal.nD Cert.DownWgReferenceIdeal.τ).loc Cert.DownWgReferenceIdeal.main_arg0)
          ∧ r.2.mem ((c.tc : Thread Cert.DownWgReferenceIdeal.nD Cert.DownWgReferenceIdeal.τ).loc Cert.DownWgReferenceIdeal.main_arg1) = m' ((c.tc : Thread Cert.DownWgReferenceIdeal.nD Cert.DownWgReferenceIdeal.τ).loc Cert.DownWgReferenceIdeal.main_arg1)
          ∧ r.2.mem ((c.tc : Thread Cert.DownWgReferenceIdeal.nD Cert.DownWgReferenceIdeal.τ).loc Cert.DownWgReferenceIdeal.main_arg2) = m' ((c.tc : Thread Cert.DownWgReferenceIdeal.nD Cert.DownWgReferenceIdeal.τ).loc Cert.DownWgReferenceIdeal.main_arg2)
          ∧ r.2.mem ((c.tc : Thread Cert.DownWgReferenceIdeal.nD Cert.DownWgReferenceIdeal.τ).loc Cert.DownWgReferenceIdeal.main_arg3) = m' ((c.tc : Thread Cert.DownWgReferenceIdeal.nD Cert.DownWgReferenceIdeal.τ).loc Cert.DownWgReferenceIdeal.main_arg3))

def preserves_DactKernel_DactKernelIdeal : Prop :=
  True

def algebraic_DactKernelIdeal_DactReferenceIdeal_pre_dact_finite [hDactKernelIdeal : Cert.DactKernelIdeal.Facts] [hDactReferenceIdeal : Cert.DactReferenceIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal_dact_finite m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)
      ∧ m' ((c.tc : Thread Cert.DactReferenceIdeal.nD Cert.DactReferenceIdeal.τ).loc Cert.DactReferenceIdeal.main_arg3) = m ((c.tc : Thread Cert.DactKernelIdeal.nD Cert.DactKernelIdeal.τ).loc Cert.DactKernelIdeal.main_arg3)
      ∧ m' ((c.tc : Thread Cert.DactReferenceIdeal.nD Cert.DactReferenceIdeal.τ).loc Cert.DactReferenceIdeal.main_arg4) = m ((c.tc : Thread Cert.DactKernelIdeal.nD Cert.DactKernelIdeal.τ).loc Cert.DactKernelIdeal.main_arg4)) →
    ∃ (v0 : (c : Dev Cert.DactKernelIdeal.nD) → Buf (Elt Ideal) ((c.tc : Thread Cert.DactKernelIdeal.nD Cert.DactKernelIdeal.τ).loc Cert.DactKernelIdeal.main_v14_0)) (v1 : (c : Dev Cert.DactKernelIdeal.nD) → Buf (Elt Ideal) ((c.tc : Thread Cert.DactKernelIdeal.nD Cert.DactKernelIdeal.τ).loc Cert.DactKernelIdeal.main_v14_1)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v14_0) = v0 c
          ∧ r.2.mem ((c.tc : Thread Cert.DactKernelIdeal.nD Cert.DactKernelIdeal.τ).loc Cert.DactKernelIdeal.main_v14_1) = v1 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
          ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3)
          ∧ r.2.mem ((c.tc : Thread Cert.DactKernelIdeal.nD Cert.DactKernelIdeal.τ).loc Cert.DactKernelIdeal.main_arg4) = m ((c.tc : Thread Cert.DactKernelIdeal.nD Cert.DactKernelIdeal.τ).loc Cert.DactKernelIdeal.main_arg4))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v23) = v0 c
          ∧ r.2.mem ((c.tc : Thread Cert.DactReferenceIdeal.nD Cert.DactReferenceIdeal.τ).loc Cert.DactReferenceIdeal.main_v27) = v1 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3)
          ∧ r.2.mem ((c.tc : Thread Cert.DactReferenceIdeal.nD Cert.DactReferenceIdeal.τ).loc Cert.DactReferenceIdeal.main_arg4) = m' ((c.tc : Thread Cert.DactReferenceIdeal.nD Cert.DactReferenceIdeal.τ).loc Cert.DactReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)) →
    ∃ (v0 : (c : Dev Cert.MergeKernelIdeal.nD) → Buf (Elt Ideal) ((c.tc : Thread Cert.MergeKernelIdeal.nD Cert.MergeKernelIdeal.τ).loc Cert.MergeKernelIdeal.main_v6_0)) (v1 : (c : Dev Cert.MergeKernelIdeal.nD) → Buf (Elt Ideal) ((c.tc : Thread Cert.MergeKernelIdeal.nD Cert.MergeKernelIdeal.τ).loc Cert.MergeKernelIdeal.main_v6_1)) (v2 : (c : Dev Cert.MergeKernelIdeal.nD) → Buf (Elt Ideal) ((c.tc : Thread Cert.MergeKernelIdeal.nD Cert.MergeKernelIdeal.τ).loc Cert.MergeKernelIdeal.main_v6_2)) (v3 : (c : Dev Cert.MergeKernelIdeal.nD) → Buf (Elt Ideal) ((c.tc : Thread Cert.MergeKernelIdeal.nD Cert.MergeKernelIdeal.τ).loc Cert.MergeKernelIdeal.main_v6_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v6_0) = v0 c
          ∧ r.2.mem ((c.tc : Thread Cert.MergeKernelIdeal.nD Cert.MergeKernelIdeal.τ).loc Cert.MergeKernelIdeal.main_v6_1) = v1 c
          ∧ r.2.mem ((c.tc : Thread Cert.MergeKernelIdeal.nD Cert.MergeKernelIdeal.τ).loc Cert.MergeKernelIdeal.main_v6_2) = v2 c
          ∧ r.2.mem ((c.tc : Thread Cert.MergeKernelIdeal.nD Cert.MergeKernelIdeal.τ).loc Cert.MergeKernelIdeal.main_v6_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v25) = v0 c
          ∧ r.2.mem ((c.tc : Thread Cert.MergeReferenceIdeal.nD Cert.MergeReferenceIdeal.τ).loc Cert.MergeReferenceIdeal.main_v26) = v1 c
          ∧ r.2.mem ((c.tc : Thread Cert.MergeReferenceIdeal.nD Cert.MergeReferenceIdeal.τ).loc Cert.MergeReferenceIdeal.main_v27) = v2 c
          ∧ r.2.mem ((c.tc : Thread Cert.MergeReferenceIdeal.nD Cert.MergeReferenceIdeal.τ).loc Cert.MergeReferenceIdeal.main_v28) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_AdaWKernel_AdaWKernelIdeal : Prop :=
  True

def algebraic_AdaWKernelIdeal_AdaWReferenceIdeal [hAdaWKernelIdeal : Cert.AdaWKernelIdeal.Facts] [hAdaWReferenceIdeal : Cert.AdaWReferenceIdeal.Facts] : Prop :=
  ∀ (m : (ℓ : Loc Cert.AdaWKernelIdeal.nD Cert.AdaWKernelIdeal.τ Cert.AdaWKernelIdeal.sig) → Buf (Elt Ideal) ℓ) (g : Dev Cert.AdaWKernelIdeal.nD → PrngReg)
    (m' : (ℓ : Loc Cert.AdaWReferenceIdeal.nD Cert.AdaWReferenceIdeal.τ Cert.AdaWReferenceIdeal.sig) → Buf (Elt Ideal) ℓ) (g' : Dev Cert.AdaWReferenceIdeal.nD → PrngReg), Pre_AdaWKernelIdeal m →
    (∀ c : Dev Cert.AdaWKernelIdeal.nD,
      m' ((c.tc : Thread Cert.AdaWReferenceIdeal.nD Cert.AdaWReferenceIdeal.τ).loc Cert.AdaWReferenceIdeal.main_arg0) = m ((c.tc : Thread Cert.AdaWKernelIdeal.nD Cert.AdaWKernelIdeal.τ).loc Cert.AdaWKernelIdeal.main_arg0)
      ∧ m' ((c.tc : Thread Cert.AdaWReferenceIdeal.nD Cert.AdaWReferenceIdeal.τ).loc Cert.AdaWReferenceIdeal.main_arg1) = m ((c.tc : Thread Cert.AdaWKernelIdeal.nD Cert.AdaWKernelIdeal.τ).loc Cert.AdaWKernelIdeal.main_arg1)
      ∧ m' ((c.tc : Thread Cert.AdaWReferenceIdeal.nD Cert.AdaWReferenceIdeal.τ).loc Cert.AdaWReferenceIdeal.main_arg2) = m ((c.tc : Thread Cert.AdaWKernelIdeal.nD Cert.AdaWKernelIdeal.τ).loc Cert.AdaWKernelIdeal.main_arg2)
      ∧ m' ((c.tc : Thread Cert.AdaWReferenceIdeal.nD Cert.AdaWReferenceIdeal.τ).loc Cert.AdaWReferenceIdeal.main_arg3) = m ((c.tc : Thread Cert.AdaWKernelIdeal.nD Cert.AdaWKernelIdeal.τ).loc Cert.AdaWKernelIdeal.main_arg3)) →
    ∃ (v0 : (c : Dev Cert.AdaWKernelIdeal.nD) → Buf (Elt Ideal) ((c.tc : Thread Cert.AdaWKernelIdeal.nD Cert.AdaWKernelIdeal.τ).loc Cert.AdaWKernelIdeal.main_v0_0)) (v1 : (c : Dev Cert.AdaWKernelIdeal.nD) → Buf (Elt Ideal) ((c.tc : Thread Cert.AdaWKernelIdeal.nD Cert.AdaWKernelIdeal.τ).loc Cert.AdaWKernelIdeal.main_v0_1)) (v2 : (c : Dev Cert.AdaWKernelIdeal.nD) → Buf (Elt Ideal) ((c.tc : Thread Cert.AdaWKernelIdeal.nD Cert.AdaWKernelIdeal.τ).loc Cert.AdaWKernelIdeal.main_v0_2)) (v3 : (c : Dev Cert.AdaWKernelIdeal.nD) → Buf (Elt Ideal) ((c.tc : Thread Cert.AdaWKernelIdeal.nD Cert.AdaWKernelIdeal.τ).loc Cert.AdaWKernelIdeal.main_v0_3)),
      θ_run (Cert.AdaWKernelIdeal.defs (F := Ideal)) (onTc (τ := Cert.AdaWKernelIdeal.τ) (Cert.AdaWKernelIdeal.main (F := Ideal))) ⟨m, fun _ => 0, g⟩ (fun r => ∀ c : Dev Cert.AdaWKernelIdeal.nD,
          r.2.mem ((c.tc : Thread Cert.AdaWKernelIdeal.nD Cert.AdaWKernelIdeal.τ).loc Cert.AdaWKernelIdeal.main_v0_0) = v0 c
          ∧ r.2.mem ((c.tc : Thread Cert.AdaWKernelIdeal.nD Cert.AdaWKernelIdeal.τ).loc Cert.AdaWKernelIdeal.main_v0_1) = v1 c
          ∧ r.2.mem ((c.tc : Thread Cert.AdaWKernelIdeal.nD Cert.AdaWKernelIdeal.τ).loc Cert.AdaWKernelIdeal.main_v0_2) = v2 c
          ∧ r.2.mem ((c.tc : Thread Cert.AdaWKernelIdeal.nD Cert.AdaWKernelIdeal.τ).loc Cert.AdaWKernelIdeal.main_v0_3) = v3 c
          ∧ r.2.mem ((c.tc : Thread Cert.AdaWKernelIdeal.nD Cert.AdaWKernelIdeal.τ).loc Cert.AdaWKernelIdeal.main_arg0) = m ((c.tc : Thread Cert.AdaWKernelIdeal.nD Cert.AdaWKernelIdeal.τ).loc Cert.AdaWKernelIdeal.main_arg0)
          ∧ r.2.mem ((c.tc : Thread Cert.AdaWKernelIdeal.nD Cert.AdaWKernelIdeal.τ).loc Cert.AdaWKernelIdeal.main_arg1) = m ((c.tc : Thread Cert.AdaWKernelIdeal.nD Cert.AdaWKernelIdeal.τ).loc Cert.AdaWKernelIdeal.main_arg1)
          ∧ r.2.mem ((c.tc : Thread Cert.AdaWKernelIdeal.nD Cert.AdaWKernelIdeal.τ).loc Cert.AdaWKernelIdeal.main_arg2) = m ((c.tc : Thread Cert.AdaWKernelIdeal.nD Cert.AdaWKernelIdeal.τ).loc Cert.AdaWKernelIdeal.main_arg2)
          ∧ r.2.mem ((c.tc : Thread Cert.AdaWKernelIdeal.nD Cert.AdaWKernelIdeal.τ).loc Cert.AdaWKernelIdeal.main_arg3) = m ((c.tc : Thread Cert.AdaWKernelIdeal.nD Cert.AdaWKernelIdeal.τ).loc Cert.AdaWKernelIdeal.main_arg3))
      ∧ θ_run (Cert.AdaWReferenceIdeal.defs (F := Ideal)) (onTc (τ := Cert.AdaWReferenceIdeal.τ) (Cert.AdaWReferenceIdeal.main (F := Ideal))) ⟨m', fun _ => 0, g'⟩ (fun r => ∀ c : Dev Cert.AdaWReferenceIdeal.nD,
          r.2.mem ((c.tc : Thread Cert.AdaWReferenceIdeal.nD Cert.AdaWReferenceIdeal.τ).loc Cert.AdaWReferenceIdeal.main_v0) = v0 c
          ∧ r.2.mem ((c.tc : Thread Cert.AdaWReferenceIdeal.nD Cert.AdaWReferenceIdeal.τ).loc Cert.AdaWReferenceIdeal.main_v24) = v1 c
          ∧ r.2.mem ((c.tc : Thread Cert.AdaWReferenceIdeal.nD Cert.AdaWReferenceIdeal.τ).loc Cert.AdaWReferenceIdeal.main_v5) = v2 c
          ∧ r.2.mem ((c.tc : Thread Cert.AdaWReferenceIdeal.nD Cert.AdaWReferenceIdeal.τ).loc Cert.AdaWReferenceIdeal.main_v11) = v3 c
          ∧ r.2.mem ((c.tc : Thread Cert.AdaWReferenceIdeal.nD Cert.AdaWReferenceIdeal.τ).loc Cert.AdaWReferenceIdeal.main_arg0) = m' ((c.tc : Thread Cert.AdaWReferenceIdeal.nD Cert.AdaWReferenceIdeal.τ).loc Cert.AdaWReferenceIdeal.main_arg0)
          ∧ r.2.mem ((c.tc : Thread Cert.AdaWReferenceIdeal.nD Cert.AdaWReferenceIdeal.τ).loc Cert.AdaWReferenceIdeal.main_arg1) = m' ((c.tc : Thread Cert.AdaWReferenceIdeal.nD Cert.AdaWReferenceIdeal.τ).loc Cert.AdaWReferenceIdeal.main_arg1)
          ∧ r.2.mem ((c.tc : Thread Cert.AdaWReferenceIdeal.nD Cert.AdaWReferenceIdeal.τ).loc Cert.AdaWReferenceIdeal.main_arg2) = m' ((c.tc : Thread Cert.AdaWReferenceIdeal.nD Cert.AdaWReferenceIdeal.τ).loc Cert.AdaWReferenceIdeal.main_arg2)
          ∧ r.2.mem ((c.tc : Thread Cert.AdaWReferenceIdeal.nD Cert.AdaWReferenceIdeal.τ).loc Cert.AdaWReferenceIdeal.main_arg3) = m' ((c.tc : Thread Cert.AdaWReferenceIdeal.nD Cert.AdaWReferenceIdeal.τ).loc Cert.AdaWReferenceIdeal.main_arg3))

def preserves_AdaBKernel_AdaBKernelIdeal : Prop :=
  True

def algebraic_AdaBKernelIdeal_AdaBReferenceIdeal [hAdaBKernelIdeal : Cert.AdaBKernelIdeal.Facts] [hAdaBReferenceIdeal : Cert.AdaBReferenceIdeal.Facts] : Prop :=
  ∀ (m : (ℓ : Loc Cert.AdaBKernelIdeal.nD Cert.AdaBKernelIdeal.τ Cert.AdaBKernelIdeal.sig) → Buf (Elt Ideal) ℓ) (g : Dev Cert.AdaBKernelIdeal.nD → PrngReg)
    (m' : (ℓ : Loc Cert.AdaBReferenceIdeal.nD Cert.AdaBReferenceIdeal.τ Cert.AdaBReferenceIdeal.sig) → Buf (Elt Ideal) ℓ) (g' : Dev Cert.AdaBReferenceIdeal.nD → PrngReg), Pre_AdaBKernelIdeal m →
    (∀ c : Dev Cert.AdaBKernelIdeal.nD,
      m' ((c.tc : Thread Cert.AdaBReferenceIdeal.nD Cert.AdaBReferenceIdeal.τ).loc Cert.AdaBReferenceIdeal.main_arg0) = m ((c.tc : Thread Cert.AdaBKernelIdeal.nD Cert.AdaBKernelIdeal.τ).loc Cert.AdaBKernelIdeal.main_arg0)
      ∧ m' ((c.tc : Thread Cert.AdaBReferenceIdeal.nD Cert.AdaBReferenceIdeal.τ).loc Cert.AdaBReferenceIdeal.main_arg1) = m ((c.tc : Thread Cert.AdaBKernelIdeal.nD Cert.AdaBKernelIdeal.τ).loc Cert.AdaBKernelIdeal.main_arg1)
      ∧ m' ((c.tc : Thread Cert.AdaBReferenceIdeal.nD Cert.AdaBReferenceIdeal.τ).loc Cert.AdaBReferenceIdeal.main_arg2) = m ((c.tc : Thread Cert.AdaBKernelIdeal.nD Cert.AdaBKernelIdeal.τ).loc Cert.AdaBKernelIdeal.main_arg2)
      ∧ m' ((c.tc : Thread Cert.AdaBReferenceIdeal.nD Cert.AdaBReferenceIdeal.τ).loc Cert.AdaBReferenceIdeal.main_arg3) = m ((c.tc : Thread Cert.AdaBKernelIdeal.nD Cert.AdaBKernelIdeal.τ).loc Cert.AdaBKernelIdeal.main_arg3)) →
    ∃ (v0 : (c : Dev Cert.AdaBKernelIdeal.nD) → Buf (Elt Ideal) ((c.tc : Thread Cert.AdaBKernelIdeal.nD Cert.AdaBKernelIdeal.τ).loc Cert.AdaBKernelIdeal.main_v4_0)) (v1 : (c : Dev Cert.AdaBKernelIdeal.nD) → Buf (Elt Ideal) ((c.tc : Thread Cert.AdaBKernelIdeal.nD Cert.AdaBKernelIdeal.τ).loc Cert.AdaBKernelIdeal.main_v4_1)) (v2 : (c : Dev Cert.AdaBKernelIdeal.nD) → Buf (Elt Ideal) ((c.tc : Thread Cert.AdaBKernelIdeal.nD Cert.AdaBKernelIdeal.τ).loc Cert.AdaBKernelIdeal.main_v4_2)) (v3 : (c : Dev Cert.AdaBKernelIdeal.nD) → Buf (Elt Ideal) ((c.tc : Thread Cert.AdaBKernelIdeal.nD Cert.AdaBKernelIdeal.τ).loc Cert.AdaBKernelIdeal.main_v4_3)),
      θ_run (Cert.AdaBKernelIdeal.defs (F := Ideal)) (onTc (τ := Cert.AdaBKernelIdeal.τ) (Cert.AdaBKernelIdeal.main (F := Ideal))) ⟨m, fun _ => 0, g⟩ (fun r => ∀ c : Dev Cert.AdaBKernelIdeal.nD,
          r.2.mem ((c.tc : Thread Cert.AdaBKernelIdeal.nD Cert.AdaBKernelIdeal.τ).loc Cert.AdaBKernelIdeal.main_v4_0) = v0 c
          ∧ r.2.mem ((c.tc : Thread Cert.AdaBKernelIdeal.nD Cert.AdaBKernelIdeal.τ).loc Cert.AdaBKernelIdeal.main_v4_1) = v1 c
          ∧ r.2.mem ((c.tc : Thread Cert.AdaBKernelIdeal.nD Cert.AdaBKernelIdeal.τ).loc Cert.AdaBKernelIdeal.main_v4_2) = v2 c
          ∧ r.2.mem ((c.tc : Thread Cert.AdaBKernelIdeal.nD Cert.AdaBKernelIdeal.τ).loc Cert.AdaBKernelIdeal.main_v4_3) = v3 c
          ∧ r.2.mem ((c.tc : Thread Cert.AdaBKernelIdeal.nD Cert.AdaBKernelIdeal.τ).loc Cert.AdaBKernelIdeal.main_arg0) = m ((c.tc : Thread Cert.AdaBKernelIdeal.nD Cert.AdaBKernelIdeal.τ).loc Cert.AdaBKernelIdeal.main_arg0)
          ∧ r.2.mem ((c.tc : Thread Cert.AdaBKernelIdeal.nD Cert.AdaBKernelIdeal.τ).loc Cert.AdaBKernelIdeal.main_arg1) = m ((c.tc : Thread Cert.AdaBKernelIdeal.nD Cert.AdaBKernelIdeal.τ).loc Cert.AdaBKernelIdeal.main_arg1)
          ∧ r.2.mem ((c.tc : Thread Cert.AdaBKernelIdeal.nD Cert.AdaBKernelIdeal.τ).loc Cert.AdaBKernelIdeal.main_arg2) = m ((c.tc : Thread Cert.AdaBKernelIdeal.nD Cert.AdaBKernelIdeal.τ).loc Cert.AdaBKernelIdeal.main_arg2)
          ∧ r.2.mem ((c.tc : Thread Cert.AdaBKernelIdeal.nD Cert.AdaBKernelIdeal.τ).loc Cert.AdaBKernelIdeal.main_arg3) = m ((c.tc : Thread Cert.AdaBKernelIdeal.nD Cert.AdaBKernelIdeal.τ).loc Cert.AdaBKernelIdeal.main_arg3))
      ∧ θ_run (Cert.AdaBReferenceIdeal.defs (F := Ideal)) (onTc (τ := Cert.AdaBReferenceIdeal.τ) (Cert.AdaBReferenceIdeal.main (F := Ideal))) ⟨m', fun _ => 0, g'⟩ (fun r => ∀ c : Dev Cert.AdaBReferenceIdeal.nD,
          r.2.mem ((c.tc : Thread Cert.AdaBReferenceIdeal.nD Cert.AdaBReferenceIdeal.τ).loc Cert.AdaBReferenceIdeal.main_v25) = v0 c
          ∧ r.2.mem ((c.tc : Thread Cert.AdaBReferenceIdeal.nD Cert.AdaBReferenceIdeal.τ).loc Cert.AdaBReferenceIdeal.main_v26) = v1 c
          ∧ r.2.mem ((c.tc : Thread Cert.AdaBReferenceIdeal.nD Cert.AdaBReferenceIdeal.τ).loc Cert.AdaBReferenceIdeal.main_v27) = v2 c
          ∧ r.2.mem ((c.tc : Thread Cert.AdaBReferenceIdeal.nD Cert.AdaBReferenceIdeal.τ).loc Cert.AdaBReferenceIdeal.main_v28) = v3 c
          ∧ r.2.mem ((c.tc : Thread Cert.AdaBReferenceIdeal.nD Cert.AdaBReferenceIdeal.τ).loc Cert.AdaBReferenceIdeal.main_arg0) = m' ((c.tc : Thread Cert.AdaBReferenceIdeal.nD Cert.AdaBReferenceIdeal.τ).loc Cert.AdaBReferenceIdeal.main_arg0)
          ∧ r.2.mem ((c.tc : Thread Cert.AdaBReferenceIdeal.nD Cert.AdaBReferenceIdeal.τ).loc Cert.AdaBReferenceIdeal.main_arg1) = m' ((c.tc : Thread Cert.AdaBReferenceIdeal.nD Cert.AdaBReferenceIdeal.τ).loc Cert.AdaBReferenceIdeal.main_arg1)
          ∧ r.2.mem ((c.tc : Thread Cert.AdaBReferenceIdeal.nD Cert.AdaBReferenceIdeal.τ).loc Cert.AdaBReferenceIdeal.main_arg2) = m' ((c.tc : Thread Cert.AdaBReferenceIdeal.nD Cert.AdaBReferenceIdeal.τ).loc Cert.AdaBReferenceIdeal.main_arg2)
          ∧ r.2.mem ((c.tc : Thread Cert.AdaBReferenceIdeal.nD Cert.AdaBReferenceIdeal.τ).loc Cert.AdaBReferenceIdeal.main_arg3) = m' ((c.tc : Thread Cert.AdaBReferenceIdeal.nD Cert.AdaBReferenceIdeal.τ).loc Cert.AdaBReferenceIdeal.main_arg3))

def preserves_AdaNormKernel_AdaNormKernelIdeal : Prop :=
  True

def algebraic_AdaNormKernelIdeal_AdaNormReferenceIdeal [hAdaNormKernelIdeal : Cert.AdaNormKernelIdeal.Facts] [hAdaNormReferenceIdeal : Cert.AdaNormReferenceIdeal.Facts] : Prop :=
  ∀ (m : (ℓ : Loc Cert.AdaNormKernelIdeal.nD Cert.AdaNormKernelIdeal.τ Cert.AdaNormKernelIdeal.sig) → Buf (Elt Ideal) ℓ) (g : Dev Cert.AdaNormKernelIdeal.nD → PrngReg)
    (m' : (ℓ : Loc Cert.AdaNormReferenceIdeal.nD Cert.AdaNormReferenceIdeal.τ Cert.AdaNormReferenceIdeal.sig) → Buf (Elt Ideal) ℓ) (g' : Dev Cert.AdaNormReferenceIdeal.nD → PrngReg), Pre_AdaNormKernelIdeal m →
    (∀ c : Dev Cert.AdaNormKernelIdeal.nD,
      m' ((c.tc : Thread Cert.AdaNormReferenceIdeal.nD Cert.AdaNormReferenceIdeal.τ).loc Cert.AdaNormReferenceIdeal.main_arg0) = m ((c.tc : Thread Cert.AdaNormKernelIdeal.nD Cert.AdaNormKernelIdeal.τ).loc Cert.AdaNormKernelIdeal.main_arg0)
      ∧ m' ((c.tc : Thread Cert.AdaNormReferenceIdeal.nD Cert.AdaNormReferenceIdeal.τ).loc Cert.AdaNormReferenceIdeal.main_arg1) = m ((c.tc : Thread Cert.AdaNormKernelIdeal.nD Cert.AdaNormKernelIdeal.τ).loc Cert.AdaNormKernelIdeal.main_arg1)
      ∧ m' ((c.tc : Thread Cert.AdaNormReferenceIdeal.nD Cert.AdaNormReferenceIdeal.τ).loc Cert.AdaNormReferenceIdeal.main_arg2) = m ((c.tc : Thread Cert.AdaNormKernelIdeal.nD Cert.AdaNormKernelIdeal.τ).loc Cert.AdaNormKernelIdeal.main_arg2)
      ∧ m' ((c.tc : Thread Cert.AdaNormReferenceIdeal.nD Cert.AdaNormReferenceIdeal.τ).loc Cert.AdaNormReferenceIdeal.main_arg3) = m ((c.tc : Thread Cert.AdaNormKernelIdeal.nD Cert.AdaNormKernelIdeal.τ).loc Cert.AdaNormKernelIdeal.main_arg3)) →
    ∃ (v0 : (c : Dev Cert.AdaNormKernelIdeal.nD) → Buf (Elt Ideal) ((c.tc : Thread Cert.AdaNormKernelIdeal.nD Cert.AdaNormKernelIdeal.τ).loc Cert.AdaNormKernelIdeal.main_v4_0)) (v1 : (c : Dev Cert.AdaNormKernelIdeal.nD) → Buf (Elt Ideal) ((c.tc : Thread Cert.AdaNormKernelIdeal.nD Cert.AdaNormKernelIdeal.τ).loc Cert.AdaNormKernelIdeal.main_v4_1)) (v2 : (c : Dev Cert.AdaNormKernelIdeal.nD) → Buf (Elt Ideal) ((c.tc : Thread Cert.AdaNormKernelIdeal.nD Cert.AdaNormKernelIdeal.τ).loc Cert.AdaNormKernelIdeal.main_v4_2)) (v3 : (c : Dev Cert.AdaNormKernelIdeal.nD) → Buf (Elt Ideal) ((c.tc : Thread Cert.AdaNormKernelIdeal.nD Cert.AdaNormKernelIdeal.τ).loc Cert.AdaNormKernelIdeal.main_v4_3)),
      θ_run (Cert.AdaNormKernelIdeal.defs (F := Ideal)) (onTc (τ := Cert.AdaNormKernelIdeal.τ) (Cert.AdaNormKernelIdeal.main (F := Ideal))) ⟨m, fun _ => 0, g⟩ (fun r => ∀ c : Dev Cert.AdaNormKernelIdeal.nD,
          r.2.mem ((c.tc : Thread Cert.AdaNormKernelIdeal.nD Cert.AdaNormKernelIdeal.τ).loc Cert.AdaNormKernelIdeal.main_v4_0) = v0 c
          ∧ r.2.mem ((c.tc : Thread Cert.AdaNormKernelIdeal.nD Cert.AdaNormKernelIdeal.τ).loc Cert.AdaNormKernelIdeal.main_v4_1) = v1 c
          ∧ r.2.mem ((c.tc : Thread Cert.AdaNormKernelIdeal.nD Cert.AdaNormKernelIdeal.τ).loc Cert.AdaNormKernelIdeal.main_v4_2) = v2 c
          ∧ r.2.mem ((c.tc : Thread Cert.AdaNormKernelIdeal.nD Cert.AdaNormKernelIdeal.τ).loc Cert.AdaNormKernelIdeal.main_v4_3) = v3 c
          ∧ r.2.mem ((c.tc : Thread Cert.AdaNormKernelIdeal.nD Cert.AdaNormKernelIdeal.τ).loc Cert.AdaNormKernelIdeal.main_arg0) = m ((c.tc : Thread Cert.AdaNormKernelIdeal.nD Cert.AdaNormKernelIdeal.τ).loc Cert.AdaNormKernelIdeal.main_arg0)
          ∧ r.2.mem ((c.tc : Thread Cert.AdaNormKernelIdeal.nD Cert.AdaNormKernelIdeal.τ).loc Cert.AdaNormKernelIdeal.main_arg1) = m ((c.tc : Thread Cert.AdaNormKernelIdeal.nD Cert.AdaNormKernelIdeal.τ).loc Cert.AdaNormKernelIdeal.main_arg1)
          ∧ r.2.mem ((c.tc : Thread Cert.AdaNormKernelIdeal.nD Cert.AdaNormKernelIdeal.τ).loc Cert.AdaNormKernelIdeal.main_arg2) = m ((c.tc : Thread Cert.AdaNormKernelIdeal.nD Cert.AdaNormKernelIdeal.τ).loc Cert.AdaNormKernelIdeal.main_arg2)
          ∧ r.2.mem ((c.tc : Thread Cert.AdaNormKernelIdeal.nD Cert.AdaNormKernelIdeal.τ).loc Cert.AdaNormKernelIdeal.main_arg3) = m ((c.tc : Thread Cert.AdaNormKernelIdeal.nD Cert.AdaNormKernelIdeal.τ).loc Cert.AdaNormKernelIdeal.main_arg3))
      ∧ θ_run (Cert.AdaNormReferenceIdeal.defs (F := Ideal)) (onTc (τ := Cert.AdaNormReferenceIdeal.τ) (Cert.AdaNormReferenceIdeal.main (F := Ideal))) ⟨m', fun _ => 0, g'⟩ (fun r => ∀ c : Dev Cert.AdaNormReferenceIdeal.nD,
          r.2.mem ((c.tc : Thread Cert.AdaNormReferenceIdeal.nD Cert.AdaNormReferenceIdeal.τ).loc Cert.AdaNormReferenceIdeal.main_v25) = v0 c
          ∧ r.2.mem ((c.tc : Thread Cert.AdaNormReferenceIdeal.nD Cert.AdaNormReferenceIdeal.τ).loc Cert.AdaNormReferenceIdeal.main_v26) = v1 c
          ∧ r.2.mem ((c.tc : Thread Cert.AdaNormReferenceIdeal.nD Cert.AdaNormReferenceIdeal.τ).loc Cert.AdaNormReferenceIdeal.main_v27) = v2 c
          ∧ r.2.mem ((c.tc : Thread Cert.AdaNormReferenceIdeal.nD Cert.AdaNormReferenceIdeal.τ).loc Cert.AdaNormReferenceIdeal.main_v28) = v3 c
          ∧ r.2.mem ((c.tc : Thread Cert.AdaNormReferenceIdeal.nD Cert.AdaNormReferenceIdeal.τ).loc Cert.AdaNormReferenceIdeal.main_arg0) = m' ((c.tc : Thread Cert.AdaNormReferenceIdeal.nD Cert.AdaNormReferenceIdeal.τ).loc Cert.AdaNormReferenceIdeal.main_arg0)
          ∧ r.2.mem ((c.tc : Thread Cert.AdaNormReferenceIdeal.nD Cert.AdaNormReferenceIdeal.τ).loc Cert.AdaNormReferenceIdeal.main_arg1) = m' ((c.tc : Thread Cert.AdaNormReferenceIdeal.nD Cert.AdaNormReferenceIdeal.τ).loc Cert.AdaNormReferenceIdeal.main_arg1)
          ∧ r.2.mem ((c.tc : Thread Cert.AdaNormReferenceIdeal.nD Cert.AdaNormReferenceIdeal.τ).loc Cert.AdaNormReferenceIdeal.main_arg2) = m' ((c.tc : Thread Cert.AdaNormReferenceIdeal.nD Cert.AdaNormReferenceIdeal.τ).loc Cert.AdaNormReferenceIdeal.main_arg2)
          ∧ r.2.mem ((c.tc : Thread Cert.AdaNormReferenceIdeal.nD Cert.AdaNormReferenceIdeal.τ).loc Cert.AdaNormReferenceIdeal.main_arg3) = m' ((c.tc : Thread Cert.AdaNormReferenceIdeal.nD Cert.AdaNormReferenceIdeal.τ).loc Cert.AdaNormReferenceIdeal.main_arg3))

def preserves_AdaConvKernel_AdaConvKernelIdeal : Prop :=
  True

def algebraic_AdaConvKernelIdeal_AdaConvReferenceIdeal [hAdaConvKernelIdeal : Cert.AdaConvKernelIdeal.Facts] [hAdaConvReferenceIdeal : Cert.AdaConvReferenceIdeal.Facts] : Prop :=
  ∀ (m : (ℓ : Loc Cert.AdaConvKernelIdeal.nD Cert.AdaConvKernelIdeal.τ Cert.AdaConvKernelIdeal.sig) → Buf (Elt Ideal) ℓ) (g : Dev Cert.AdaConvKernelIdeal.nD → PrngReg)
    (m' : (ℓ : Loc Cert.AdaConvReferenceIdeal.nD Cert.AdaConvReferenceIdeal.τ Cert.AdaConvReferenceIdeal.sig) → Buf (Elt Ideal) ℓ) (g' : Dev Cert.AdaConvReferenceIdeal.nD → PrngReg), Pre_AdaConvKernelIdeal m →
    (∀ c : Dev Cert.AdaConvKernelIdeal.nD,
      m' ((c.tc : Thread Cert.AdaConvReferenceIdeal.nD Cert.AdaConvReferenceIdeal.τ).loc Cert.AdaConvReferenceIdeal.main_arg0) = m ((c.tc : Thread Cert.AdaConvKernelIdeal.nD Cert.AdaConvKernelIdeal.τ).loc Cert.AdaConvKernelIdeal.main_arg0)
      ∧ m' ((c.tc : Thread Cert.AdaConvReferenceIdeal.nD Cert.AdaConvReferenceIdeal.τ).loc Cert.AdaConvReferenceIdeal.main_arg1) = m ((c.tc : Thread Cert.AdaConvKernelIdeal.nD Cert.AdaConvKernelIdeal.τ).loc Cert.AdaConvKernelIdeal.main_arg1)
      ∧ m' ((c.tc : Thread Cert.AdaConvReferenceIdeal.nD Cert.AdaConvReferenceIdeal.τ).loc Cert.AdaConvReferenceIdeal.main_arg2) = m ((c.tc : Thread Cert.AdaConvKernelIdeal.nD Cert.AdaConvKernelIdeal.τ).loc Cert.AdaConvKernelIdeal.main_arg2)
      ∧ m' ((c.tc : Thread Cert.AdaConvReferenceIdeal.nD Cert.AdaConvReferenceIdeal.τ).loc Cert.AdaConvReferenceIdeal.main_arg3) = m ((c.tc : Thread Cert.AdaConvKernelIdeal.nD Cert.AdaConvKernelIdeal.τ).loc Cert.AdaConvKernelIdeal.main_arg3)) →
    ∃ (v0 : (c : Dev Cert.AdaConvKernelIdeal.nD) → Buf (Elt Ideal) ((c.tc : Thread Cert.AdaConvKernelIdeal.nD Cert.AdaConvKernelIdeal.τ).loc Cert.AdaConvKernelIdeal.main_v0_0)) (v1 : (c : Dev Cert.AdaConvKernelIdeal.nD) → Buf (Elt Ideal) ((c.tc : Thread Cert.AdaConvKernelIdeal.nD Cert.AdaConvKernelIdeal.τ).loc Cert.AdaConvKernelIdeal.main_v0_1)) (v2 : (c : Dev Cert.AdaConvKernelIdeal.nD) → Buf (Elt Ideal) ((c.tc : Thread Cert.AdaConvKernelIdeal.nD Cert.AdaConvKernelIdeal.τ).loc Cert.AdaConvKernelIdeal.main_v0_2)) (v3 : (c : Dev Cert.AdaConvKernelIdeal.nD) → Buf (Elt Ideal) ((c.tc : Thread Cert.AdaConvKernelIdeal.nD Cert.AdaConvKernelIdeal.τ).loc Cert.AdaConvKernelIdeal.main_v0_3)),
      θ_run (Cert.AdaConvKernelIdeal.defs (F := Ideal)) (onTc (τ := Cert.AdaConvKernelIdeal.τ) (Cert.AdaConvKernelIdeal.main (F := Ideal))) ⟨m, fun _ => 0, g⟩ (fun r => ∀ c : Dev Cert.AdaConvKernelIdeal.nD,
          r.2.mem ((c.tc : Thread Cert.AdaConvKernelIdeal.nD Cert.AdaConvKernelIdeal.τ).loc Cert.AdaConvKernelIdeal.main_v0_0) = v0 c
          ∧ r.2.mem ((c.tc : Thread Cert.AdaConvKernelIdeal.nD Cert.AdaConvKernelIdeal.τ).loc Cert.AdaConvKernelIdeal.main_v0_1) = v1 c
          ∧ r.2.mem ((c.tc : Thread Cert.AdaConvKernelIdeal.nD Cert.AdaConvKernelIdeal.τ).loc Cert.AdaConvKernelIdeal.main_v0_2) = v2 c
          ∧ r.2.mem ((c.tc : Thread Cert.AdaConvKernelIdeal.nD Cert.AdaConvKernelIdeal.τ).loc Cert.AdaConvKernelIdeal.main_v0_3) = v3 c
          ∧ r.2.mem ((c.tc : Thread Cert.AdaConvKernelIdeal.nD Cert.AdaConvKernelIdeal.τ).loc Cert.AdaConvKernelIdeal.main_arg0) = m ((c.tc : Thread Cert.AdaConvKernelIdeal.nD Cert.AdaConvKernelIdeal.τ).loc Cert.AdaConvKernelIdeal.main_arg0)
          ∧ r.2.mem ((c.tc : Thread Cert.AdaConvKernelIdeal.nD Cert.AdaConvKernelIdeal.τ).loc Cert.AdaConvKernelIdeal.main_arg1) = m ((c.tc : Thread Cert.AdaConvKernelIdeal.nD Cert.AdaConvKernelIdeal.τ).loc Cert.AdaConvKernelIdeal.main_arg1)
          ∧ r.2.mem ((c.tc : Thread Cert.AdaConvKernelIdeal.nD Cert.AdaConvKernelIdeal.τ).loc Cert.AdaConvKernelIdeal.main_arg2) = m ((c.tc : Thread Cert.AdaConvKernelIdeal.nD Cert.AdaConvKernelIdeal.τ).loc Cert.AdaConvKernelIdeal.main_arg2)
          ∧ r.2.mem ((c.tc : Thread Cert.AdaConvKernelIdeal.nD Cert.AdaConvKernelIdeal.τ).loc Cert.AdaConvKernelIdeal.main_arg3) = m ((c.tc : Thread Cert.AdaConvKernelIdeal.nD Cert.AdaConvKernelIdeal.τ).loc Cert.AdaConvKernelIdeal.main_arg3))
      ∧ θ_run (Cert.AdaConvReferenceIdeal.defs (F := Ideal)) (onTc (τ := Cert.AdaConvReferenceIdeal.τ) (Cert.AdaConvReferenceIdeal.main (F := Ideal))) ⟨m', fun _ => 0, g'⟩ (fun r => ∀ c : Dev Cert.AdaConvReferenceIdeal.nD,
          r.2.mem ((c.tc : Thread Cert.AdaConvReferenceIdeal.nD Cert.AdaConvReferenceIdeal.τ).loc Cert.AdaConvReferenceIdeal.main_v0) = v0 c
          ∧ r.2.mem ((c.tc : Thread Cert.AdaConvReferenceIdeal.nD Cert.AdaConvReferenceIdeal.τ).loc Cert.AdaConvReferenceIdeal.main_v24) = v1 c
          ∧ r.2.mem ((c.tc : Thread Cert.AdaConvReferenceIdeal.nD Cert.AdaConvReferenceIdeal.τ).loc Cert.AdaConvReferenceIdeal.main_v5) = v2 c
          ∧ r.2.mem ((c.tc : Thread Cert.AdaConvReferenceIdeal.nD Cert.AdaConvReferenceIdeal.τ).loc Cert.AdaConvReferenceIdeal.main_v11) = v3 c
          ∧ r.2.mem ((c.tc : Thread Cert.AdaConvReferenceIdeal.nD Cert.AdaConvReferenceIdeal.τ).loc Cert.AdaConvReferenceIdeal.main_arg0) = m' ((c.tc : Thread Cert.AdaConvReferenceIdeal.nD Cert.AdaConvReferenceIdeal.τ).loc Cert.AdaConvReferenceIdeal.main_arg0)
          ∧ r.2.mem ((c.tc : Thread Cert.AdaConvReferenceIdeal.nD Cert.AdaConvReferenceIdeal.τ).loc Cert.AdaConvReferenceIdeal.main_arg1) = m' ((c.tc : Thread Cert.AdaConvReferenceIdeal.nD Cert.AdaConvReferenceIdeal.τ).loc Cert.AdaConvReferenceIdeal.main_arg1)
          ∧ r.2.mem ((c.tc : Thread Cert.AdaConvReferenceIdeal.nD Cert.AdaConvReferenceIdeal.τ).loc Cert.AdaConvReferenceIdeal.main_arg2) = m' ((c.tc : Thread Cert.AdaConvReferenceIdeal.nD Cert.AdaConvReferenceIdeal.τ).loc Cert.AdaConvReferenceIdeal.main_arg2)
          ∧ r.2.mem ((c.tc : Thread Cert.AdaConvReferenceIdeal.nD Cert.AdaConvReferenceIdeal.τ).loc Cert.AdaConvReferenceIdeal.main_arg3) = m' ((c.tc : Thread Cert.AdaConvReferenceIdeal.nD Cert.AdaConvReferenceIdeal.τ).loc Cert.AdaConvReferenceIdeal.main_arg3))

def preserves_AdaQkKernel_AdaQkKernelIdeal : Prop :=
  True

def algebraic_AdaQkKernelIdeal_AdaQkReferenceIdeal [hAdaQkKernelIdeal : Cert.AdaQkKernelIdeal.Facts] [hAdaQkReferenceIdeal : Cert.AdaQkReferenceIdeal.Facts] : Prop :=
  ∀ (m : (ℓ : Loc Cert.AdaQkKernelIdeal.nD Cert.AdaQkKernelIdeal.τ Cert.AdaQkKernelIdeal.sig) → Buf (Elt Ideal) ℓ) (g : Dev Cert.AdaQkKernelIdeal.nD → PrngReg)
    (m' : (ℓ : Loc Cert.AdaQkReferenceIdeal.nD Cert.AdaQkReferenceIdeal.τ Cert.AdaQkReferenceIdeal.sig) → Buf (Elt Ideal) ℓ) (g' : Dev Cert.AdaQkReferenceIdeal.nD → PrngReg), Pre_AdaQkKernelIdeal m →
    (∀ c : Dev Cert.AdaQkKernelIdeal.nD,
      m' ((c.tc : Thread Cert.AdaQkReferenceIdeal.nD Cert.AdaQkReferenceIdeal.τ).loc Cert.AdaQkReferenceIdeal.main_arg0) = m ((c.tc : Thread Cert.AdaQkKernelIdeal.nD Cert.AdaQkKernelIdeal.τ).loc Cert.AdaQkKernelIdeal.main_arg0)
      ∧ m' ((c.tc : Thread Cert.AdaQkReferenceIdeal.nD Cert.AdaQkReferenceIdeal.τ).loc Cert.AdaQkReferenceIdeal.main_arg1) = m ((c.tc : Thread Cert.AdaQkKernelIdeal.nD Cert.AdaQkKernelIdeal.τ).loc Cert.AdaQkKernelIdeal.main_arg1)
      ∧ m' ((c.tc : Thread Cert.AdaQkReferenceIdeal.nD Cert.AdaQkReferenceIdeal.τ).loc Cert.AdaQkReferenceIdeal.main_arg2) = m ((c.tc : Thread Cert.AdaQkKernelIdeal.nD Cert.AdaQkKernelIdeal.τ).loc Cert.AdaQkKernelIdeal.main_arg2)
      ∧ m' ((c.tc : Thread Cert.AdaQkReferenceIdeal.nD Cert.AdaQkReferenceIdeal.τ).loc Cert.AdaQkReferenceIdeal.main_arg3) = m ((c.tc : Thread Cert.AdaQkKernelIdeal.nD Cert.AdaQkKernelIdeal.τ).loc Cert.AdaQkKernelIdeal.main_arg3)) →
    ∃ (v0 : (c : Dev Cert.AdaQkKernelIdeal.nD) → Buf (Elt Ideal) ((c.tc : Thread Cert.AdaQkKernelIdeal.nD Cert.AdaQkKernelIdeal.τ).loc Cert.AdaQkKernelIdeal.main_v4_0)) (v1 : (c : Dev Cert.AdaQkKernelIdeal.nD) → Buf (Elt Ideal) ((c.tc : Thread Cert.AdaQkKernelIdeal.nD Cert.AdaQkKernelIdeal.τ).loc Cert.AdaQkKernelIdeal.main_v4_1)) (v2 : (c : Dev Cert.AdaQkKernelIdeal.nD) → Buf (Elt Ideal) ((c.tc : Thread Cert.AdaQkKernelIdeal.nD Cert.AdaQkKernelIdeal.τ).loc Cert.AdaQkKernelIdeal.main_v4_2)) (v3 : (c : Dev Cert.AdaQkKernelIdeal.nD) → Buf (Elt Ideal) ((c.tc : Thread Cert.AdaQkKernelIdeal.nD Cert.AdaQkKernelIdeal.τ).loc Cert.AdaQkKernelIdeal.main_v4_3)),
      θ_run (Cert.AdaQkKernelIdeal.defs (F := Ideal)) (onTc (τ := Cert.AdaQkKernelIdeal.τ) (Cert.AdaQkKernelIdeal.main (F := Ideal))) ⟨m, fun _ => 0, g⟩ (fun r => ∀ c : Dev Cert.AdaQkKernelIdeal.nD,
          r.2.mem ((c.tc : Thread Cert.AdaQkKernelIdeal.nD Cert.AdaQkKernelIdeal.τ).loc Cert.AdaQkKernelIdeal.main_v4_0) = v0 c
          ∧ r.2.mem ((c.tc : Thread Cert.AdaQkKernelIdeal.nD Cert.AdaQkKernelIdeal.τ).loc Cert.AdaQkKernelIdeal.main_v4_1) = v1 c
          ∧ r.2.mem ((c.tc : Thread Cert.AdaQkKernelIdeal.nD Cert.AdaQkKernelIdeal.τ).loc Cert.AdaQkKernelIdeal.main_v4_2) = v2 c
          ∧ r.2.mem ((c.tc : Thread Cert.AdaQkKernelIdeal.nD Cert.AdaQkKernelIdeal.τ).loc Cert.AdaQkKernelIdeal.main_v4_3) = v3 c
          ∧ r.2.mem ((c.tc : Thread Cert.AdaQkKernelIdeal.nD Cert.AdaQkKernelIdeal.τ).loc Cert.AdaQkKernelIdeal.main_arg0) = m ((c.tc : Thread Cert.AdaQkKernelIdeal.nD Cert.AdaQkKernelIdeal.τ).loc Cert.AdaQkKernelIdeal.main_arg0)
          ∧ r.2.mem ((c.tc : Thread Cert.AdaQkKernelIdeal.nD Cert.AdaQkKernelIdeal.τ).loc Cert.AdaQkKernelIdeal.main_arg1) = m ((c.tc : Thread Cert.AdaQkKernelIdeal.nD Cert.AdaQkKernelIdeal.τ).loc Cert.AdaQkKernelIdeal.main_arg1)
          ∧ r.2.mem ((c.tc : Thread Cert.AdaQkKernelIdeal.nD Cert.AdaQkKernelIdeal.τ).loc Cert.AdaQkKernelIdeal.main_arg2) = m ((c.tc : Thread Cert.AdaQkKernelIdeal.nD Cert.AdaQkKernelIdeal.τ).loc Cert.AdaQkKernelIdeal.main_arg2)
          ∧ r.2.mem ((c.tc : Thread Cert.AdaQkKernelIdeal.nD Cert.AdaQkKernelIdeal.τ).loc Cert.AdaQkKernelIdeal.main_arg3) = m ((c.tc : Thread Cert.AdaQkKernelIdeal.nD Cert.AdaQkKernelIdeal.τ).loc Cert.AdaQkKernelIdeal.main_arg3))
      ∧ θ_run (Cert.AdaQkReferenceIdeal.defs (F := Ideal)) (onTc (τ := Cert.AdaQkReferenceIdeal.τ) (Cert.AdaQkReferenceIdeal.main (F := Ideal))) ⟨m', fun _ => 0, g'⟩ (fun r => ∀ c : Dev Cert.AdaQkReferenceIdeal.nD,
          r.2.mem ((c.tc : Thread Cert.AdaQkReferenceIdeal.nD Cert.AdaQkReferenceIdeal.τ).loc Cert.AdaQkReferenceIdeal.main_v25) = v0 c
          ∧ r.2.mem ((c.tc : Thread Cert.AdaQkReferenceIdeal.nD Cert.AdaQkReferenceIdeal.τ).loc Cert.AdaQkReferenceIdeal.main_v26) = v1 c
          ∧ r.2.mem ((c.tc : Thread Cert.AdaQkReferenceIdeal.nD Cert.AdaQkReferenceIdeal.τ).loc Cert.AdaQkReferenceIdeal.main_v27) = v2 c
          ∧ r.2.mem ((c.tc : Thread Cert.AdaQkReferenceIdeal.nD Cert.AdaQkReferenceIdeal.τ).loc Cert.AdaQkReferenceIdeal.main_v28) = v3 c
          ∧ r.2.mem ((c.tc : Thread Cert.AdaQkReferenceIdeal.nD Cert.AdaQkReferenceIdeal.τ).loc Cert.AdaQkReferenceIdeal.main_arg0) = m' ((c.tc : Thread Cert.AdaQkReferenceIdeal.nD Cert.AdaQkReferenceIdeal.τ).loc Cert.AdaQkReferenceIdeal.main_arg0)
          ∧ r.2.mem ((c.tc : Thread Cert.AdaQkReferenceIdeal.nD Cert.AdaQkReferenceIdeal.τ).loc Cert.AdaQkReferenceIdeal.main_arg1) = m' ((c.tc : Thread Cert.AdaQkReferenceIdeal.nD Cert.AdaQkReferenceIdeal.τ).loc Cert.AdaQkReferenceIdeal.main_arg1)
          ∧ r.2.mem ((c.tc : Thread Cert.AdaQkReferenceIdeal.nD Cert.AdaQkReferenceIdeal.τ).loc Cert.AdaQkReferenceIdeal.main_arg2) = m' ((c.tc : Thread Cert.AdaQkReferenceIdeal.nD Cert.AdaQkReferenceIdeal.τ).loc Cert.AdaQkReferenceIdeal.main_arg2)
          ∧ r.2.mem ((c.tc : Thread Cert.AdaQkReferenceIdeal.nD Cert.AdaQkReferenceIdeal.τ).loc Cert.AdaQkReferenceIdeal.main_arg3) = m' ((c.tc : Thread Cert.AdaQkReferenceIdeal.nD Cert.AdaQkReferenceIdeal.τ).loc Cert.AdaQkReferenceIdeal.main_arg3))

def preserves_AdaHeadKernel_AdaHeadKernelIdeal : Prop :=
  True

def algebraic_AdaHeadKernelIdeal_AdaHeadReferenceIdeal [hAdaHeadKernelIdeal : Cert.AdaHeadKernelIdeal.Facts] [hAdaHeadReferenceIdeal : Cert.AdaHeadReferenceIdeal.Facts] : Prop :=
  ∀ (m : (ℓ : Loc Cert.AdaHeadKernelIdeal.nD Cert.AdaHeadKernelIdeal.τ Cert.AdaHeadKernelIdeal.sig) → Buf (Elt Ideal) ℓ) (g : Dev Cert.AdaHeadKernelIdeal.nD → PrngReg)
    (m' : (ℓ : Loc Cert.AdaHeadReferenceIdeal.nD Cert.AdaHeadReferenceIdeal.τ Cert.AdaHeadReferenceIdeal.sig) → Buf (Elt Ideal) ℓ) (g' : Dev Cert.AdaHeadReferenceIdeal.nD → PrngReg), Pre_AdaHeadKernelIdeal m →
    (∀ c : Dev Cert.AdaHeadKernelIdeal.nD,
      m' ((c.tc : Thread Cert.AdaHeadReferenceIdeal.nD Cert.AdaHeadReferenceIdeal.τ).loc Cert.AdaHeadReferenceIdeal.main_arg0) = m ((c.tc : Thread Cert.AdaHeadKernelIdeal.nD Cert.AdaHeadKernelIdeal.τ).loc Cert.AdaHeadKernelIdeal.main_arg0)
      ∧ m' ((c.tc : Thread Cert.AdaHeadReferenceIdeal.nD Cert.AdaHeadReferenceIdeal.τ).loc Cert.AdaHeadReferenceIdeal.main_arg1) = m ((c.tc : Thread Cert.AdaHeadKernelIdeal.nD Cert.AdaHeadKernelIdeal.τ).loc Cert.AdaHeadKernelIdeal.main_arg1)
      ∧ m' ((c.tc : Thread Cert.AdaHeadReferenceIdeal.nD Cert.AdaHeadReferenceIdeal.τ).loc Cert.AdaHeadReferenceIdeal.main_arg2) = m ((c.tc : Thread Cert.AdaHeadKernelIdeal.nD Cert.AdaHeadKernelIdeal.τ).loc Cert.AdaHeadKernelIdeal.main_arg2)
      ∧ m' ((c.tc : Thread Cert.AdaHeadReferenceIdeal.nD Cert.AdaHeadReferenceIdeal.τ).loc Cert.AdaHeadReferenceIdeal.main_arg3) = m ((c.tc : Thread Cert.AdaHeadKernelIdeal.nD Cert.AdaHeadKernelIdeal.τ).loc Cert.AdaHeadKernelIdeal.main_arg3)) →
    ∃ (v0 : (c : Dev Cert.AdaHeadKernelIdeal.nD) → Buf (Elt Ideal) ((c.tc : Thread Cert.AdaHeadKernelIdeal.nD Cert.AdaHeadKernelIdeal.τ).loc Cert.AdaHeadKernelIdeal.main_v4_0)) (v1 : (c : Dev Cert.AdaHeadKernelIdeal.nD) → Buf (Elt Ideal) ((c.tc : Thread Cert.AdaHeadKernelIdeal.nD Cert.AdaHeadKernelIdeal.τ).loc Cert.AdaHeadKernelIdeal.main_v4_1)) (v2 : (c : Dev Cert.AdaHeadKernelIdeal.nD) → Buf (Elt Ideal) ((c.tc : Thread Cert.AdaHeadKernelIdeal.nD Cert.AdaHeadKernelIdeal.τ).loc Cert.AdaHeadKernelIdeal.main_v4_2)) (v3 : (c : Dev Cert.AdaHeadKernelIdeal.nD) → Buf (Elt Ideal) ((c.tc : Thread Cert.AdaHeadKernelIdeal.nD Cert.AdaHeadKernelIdeal.τ).loc Cert.AdaHeadKernelIdeal.main_v4_3)),
      θ_run (Cert.AdaHeadKernelIdeal.defs (F := Ideal)) (onTc (τ := Cert.AdaHeadKernelIdeal.τ) (Cert.AdaHeadKernelIdeal.main (F := Ideal))) ⟨m, fun _ => 0, g⟩ (fun r => ∀ c : Dev Cert.AdaHeadKernelIdeal.nD,
          r.2.mem ((c.tc : Thread Cert.AdaHeadKernelIdeal.nD Cert.AdaHeadKernelIdeal.τ).loc Cert.AdaHeadKernelIdeal.main_v4_0) = v0 c
          ∧ r.2.mem ((c.tc : Thread Cert.AdaHeadKernelIdeal.nD Cert.AdaHeadKernelIdeal.τ).loc Cert.AdaHeadKernelIdeal.main_v4_1) = v1 c
          ∧ r.2.mem ((c.tc : Thread Cert.AdaHeadKernelIdeal.nD Cert.AdaHeadKernelIdeal.τ).loc Cert.AdaHeadKernelIdeal.main_v4_2) = v2 c
          ∧ r.2.mem ((c.tc : Thread Cert.AdaHeadKernelIdeal.nD Cert.AdaHeadKernelIdeal.τ).loc Cert.AdaHeadKernelIdeal.main_v4_3) = v3 c
          ∧ r.2.mem ((c.tc : Thread Cert.AdaHeadKernelIdeal.nD Cert.AdaHeadKernelIdeal.τ).loc Cert.AdaHeadKernelIdeal.main_arg0) = m ((c.tc : Thread Cert.AdaHeadKernelIdeal.nD Cert.AdaHeadKernelIdeal.τ).loc Cert.AdaHeadKernelIdeal.main_arg0)
          ∧ r.2.mem ((c.tc : Thread Cert.AdaHeadKernelIdeal.nD Cert.AdaHeadKernelIdeal.τ).loc Cert.AdaHeadKernelIdeal.main_arg1) = m ((c.tc : Thread Cert.AdaHeadKernelIdeal.nD Cert.AdaHeadKernelIdeal.τ).loc Cert.AdaHeadKernelIdeal.main_arg1)
          ∧ r.2.mem ((c.tc : Thread Cert.AdaHeadKernelIdeal.nD Cert.AdaHeadKernelIdeal.τ).loc Cert.AdaHeadKernelIdeal.main_arg2) = m ((c.tc : Thread Cert.AdaHeadKernelIdeal.nD Cert.AdaHeadKernelIdeal.τ).loc Cert.AdaHeadKernelIdeal.main_arg2)
          ∧ r.2.mem ((c.tc : Thread Cert.AdaHeadKernelIdeal.nD Cert.AdaHeadKernelIdeal.τ).loc Cert.AdaHeadKernelIdeal.main_arg3) = m ((c.tc : Thread Cert.AdaHeadKernelIdeal.nD Cert.AdaHeadKernelIdeal.τ).loc Cert.AdaHeadKernelIdeal.main_arg3))
      ∧ θ_run (Cert.AdaHeadReferenceIdeal.defs (F := Ideal)) (onTc (τ := Cert.AdaHeadReferenceIdeal.τ) (Cert.AdaHeadReferenceIdeal.main (F := Ideal))) ⟨m', fun _ => 0, g'⟩ (fun r => ∀ c : Dev Cert.AdaHeadReferenceIdeal.nD,
          r.2.mem ((c.tc : Thread Cert.AdaHeadReferenceIdeal.nD Cert.AdaHeadReferenceIdeal.τ).loc Cert.AdaHeadReferenceIdeal.main_v25) = v0 c
          ∧ r.2.mem ((c.tc : Thread Cert.AdaHeadReferenceIdeal.nD Cert.AdaHeadReferenceIdeal.τ).loc Cert.AdaHeadReferenceIdeal.main_v26) = v1 c
          ∧ r.2.mem ((c.tc : Thread Cert.AdaHeadReferenceIdeal.nD Cert.AdaHeadReferenceIdeal.τ).loc Cert.AdaHeadReferenceIdeal.main_v27) = v2 c
          ∧ r.2.mem ((c.tc : Thread Cert.AdaHeadReferenceIdeal.nD Cert.AdaHeadReferenceIdeal.τ).loc Cert.AdaHeadReferenceIdeal.main_v28) = v3 c
          ∧ r.2.mem ((c.tc : Thread Cert.AdaHeadReferenceIdeal.nD Cert.AdaHeadReferenceIdeal.τ).loc Cert.AdaHeadReferenceIdeal.main_arg0) = m' ((c.tc : Thread Cert.AdaHeadReferenceIdeal.nD Cert.AdaHeadReferenceIdeal.τ).loc Cert.AdaHeadReferenceIdeal.main_arg0)
          ∧ r.2.mem ((c.tc : Thread Cert.AdaHeadReferenceIdeal.nD Cert.AdaHeadReferenceIdeal.τ).loc Cert.AdaHeadReferenceIdeal.main_arg1) = m' ((c.tc : Thread Cert.AdaHeadReferenceIdeal.nD Cert.AdaHeadReferenceIdeal.τ).loc Cert.AdaHeadReferenceIdeal.main_arg1)
          ∧ r.2.mem ((c.tc : Thread Cert.AdaHeadReferenceIdeal.nD Cert.AdaHeadReferenceIdeal.τ).loc Cert.AdaHeadReferenceIdeal.main_arg2) = m' ((c.tc : Thread Cert.AdaHeadReferenceIdeal.nD Cert.AdaHeadReferenceIdeal.τ).loc Cert.AdaHeadReferenceIdeal.main_arg2)
          ∧ r.2.mem ((c.tc : Thread Cert.AdaHeadReferenceIdeal.nD Cert.AdaHeadReferenceIdeal.τ).loc Cert.AdaHeadReferenceIdeal.main_arg3) = m' ((c.tc : Thread Cert.AdaHeadReferenceIdeal.nD Cert.AdaHeadReferenceIdeal.τ).loc Cert.AdaHeadReferenceIdeal.main_arg3))

def preserves_AdaDnKernel_AdaDnKernelIdeal : Prop :=
  True

def algebraic_AdaDnKernelIdeal_AdaDnReferenceIdeal [hAdaDnKernelIdeal : Cert.AdaDnKernelIdeal.Facts] [hAdaDnReferenceIdeal : Cert.AdaDnReferenceIdeal.Facts] : Prop :=
  ∀ (m : (ℓ : Loc Cert.AdaDnKernelIdeal.nD Cert.AdaDnKernelIdeal.τ Cert.AdaDnKernelIdeal.sig) → Buf (Elt Ideal) ℓ) (g : Dev Cert.AdaDnKernelIdeal.nD → PrngReg)
    (m' : (ℓ : Loc Cert.AdaDnReferenceIdeal.nD Cert.AdaDnReferenceIdeal.τ Cert.AdaDnReferenceIdeal.sig) → Buf (Elt Ideal) ℓ) (g' : Dev Cert.AdaDnReferenceIdeal.nD → PrngReg), Pre_AdaDnKernelIdeal m →
    (∀ c : Dev Cert.AdaDnKernelIdeal.nD,
      m' ((c.tc : Thread Cert.AdaDnReferenceIdeal.nD Cert.AdaDnReferenceIdeal.τ).loc Cert.AdaDnReferenceIdeal.main_arg0) = m ((c.tc : Thread Cert.AdaDnKernelIdeal.nD Cert.AdaDnKernelIdeal.τ).loc Cert.AdaDnKernelIdeal.main_arg0)
      ∧ m' ((c.tc : Thread Cert.AdaDnReferenceIdeal.nD Cert.AdaDnReferenceIdeal.τ).loc Cert.AdaDnReferenceIdeal.main_arg1) = m ((c.tc : Thread Cert.AdaDnKernelIdeal.nD Cert.AdaDnKernelIdeal.τ).loc Cert.AdaDnKernelIdeal.main_arg1)
      ∧ m' ((c.tc : Thread Cert.AdaDnReferenceIdeal.nD Cert.AdaDnReferenceIdeal.τ).loc Cert.AdaDnReferenceIdeal.main_arg2) = m ((c.tc : Thread Cert.AdaDnKernelIdeal.nD Cert.AdaDnKernelIdeal.τ).loc Cert.AdaDnKernelIdeal.main_arg2)
      ∧ m' ((c.tc : Thread Cert.AdaDnReferenceIdeal.nD Cert.AdaDnReferenceIdeal.τ).loc Cert.AdaDnReferenceIdeal.main_arg3) = m ((c.tc : Thread Cert.AdaDnKernelIdeal.nD Cert.AdaDnKernelIdeal.τ).loc Cert.AdaDnKernelIdeal.main_arg3)) →
    ∃ (v0 : (c : Dev Cert.AdaDnKernelIdeal.nD) → Buf (Elt Ideal) ((c.tc : Thread Cert.AdaDnKernelIdeal.nD Cert.AdaDnKernelIdeal.τ).loc Cert.AdaDnKernelIdeal.main_v4_0)) (v1 : (c : Dev Cert.AdaDnKernelIdeal.nD) → Buf (Elt Ideal) ((c.tc : Thread Cert.AdaDnKernelIdeal.nD Cert.AdaDnKernelIdeal.τ).loc Cert.AdaDnKernelIdeal.main_v4_1)) (v2 : (c : Dev Cert.AdaDnKernelIdeal.nD) → Buf (Elt Ideal) ((c.tc : Thread Cert.AdaDnKernelIdeal.nD Cert.AdaDnKernelIdeal.τ).loc Cert.AdaDnKernelIdeal.main_v4_2)) (v3 : (c : Dev Cert.AdaDnKernelIdeal.nD) → Buf (Elt Ideal) ((c.tc : Thread Cert.AdaDnKernelIdeal.nD Cert.AdaDnKernelIdeal.τ).loc Cert.AdaDnKernelIdeal.main_v4_3)),
      θ_run (Cert.AdaDnKernelIdeal.defs (F := Ideal)) (onTc (τ := Cert.AdaDnKernelIdeal.τ) (Cert.AdaDnKernelIdeal.main (F := Ideal))) ⟨m, fun _ => 0, g⟩ (fun r => ∀ c : Dev Cert.AdaDnKernelIdeal.nD,
          r.2.mem ((c.tc : Thread Cert.AdaDnKernelIdeal.nD Cert.AdaDnKernelIdeal.τ).loc Cert.AdaDnKernelIdeal.main_v4_0) = v0 c
          ∧ r.2.mem ((c.tc : Thread Cert.AdaDnKernelIdeal.nD Cert.AdaDnKernelIdeal.τ).loc Cert.AdaDnKernelIdeal.main_v4_1) = v1 c
          ∧ r.2.mem ((c.tc : Thread Cert.AdaDnKernelIdeal.nD Cert.AdaDnKernelIdeal.τ).loc Cert.AdaDnKernelIdeal.main_v4_2) = v2 c
          ∧ r.2.mem ((c.tc : Thread Cert.AdaDnKernelIdeal.nD Cert.AdaDnKernelIdeal.τ).loc Cert.AdaDnKernelIdeal.main_v4_3) = v3 c
          ∧ r.2.mem ((c.tc : Thread Cert.AdaDnKernelIdeal.nD Cert.AdaDnKernelIdeal.τ).loc Cert.AdaDnKernelIdeal.main_arg0) = m ((c.tc : Thread Cert.AdaDnKernelIdeal.nD Cert.AdaDnKernelIdeal.τ).loc Cert.AdaDnKernelIdeal.main_arg0)
          ∧ r.2.mem ((c.tc : Thread Cert.AdaDnKernelIdeal.nD Cert.AdaDnKernelIdeal.τ).loc Cert.AdaDnKernelIdeal.main_arg1) = m ((c.tc : Thread Cert.AdaDnKernelIdeal.nD Cert.AdaDnKernelIdeal.τ).loc Cert.AdaDnKernelIdeal.main_arg1)
          ∧ r.2.mem ((c.tc : Thread Cert.AdaDnKernelIdeal.nD Cert.AdaDnKernelIdeal.τ).loc Cert.AdaDnKernelIdeal.main_arg2) = m ((c.tc : Thread Cert.AdaDnKernelIdeal.nD Cert.AdaDnKernelIdeal.τ).loc Cert.AdaDnKernelIdeal.main_arg2)
          ∧ r.2.mem ((c.tc : Thread Cert.AdaDnKernelIdeal.nD Cert.AdaDnKernelIdeal.τ).loc Cert.AdaDnKernelIdeal.main_arg3) = m ((c.tc : Thread Cert.AdaDnKernelIdeal.nD Cert.AdaDnKernelIdeal.τ).loc Cert.AdaDnKernelIdeal.main_arg3))
      ∧ θ_run (Cert.AdaDnReferenceIdeal.defs (F := Ideal)) (onTc (τ := Cert.AdaDnReferenceIdeal.τ) (Cert.AdaDnReferenceIdeal.main (F := Ideal))) ⟨m', fun _ => 0, g'⟩ (fun r => ∀ c : Dev Cert.AdaDnReferenceIdeal.nD,
          r.2.mem ((c.tc : Thread Cert.AdaDnReferenceIdeal.nD Cert.AdaDnReferenceIdeal.τ).loc Cert.AdaDnReferenceIdeal.main_v25) = v0 c
          ∧ r.2.mem ((c.tc : Thread Cert.AdaDnReferenceIdeal.nD Cert.AdaDnReferenceIdeal.τ).loc Cert.AdaDnReferenceIdeal.main_v26) = v1 c
          ∧ r.2.mem ((c.tc : Thread Cert.AdaDnReferenceIdeal.nD Cert.AdaDnReferenceIdeal.τ).loc Cert.AdaDnReferenceIdeal.main_v27) = v2 c
          ∧ r.2.mem ((c.tc : Thread Cert.AdaDnReferenceIdeal.nD Cert.AdaDnReferenceIdeal.τ).loc Cert.AdaDnReferenceIdeal.main_v28) = v3 c
          ∧ r.2.mem ((c.tc : Thread Cert.AdaDnReferenceIdeal.nD Cert.AdaDnReferenceIdeal.τ).loc Cert.AdaDnReferenceIdeal.main_arg0) = m' ((c.tc : Thread Cert.AdaDnReferenceIdeal.nD Cert.AdaDnReferenceIdeal.τ).loc Cert.AdaDnReferenceIdeal.main_arg0)
          ∧ r.2.mem ((c.tc : Thread Cert.AdaDnReferenceIdeal.nD Cert.AdaDnReferenceIdeal.τ).loc Cert.AdaDnReferenceIdeal.main_arg1) = m' ((c.tc : Thread Cert.AdaDnReferenceIdeal.nD Cert.AdaDnReferenceIdeal.τ).loc Cert.AdaDnReferenceIdeal.main_arg1)
          ∧ r.2.mem ((c.tc : Thread Cert.AdaDnReferenceIdeal.nD Cert.AdaDnReferenceIdeal.τ).loc Cert.AdaDnReferenceIdeal.main_arg2) = m' ((c.tc : Thread Cert.AdaDnReferenceIdeal.nD Cert.AdaDnReferenceIdeal.τ).loc Cert.AdaDnReferenceIdeal.main_arg2)
          ∧ r.2.mem ((c.tc : Thread Cert.AdaDnReferenceIdeal.nD Cert.AdaDnReferenceIdeal.τ).loc Cert.AdaDnReferenceIdeal.main_arg3) = m' ((c.tc : Thread Cert.AdaDnReferenceIdeal.nD Cert.AdaDnReferenceIdeal.τ).loc Cert.AdaDnReferenceIdeal.main_arg3))

def Claim : Prop :=
  ∃ (hKernel : Cert.Kernel.Facts) (hKernelIdeal : Cert.KernelIdeal.Facts) (hUpWgKernel : Cert.UpWgKernel.Facts) (hUpWgKernelIdeal : Cert.UpWgKernelIdeal.Facts) (hUpWgReferenceIdeal : Cert.UpWgReferenceIdeal.Facts) (hUpDgKernel : Cert.UpDgKernel.Facts) (hUpDgKernelIdeal : Cert.UpDgKernelIdeal.Facts) (hUpDgReferenceIdeal : Cert.UpDgReferenceIdeal.Facts) (hWInWgKernel : Cert.WInWgKernel.Facts) (hWInWgKernelIdeal : Cert.WInWgKernelIdeal.Facts) (hWInWgReferenceIdeal : Cert.WInWgReferenceIdeal.Facts) (hWInDgKernel : Cert.WInDgKernel.Facts) (hWInDgKernelIdeal : Cert.WInDgKernelIdeal.Facts) (hWInDgReferenceIdeal : Cert.WInDgReferenceIdeal.Facts) (hWInKernel : Cert.WInKernel.Facts) (hWInKernelIdeal : Cert.WInKernelIdeal.Facts) (hWInReferenceIdeal : Cert.WInReferenceIdeal.Facts) (hUpFwdKernel : Cert.UpFwdKernel.Facts) (hUpFwdKernelIdeal : Cert.UpFwdKernelIdeal.Facts) (hUpFwdReferenceIdeal : Cert.UpFwdReferenceIdeal.Facts) (hDownFwdKernel : Cert.DownFwdKernel.Facts) (hDownFwdKernelIdeal : Cert.DownFwdKernelIdeal.Facts) (hDownFwdReferenceIdeal : Cert.DownFwdReferenceIdeal.Facts) (hDownWgKernel : Cert.DownWgKernel.Facts) (hDownWgKernelIdeal : Cert.DownWgKernelIdeal.Facts) (hDownWgReferenceIdeal : Cert.DownWgReferenceIdeal.Facts) (hDactKernel : Cert.DactKernel.Facts) (hDactKernelIdeal : Cert.DactKernelIdeal.Facts) (hDactReferenceIdeal : Cert.DactReferenceIdeal.Facts) (hMergeKernel : Cert.MergeKernel.Facts) (hMergeKernelIdeal : Cert.MergeKernelIdeal.Facts) (hMergeReferenceIdeal : Cert.MergeReferenceIdeal.Facts) (hAdaWKernel : Cert.AdaWKernel.Facts) (hAdaWKernelIdeal : Cert.AdaWKernelIdeal.Facts) (hAdaWReferenceIdeal : Cert.AdaWReferenceIdeal.Facts) (hAdaBKernel : Cert.AdaBKernel.Facts) (hAdaBKernelIdeal : Cert.AdaBKernelIdeal.Facts) (hAdaBReferenceIdeal : Cert.AdaBReferenceIdeal.Facts) (hAdaNormKernel : Cert.AdaNormKernel.Facts) (hAdaNormKernelIdeal : Cert.AdaNormKernelIdeal.Facts) (hAdaNormReferenceIdeal : Cert.AdaNormReferenceIdeal.Facts) (hAdaConvKernel : Cert.AdaConvKernel.Facts) (hAdaConvKernelIdeal : Cert.AdaConvKernelIdeal.Facts) (hAdaConvReferenceIdeal : Cert.AdaConvReferenceIdeal.Facts) (hAdaQkKernel : Cert.AdaQkKernel.Facts) (hAdaQkKernelIdeal : Cert.AdaQkKernelIdeal.Facts) (hAdaQkReferenceIdeal : Cert.AdaQkReferenceIdeal.Facts) (hAdaHeadKernel : Cert.AdaHeadKernel.Facts) (hAdaHeadKernelIdeal : Cert.AdaHeadKernelIdeal.Facts) (hAdaHeadReferenceIdeal : Cert.AdaHeadReferenceIdeal.Facts) (hAdaDnKernel : Cert.AdaDnKernel.Facts) (hAdaDnKernelIdeal : Cert.AdaDnKernelIdeal.Facts) (hAdaDnReferenceIdeal : Cert.AdaDnReferenceIdeal.Facts) (hPre_a_gt_dxo_finite : Cert.Pre_a_gt_dxo_finite.Facts) (hPre_dact_finite : Cert.Pre_dact_finite.Facts),
    quiescent_Kernel (hKernel := hKernel)
    ∧ quiescent_KernelIdeal (hKernelIdeal := hKernelIdeal)
    ∧ quiescent_UpWgKernel (hUpWgKernel := hUpWgKernel)
    ∧ quiescent_UpWgKernelIdeal (hUpWgKernelIdeal := hUpWgKernelIdeal)
    ∧ quiescent_UpWgReferenceIdeal (hUpWgReferenceIdeal := hUpWgReferenceIdeal)
    ∧ quiescent_UpDgKernel (hUpDgKernel := hUpDgKernel)
    ∧ quiescent_UpDgKernelIdeal (hUpDgKernelIdeal := hUpDgKernelIdeal)
    ∧ quiescent_UpDgReferenceIdeal (hUpDgReferenceIdeal := hUpDgReferenceIdeal)
    ∧ quiescent_WInWgKernel (hWInWgKernel := hWInWgKernel)
    ∧ quiescent_WInWgKernelIdeal (hWInWgKernelIdeal := hWInWgKernelIdeal)
    ∧ quiescent_WInWgReferenceIdeal (hWInWgReferenceIdeal := hWInWgReferenceIdeal)
    ∧ quiescent_WInDgKernel (hWInDgKernel := hWInDgKernel)
    ∧ quiescent_WInDgKernelIdeal (hWInDgKernelIdeal := hWInDgKernelIdeal)
    ∧ quiescent_WInDgReferenceIdeal (hWInDgReferenceIdeal := hWInDgReferenceIdeal)
    ∧ quiescent_WInKernel (hWInKernel := hWInKernel)
    ∧ quiescent_WInKernelIdeal (hWInKernelIdeal := hWInKernelIdeal)
    ∧ quiescent_WInReferenceIdeal (hWInReferenceIdeal := hWInReferenceIdeal)
    ∧ quiescent_UpFwdKernel (hUpFwdKernel := hUpFwdKernel)
    ∧ quiescent_UpFwdKernelIdeal (hUpFwdKernelIdeal := hUpFwdKernelIdeal)
    ∧ quiescent_UpFwdReferenceIdeal (hUpFwdReferenceIdeal := hUpFwdReferenceIdeal)
    ∧ quiescent_DownFwdKernel (hDownFwdKernel := hDownFwdKernel)
    ∧ quiescent_DownFwdKernelIdeal (hDownFwdKernelIdeal := hDownFwdKernelIdeal)
    ∧ quiescent_DownFwdReferenceIdeal (hDownFwdReferenceIdeal := hDownFwdReferenceIdeal)
    ∧ quiescent_DownWgKernel (hDownWgKernel := hDownWgKernel)
    ∧ quiescent_DownWgKernelIdeal (hDownWgKernelIdeal := hDownWgKernelIdeal)
    ∧ quiescent_DownWgKernelIdeal_pre_a_gt_dxo_finite (hDownWgKernelIdeal := hDownWgKernelIdeal) (hPre_a_gt_dxo_finite := hPre_a_gt_dxo_finite)
    ∧ quiescent_DownWgReferenceIdeal (hDownWgReferenceIdeal := hDownWgReferenceIdeal)
    ∧ quiescent_DownWgReferenceIdeal_pre_a_gt_dxo_finite (hDownWgReferenceIdeal := hDownWgReferenceIdeal) (hPre_a_gt_dxo_finite := hPre_a_gt_dxo_finite)
    ∧ quiescent_DactKernel (hDactKernel := hDactKernel)
    ∧ quiescent_DactKernelIdeal (hDactKernelIdeal := hDactKernelIdeal)
    ∧ quiescent_DactKernelIdeal_pre_dact_finite (hDactKernelIdeal := hDactKernelIdeal) (hPre_dact_finite := hPre_dact_finite)
    ∧ quiescent_DactReferenceIdeal (hDactReferenceIdeal := hDactReferenceIdeal)
    ∧ quiescent_DactReferenceIdeal_pre_dact_finite (hDactReferenceIdeal := hDactReferenceIdeal) (hPre_dact_finite := hPre_dact_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_AdaWKernel (hAdaWKernel := hAdaWKernel)
    ∧ quiescent_AdaWKernelIdeal (hAdaWKernelIdeal := hAdaWKernelIdeal)
    ∧ quiescent_AdaWReferenceIdeal (hAdaWReferenceIdeal := hAdaWReferenceIdeal)
    ∧ quiescent_AdaBKernel (hAdaBKernel := hAdaBKernel)
    ∧ quiescent_AdaBKernelIdeal (hAdaBKernelIdeal := hAdaBKernelIdeal)
    ∧ quiescent_AdaBReferenceIdeal (hAdaBReferenceIdeal := hAdaBReferenceIdeal)
    ∧ quiescent_AdaNormKernel (hAdaNormKernel := hAdaNormKernel)
    ∧ quiescent_AdaNormKernelIdeal (hAdaNormKernelIdeal := hAdaNormKernelIdeal)
    ∧ quiescent_AdaNormReferenceIdeal (hAdaNormReferenceIdeal := hAdaNormReferenceIdeal)
    ∧ quiescent_AdaConvKernel (hAdaConvKernel := hAdaConvKernel)
    ∧ quiescent_AdaConvKernelIdeal (hAdaConvKernelIdeal := hAdaConvKernelIdeal)
    ∧ quiescent_AdaConvReferenceIdeal (hAdaConvReferenceIdeal := hAdaConvReferenceIdeal)
    ∧ quiescent_AdaQkKernel (hAdaQkKernel := hAdaQkKernel)
    ∧ quiescent_AdaQkKernelIdeal (hAdaQkKernelIdeal := hAdaQkKernelIdeal)
    ∧ quiescent_AdaQkReferenceIdeal (hAdaQkReferenceIdeal := hAdaQkReferenceIdeal)
    ∧ quiescent_AdaHeadKernel (hAdaHeadKernel := hAdaHeadKernel)
    ∧ quiescent_AdaHeadKernelIdeal (hAdaHeadKernelIdeal := hAdaHeadKernelIdeal)
    ∧ quiescent_AdaHeadReferenceIdeal (hAdaHeadReferenceIdeal := hAdaHeadReferenceIdeal)
    ∧ quiescent_AdaDnKernel (hAdaDnKernel := hAdaDnKernel)
    ∧ quiescent_AdaDnKernelIdeal (hAdaDnKernelIdeal := hAdaDnKernelIdeal)
    ∧ quiescent_AdaDnReferenceIdeal (hAdaDnReferenceIdeal := hAdaDnReferenceIdeal)
    ∧ preserves_Kernel_KernelIdeal
    ∧ preserves_UpWgKernel_UpWgKernelIdeal
    ∧ algebraic_UpWgKernelIdeal_UpWgReferenceIdeal (hUpWgKernelIdeal := hUpWgKernelIdeal) (hUpWgReferenceIdeal := hUpWgReferenceIdeal)
    ∧ preserves_UpDgKernel_UpDgKernelIdeal
    ∧ algebraic_UpDgKernelIdeal_UpDgReferenceIdeal (hUpDgKernelIdeal := hUpDgKernelIdeal) (hUpDgReferenceIdeal := hUpDgReferenceIdeal)
    ∧ preserves_WInWgKernel_WInWgKernelIdeal
    ∧ algebraic_WInWgKernelIdeal_WInWgReferenceIdeal (hWInWgKernelIdeal := hWInWgKernelIdeal) (hWInWgReferenceIdeal := hWInWgReferenceIdeal)
    ∧ preserves_WInDgKernel_WInDgKernelIdeal
    ∧ algebraic_WInDgKernelIdeal_WInDgReferenceIdeal (hWInDgKernelIdeal := hWInDgKernelIdeal) (hWInDgReferenceIdeal := hWInDgReferenceIdeal)
    ∧ preserves_WInKernel_WInKernelIdeal
    ∧ algebraic_WInKernelIdeal_WInReferenceIdeal (hWInKernelIdeal := hWInKernelIdeal) (hWInReferenceIdeal := hWInReferenceIdeal)
    ∧ preserves_UpFwdKernel_UpFwdKernelIdeal
    ∧ algebraic_UpFwdKernelIdeal_UpFwdReferenceIdeal (hUpFwdKernelIdeal := hUpFwdKernelIdeal) (hUpFwdReferenceIdeal := hUpFwdReferenceIdeal)
    ∧ preserves_DownFwdKernel_DownFwdKernelIdeal
    ∧ algebraic_DownFwdKernelIdeal_DownFwdReferenceIdeal (hDownFwdKernelIdeal := hDownFwdKernelIdeal) (hDownFwdReferenceIdeal := hDownFwdReferenceIdeal)
    ∧ preserves_DownWgKernel_DownWgKernelIdeal
    ∧ algebraic_DownWgKernelIdeal_DownWgReferenceIdeal_pre_a_gt_dxo_finite (hDownWgKernelIdeal := hDownWgKernelIdeal) (hDownWgReferenceIdeal := hDownWgReferenceIdeal) (hPre_a_gt_dxo_finite := hPre_a_gt_dxo_finite)
    ∧ preserves_DactKernel_DactKernelIdeal
    ∧ algebraic_DactKernelIdeal_DactReferenceIdeal_pre_dact_finite (hDactKernelIdeal := hDactKernelIdeal) (hDactReferenceIdeal := hDactReferenceIdeal) (hPre_dact_finite := hPre_dact_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_AdaWKernel_AdaWKernelIdeal
    ∧ algebraic_AdaWKernelIdeal_AdaWReferenceIdeal (hAdaWKernelIdeal := hAdaWKernelIdeal) (hAdaWReferenceIdeal := hAdaWReferenceIdeal)
    ∧ preserves_AdaBKernel_AdaBKernelIdeal
    ∧ algebraic_AdaBKernelIdeal_AdaBReferenceIdeal (hAdaBKernelIdeal := hAdaBKernelIdeal) (hAdaBReferenceIdeal := hAdaBReferenceIdeal)
    ∧ preserves_AdaNormKernel_AdaNormKernelIdeal
    ∧ algebraic_AdaNormKernelIdeal_AdaNormReferenceIdeal (hAdaNormKernelIdeal := hAdaNormKernelIdeal) (hAdaNormReferenceIdeal := hAdaNormReferenceIdeal)
    ∧ preserves_AdaConvKernel_AdaConvKernelIdeal
    ∧ algebraic_AdaConvKernelIdeal_AdaConvReferenceIdeal (hAdaConvKernelIdeal := hAdaConvKernelIdeal) (hAdaConvReferenceIdeal := hAdaConvReferenceIdeal)
    ∧ preserves_AdaQkKernel_AdaQkKernelIdeal
    ∧ algebraic_AdaQkKernelIdeal_AdaQkReferenceIdeal (hAdaQkKernelIdeal := hAdaQkKernelIdeal) (hAdaQkReferenceIdeal := hAdaQkReferenceIdeal)
    ∧ preserves_AdaHeadKernel_AdaHeadKernelIdeal
    ∧ algebraic_AdaHeadKernelIdeal_AdaHeadReferenceIdeal (hAdaHeadKernelIdeal := hAdaHeadKernelIdeal) (hAdaHeadReferenceIdeal := hAdaHeadReferenceIdeal)
    ∧ preserves_AdaDnKernel_AdaDnKernelIdeal
    ∧ algebraic_AdaDnKernelIdeal_AdaDnReferenceIdeal (hAdaDnKernelIdeal := hAdaDnKernelIdeal) (hAdaDnReferenceIdeal := hAdaDnReferenceIdeal)
-- ==== Pre_a_gt_dxo_finite.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x2816 .f32) (main_arg1 : FVec F S2816x1024 .f32) (main_arg2 : FVec F S1x1024 .f32) (main_arg3 : FVec F S2048x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_dact_finite.lean ====
abbrev S2048x1024 : Shape := ⟨2, ![2048, 1024]⟩
abbrev S1x1024 : Shape := ⟨2, ![1, 1024]⟩
abbrev S2816x1024 : Shape := ⟨2, ![2816, 1024]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_arg4 : FVec F S2048x2816 .f32) (main_v13 : IVec S_ 1) (main_v16 : IVec S2048x2816 1) : IVec S_ 1 :=
  let main_c_5 : IVec S_ 1 := constantI S_ 1 1#1
  let main_v17 : IVec S_ 1 := (fun x v => Host.reduce IntOp.andi x v reducesTo_S2048x2816_S_d0_1 h_S_) main_v16 main_c_5
  let main_v18 : IVec S_ 1 := andi main_v13 main_v17
  let main_v19 : FVec F S2048x2816 .f32 := Host.absf main_arg4
  let main_cst_6 : FVec F S_ .f32 := constant S_ .f32 0x7F800000#32
  let main_v20 : FVec F S2048x2816 .f32 := broadcastInDim S2048x2816 ![] bcast_S_S2048x2816 main_cst_6
  let main_v21 : IVec S2048x2816 1 := cmpf .olt main_v19 main_v20
  let main_c_7 : IVec S_ 1 := constantI S_ 1 1#1
  let main_v22 : IVec S_ 1 := (fun x v => Host.reduce IntOp.andi x v reducesTo_S2048x2816_S_d0_1 h_S_) main_v21 main_c_7
  let main_v23 : IVec S_ 1 := andi main_v18 main_v22
  main_v23

def fn {F : FTy → Type} [FloatOps F] (main_arg0 : FVec F S2048x1024 .f32) (main_arg1 : FVec F S1x1024 .f32) (main_arg2 : FVec F S2816x1024 .f32) (main_arg3 : FVec F S2048x2816 .f32) (main_arg4 : FVec F S2048x2816 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x2816 .f32 := Host.absf main_arg3
  let main_cst_4 : FVec F S_ .f32 := constant S_ .f32 0x7F800000#32
  let main_v15 : FVec F S2048x2816 .f32 := broadcastInDim S2048x2816 ![] bcast_S_S2048x2816 main_cst_4
  let main_v16 : IVec S2048x2816 1 := cmpf .olt main_v14 main_v15
  fn_part1 (F := F) main_arg4 main_v13 main_v16
-- ==== Kernel.lean ====
abbrev S2048x3072 : Shape := ⟨2, ![2048, 3072]⟩
abbrev S2048x8704 : Shape := ⟨2, ![2048, 8704]⟩
abbrev S8x1x1 : Shape := ⟨3, ![8, 1, 1]⟩
abbrev S1x128 : Shape := ⟨2, ![1, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S2048x128 : Shape := ⟨2, ![2048, 128]⟩
abbrev S64x1024 : Shape := ⟨2, ![64, 1024]⟩
abbrev S64x128 : Shape := ⟨2, ![64, 128]⟩
abbrev S1x8x128x128 : Shape := ⟨4, ![1, 8, 128, 128]⟩
abbrev S1x8x64x64 : Shape := ⟨4, ![1, 8, 64, 64]⟩
abbrev S64x3072 : Shape := ⟨2, ![64, 3072]⟩
abbrev S8x128x128 : Shape := ⟨3, ![8, 128, 128]⟩
abbrev S64 : Shape := ⟨1, ![64]⟩
abbrev S64x1 : Shape := ⟨2, ![64, 1]⟩
abbrev S1x64x1 : Shape := ⟨3, ![1, 64, 1]⟩
abbrev S8x64x1 : Shape := ⟨3, ![8, 64, 1]⟩
abbrev S8x64x64 : Shape := ⟨3, ![8, 64, 64]⟩
abbrev S64x64 : Shape := ⟨2, ![64, 64]⟩
abbrev S1x64x128 : Shape := ⟨3, ![1, 64, 128]⟩
abbrev S8x64x128 : Shape := ⟨3, ![8, 64, 128]⟩
abbrev S8x64 : Shape := ⟨2, ![8, 64]⟩
abbrev S1x64x64 : Shape := ⟨3, ![1, 64, 64]⟩
abbrev S8x1x64 : Shape := ⟨3, ![8, 1, 64]⟩
abbrev S8x1 : Shape := ⟨2, ![8, 1]⟩
abbrev S1x1x128 : Shape := ⟨3, ![1, 1, 128]⟩
abbrev S128 : Shape := ⟨1, ![128]⟩
abbrev S8x128x64 : Shape := ⟨3, ![8, 128, 64]⟩
abbrev S8 : Shape := ⟨1, ![8]⟩

abbrev nBuf : Space → Nat
  | .hbm => 14
  | .vmem => 29
  | .smem => 0
  | _ => 0

abbrev bufTy : (tb : Table) → Fin (tcTables nBuf tb) → BufTy
  | .hbm, ⟨0, _⟩ => ⟨S2048x3072, .f32⟩
  | .hbm, ⟨1, _⟩ => ⟨S2048x8704, .f32⟩
  | .hbm, ⟨2, _⟩ => ⟨S8x1x1, .f32⟩
  | .hbm, ⟨3, _⟩ => ⟨S8x1x1, .f32⟩
  | .hbm, ⟨4, _⟩ => ⟨S1x128, .f32⟩
  | .hbm, ⟨5, _⟩ => ⟨S32x8x128x128, .f32⟩
  | .hbm, ⟨6, _⟩ => ⟨S32x8x64x64, .f32⟩
  | .hbm, ⟨7, _⟩ => ⟨S2048x1024, .f32⟩
  | .hbm, ⟨8, _⟩ => ⟨S2048x3072, .f32⟩
  | .hbm, ⟨9, _⟩ => ⟨S2048x1024, .bf16⟩
  | .hbm, ⟨10, _⟩ => ⟨S2048x128, .bf16⟩
  | .hbm, ⟨11, _⟩ => ⟨S8x1x1, .f32⟩
  | .hbm, ⟨12, _⟩ => ⟨S8x1x1, .f32⟩
  | .hbm, ⟨13, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S8x1x1, .f32⟩
  | .local _ .vmem, ⟨11, _⟩ => ⟨S8x1x1, .f32⟩
  | .local _ .vmem, ⟨12, _⟩ => ⟨S1x128, .f32⟩
  | .local _ .vmem, ⟨13, _⟩ => ⟨S1x8x128x128, .f32⟩
  | .local _ .vmem, ⟨14, _⟩ => ⟨S1x8x128x128, .f32⟩
  | .local _ .vmem, ⟨15, _⟩ => ⟨S1x8x64x64, .f32⟩
  | .local _ .vmem, ⟨16, _⟩ => ⟨S1x8x64x64, .f32⟩
  | .local _ .vmem, ⟨17, _⟩ => ⟨S64x1024, .f32⟩
  | .local _ .vmem, ⟨18, _⟩ => ⟨S64x1024, .f32⟩
  | .local _ .vmem, ⟨19, _⟩ => ⟨S64x3072, .f32⟩
  | .local _ .vmem, ⟨20, _⟩ => ⟨S64x3072, .f32⟩
  | .local _ .vmem, ⟨21, _⟩ => ⟨S64x1024, .bf16⟩
  | .local _ .vmem, ⟨22, _⟩ => ⟨S64x1024, .bf16⟩
  | .local _ .vmem, ⟨23, _⟩ => ⟨S64x128, .bf16⟩
  | .local _ .vmem, ⟨24, _⟩ => ⟨S64x128, .bf16⟩
  | .local _ .vmem, ⟨25, _⟩ => ⟨S8x1x1, .f32⟩
  | .local _ .vmem, ⟨26, _⟩ => ⟨S8x1x1, .f32⟩
  | .local _ .vmem, ⟨27, _⟩ => ⟨S1x128, .f32⟩
  | .local _ .vmem, ⟨28, _⟩ => ⟨S8x128x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c66_i32 : BitVec 32 := 66#32
  let c0_i32 : BitVec 32 := 0#32
  ![v0.toNat, c66_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== UpWgKernel.lean ====
abbrev S2048x1024 : Shape := ⟨2, ![2048, 1024]⟩
abbrev S1024x5632 : Shape := ⟨2, ![1024, 5632]⟩
abbrev S2048x2816 : Shape := ⟨2, ![2048, 2816]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S8x768x1024 : Shape := ⟨3, ![8, 768, 1024]⟩
abbrev S2048x768 : Shape := ⟨2, ![2048, 768]⟩
abbrev S1x768x1024 : Shape := ⟨3, ![1, 768, 1024]⟩
abbrev S768x1024 : Shape := ⟨2, ![768, 1024]⟩

abbrev nBuf : Space → Nat
  | .hbm => 18
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x1024, .bf16⟩
  | .hbm, ⟨5, _⟩ => ⟨S2048x4x704, .f32⟩
  | .hbm, ⟨6, _⟩ => ⟨S_, .i32⟩
  | .hbm, ⟨7, _⟩ => ⟨S_, .f32⟩
  | .hbm, ⟨8, _⟩ => ⟨S2048x4x768, .f32⟩
  | .hbm, ⟨9, _⟩ => ⟨S2048x3072, .f32⟩
  | .hbm, ⟨10, _⟩ => ⟨S2048x3072, .bf16⟩
  | .hbm, ⟨11, _⟩ => ⟨S2048x4x704, .f32⟩
  | .hbm, ⟨12, _⟩ => ⟨S_, .i32⟩
  | .hbm, ⟨13, _⟩ => ⟨S_, .f32⟩
  | .hbm, ⟨14, _⟩ => ⟨S2048x4x768, .f32⟩
  | .hbm, ⟨15, _⟩ => ⟨S2048x3072, .f32⟩
  | .hbm, ⟨16, _⟩ => ⟨S2048x3072, .bf16⟩
  | .hbm, ⟨17, _⟩ => ⟨S8x768x1024, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S1x768x1024, .bf16⟩
  | .local _ .vmem, ⟨6, _⟩ => ⟨S1x768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpWgReferenceIdeal.lean ====
abbrev S2048x1024 : Shape := ⟨2, ![2048, 1024]⟩
abbrev S1024x5632 : Shape := ⟨2, ![1024, 5632]⟩
abbrev S2048x2816 : Shape := ⟨2, ![2048, 2816]⟩
abbrev S2048x5632 : Shape := ⟨2, ![2048, 5632]⟩
abbrev S_ : Shape := ⟨0, ![]⟩
abbrev S5632x1024 : Shape := ⟨2, ![5632, 1024]⟩
abbrev S8x704x1024 : Shape := ⟨3, ![8, 704, 1024]⟩
abbrev S8x768x1024 : Shape := ⟨3, ![8, 768, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S2048x1024, .f32⟩
  | .hbm, ⟨15, _⟩ => ⟨S5632x1024, .f32⟩
  | .hbm, ⟨16, _⟩ => ⟨S8x704x1024, .f32⟩
  | .hbm, ⟨17, _⟩ => ⟨S_, .i32⟩
  | .hbm, ⟨18, _⟩ => ⟨S_, .f32⟩
  | .hbm, ⟨19, _⟩ => ⟨S8x768x1024, .f32⟩
  | .hbm, ⟨20, _⟩ => ⟨S8x768x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== UpDgKernel.lean ====
abbrev S2048x1024 : Shape := ⟨2, ![2048, 1024]⟩
abbrev S1024x5632 : Shape := ⟨2, ![1024, 5632]⟩
abbrev S2048x2816 : Shape := ⟨2, ![2048, 2816]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S5632x1024 : Shape := ⟨2, ![5632, 1024]⟩
abbrev S8x704x1024 : Shape := ⟨3, ![8, 704, 1024]⟩
abbrev S8x768x1024 : Shape := ⟨3, ![8, 768, 1024]⟩
abbrev S1024x3072 : Shape := ⟨2, ![1024, 3072]⟩
abbrev S8x768x512 : Shape := ⟨3, ![8, 768, 512]⟩
abbrev S1024x512 : Shape := ⟨2, ![1024, 512]⟩
abbrev S4x768x512 : Shape := ⟨3, ![4, 768, 512]⟩
abbrev S3072x512 : Shape := ⟨2, ![3072, 512]⟩

abbrev nBuf : Space → Nat
  | .hbm => 23
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x4x704, .f32⟩
  | .hbm, ⟨5, _⟩ => ⟨S_, .i32⟩
  | .hbm, ⟨6, _⟩ => ⟨S_, .f32⟩
  | .hbm, ⟨7, _⟩ => ⟨S2048x4x768, .f32⟩
  | .hbm, ⟨8, _⟩ => ⟨S2048x3072, .f32⟩
  | .hbm, ⟨9, _⟩ => ⟨S2048x3072, .bf16⟩
  | .hbm, ⟨10, _⟩ => ⟨S2048x4x704, .f32⟩
  | .hbm, ⟨11, _⟩ => ⟨S_, .i32⟩
  | .hbm, ⟨12, _⟩ => ⟨S_, .f32⟩
  | .hbm, ⟨13, _⟩ => ⟨S2048x4x768, .f32⟩
  | .hbm, ⟨14, _⟩ => ⟨S2048x3072, .f32⟩
  | .hbm, ⟨15, _⟩ => ⟨S2048x3072, .bf16⟩
  | .hbm, ⟨16, _⟩ => ⟨S5632x1024, .f32⟩
  | .hbm, ⟨17, _⟩ => ⟨S8x704x1024, .f32⟩
  | .hbm, ⟨18, _⟩ => ⟨S_, .i32⟩
  | .hbm, ⟨19, _⟩ => ⟨S_, .f32⟩
  | .hbm, ⟨20, _⟩ => ⟨S8x768x1024, .f32⟩
  | .hbm, ⟨21, _⟩ => ⟨S8x768x1024, .bf16⟩
  | .hbm, ⟨22, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S8x768x512, .bf16⟩
  | .local _ .vmem, ⟨5, _⟩ => ⟨S8x768x512, .bf16⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpDgReferenceIdeal.lean ====
abbrev S2048x1024 : Shape := ⟨2, ![2048, 1024]⟩
abbrev S1024x5632 : Shape := ⟨2, ![1024, 5632]⟩
abbrev S2048x2816 : Shape := ⟨2, ![2048, 2816]⟩
abbrev S2048x5632 : Shape := ⟨2, ![2048, 5632]⟩
abbrev S_ : Shape := ⟨0, ![]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== WInWgKernel.lean ====
abbrev S2048x1024 : Shape := ⟨2, ![2048, 1024]⟩
abbrev S1024x8464 : Shape := ⟨2, ![1024, 8464]⟩
abbrev S2048x8464 : Shape := ⟨2, ![2048, 8464]⟩
abbrev S_ : Shape := ⟨0, ![]⟩
abbrev S2048x240 : Shape := ⟨2, ![2048, 240]⟩
abbrev S2048x4096 : Shape := ⟨2, ![2048, 4096]⟩
abbrev S2048x2048 : Shape := ⟨2, ![2048, 2048]⟩
abbrev S2048x2304 : Shape := ⟨2, ![2048, 2304]⟩
abbrev S2048x16 : Shape := ⟨2, ![2048, 16]⟩
abbrev S2048x8704 : Shape := ⟨2, ![2048, 8704]⟩
abbrev S1024x8704 : Shape := ⟨2, ![1024, 8704]⟩
abbrev S2048x2176 : Shape := ⟨2, ![2048, 2176]⟩
abbrev S1024x2176 : Shape := ⟨2, ![1024, 2176]⟩

abbrev nBuf : Space → Nat
  | .hbm => 13
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x8464, .f32⟩
  | .hbm, ⟨3, _⟩ => ⟨S2048x1024, .bf16⟩
  | .hbm, ⟨4, _⟩ => ⟨S_, .f32⟩
  | .hbm, ⟨5, _⟩ => ⟨S2048x240, .f32⟩
  | .hbm, ⟨6, _⟩ => ⟨S2048x4096, .f32⟩
  | .hbm, ⟨7, _⟩ => ⟨S2048x2048, .f32⟩
  | .hbm, ⟨8, _⟩ => ⟨S2048x2304, .f32⟩
  | .hbm, ⟨9, _⟩ => ⟨S2048x16, .f32⟩
  | .hbm, ⟨10, _⟩ => ⟨S2048x8704, .f32⟩
  | .hbm, ⟨11, _⟩ => ⟨S2048x8704, .bf16⟩
  | .hbm, ⟨12, _⟩ => ⟨S1024x8704, .bf16⟩
  | .local _ .vmem, ⟨0, _⟩ => ⟨S2048x1024, .bf16⟩
  | .local _ .vmem, ⟨1, _⟩ => ⟨S2048x2176, .bf16⟩
  | .local _ .vmem, ⟨2, _⟩ => ⟨S2048x2176, .bf16⟩
  | .local _ .vmem, ⟨3, _⟩ => ⟨S1024x2176, .bf16⟩
  | .local _ .vmem, ⟨4, _⟩ => ⟨S1024x2176, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInWgReferenceIdeal.lean ====
abbrev S2048x1024 : Shape := ⟨2, ![2048, 1024]⟩
abbrev S1024x8464 : Shape := ⟨2, ![1024, 8464]⟩
abbrev S2048x8464 : Shape := ⟨2, ![2048, 8464]⟩
abbrev S8464x1024 : Shape := ⟨2, ![8464, 1024]⟩
abbrev S1024x4096 : Shape := ⟨2, ![1024, 4096]⟩
abbrev S1024x2048 : Shape := ⟨2, ![1024, 2048]⟩
abbrev S1024x2304 : Shape := ⟨2, ![1024, 2304]⟩
abbrev S1024x16 : Shape := ⟨2, ![1024, 16]⟩
abbrev S_ : Shape := ⟨0, ![]⟩
abbrev S1024x240 : Shape := ⟨2, ![1024, 240]⟩
abbrev S1024x8704 : Shape := ⟨2, ![1024, 8704]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x8464, .f32⟩
  | .hbm, ⟨3, _⟩ => ⟨S2048x8464, .f32⟩
  | .hbm, ⟨4, _⟩ => ⟨S8464x1024, .f32⟩
  | .hbm, ⟨5, _⟩ => ⟨S1024x8464, .f32⟩
  | .hbm, ⟨6, _⟩ => ⟨S2048x1024, .f32⟩
  | .hbm, ⟨7, _⟩ => ⟨S1024x4096, .f32⟩
  | .hbm, ⟨8, _⟩ => ⟨S1024x2048, .f32⟩
  | .hbm, ⟨9, _⟩ => ⟨S1024x2304, .f32⟩
  | .hbm, ⟨10, _⟩ => ⟨S1024x16, .f32⟩
  | .hbm, ⟨11, _⟩ => ⟨S_, .f32⟩
  | .hbm, ⟨12, _⟩ => ⟨S1024x240, .f32⟩
  | .hbm, ⟨13, _⟩ => ⟨S1024x8704, .f32⟩
  | .hbm, ⟨14, _⟩ => ⟨S1024x8704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== WInDgKernel.lean ====
abbrev S2048x1024 : Shape := ⟨2, ![2048, 1024]⟩
abbrev S1024x8464 : Shape := ⟨2, ![1024, 8464]⟩
abbrev S2048x8464 : Shape := ⟨2, ![2048, 8464]⟩
abbrev S_ : Shape := ⟨0, ![]⟩
abbrev S2048x240 : Shape := ⟨2, ![2048, 240]⟩
abbrev S2048x4096 : Shape := ⟨2, ![2048, 4096]⟩
abbrev S2048x2048 : Shape := ⟨2, ![2048, 2048]⟩
abbrev S2048x2304 : Shape := ⟨2, ![2048, 2304]⟩
abbrev S2048x16 : Shape := ⟨2, ![2048, 16]⟩
abbrev S2048x8704 : Shape := ⟨2, ![2048, 8704]⟩
abbrev S8464x1024 : Shape := ⟨2, ![8464, 1024]⟩
abbrev S240x1024 : Shape := ⟨2, ![240, 1024]⟩
abbrev S4096x1024 : Shape := ⟨2, ![4096, 1024]⟩
abbrev S2304x1024 : Shape := ⟨2, ![2304, 1024]⟩
abbrev S16x1024 : Shape := ⟨2, ![16, 1024]⟩
abbrev S8704x1024 : Shape := ⟨2, ![8704, 1024]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x8464, .f32⟩
  | .hbm, ⟨3, _⟩ => ⟨S_, .f32⟩
  | .hbm, ⟨4, _⟩ => ⟨S2048x240, .f32⟩
  | .hbm, ⟨5, _⟩ => ⟨S2048x4096, .f32⟩
  | .hbm, ⟨6, _⟩ => ⟨S2048x2048, .f32⟩
  | .hbm, ⟨7, _⟩ => ⟨S2048x2304, .f32⟩
  | .hbm, ⟨8, _⟩ => ⟨S2048x16, .f32⟩
  | .hbm, ⟨9, _⟩ => ⟨S2048x8704, .f32⟩
  | .hbm, ⟨10, _⟩ => ⟨S2048x8704, .bf16⟩
  | .hbm, ⟨11, _⟩ => ⟨S8464x1024, .f32⟩
  | .hbm, ⟨12, _⟩ => ⟨S8464x1024, .bf16⟩
  | .hbm, ⟨13, _⟩ => ⟨S_, .bf16⟩
  | .hbm, ⟨14, _⟩ => ⟨S240x1024, .bf16⟩
  | .hbm, ⟨15, _⟩ => ⟨S4096x1024, .bf16⟩
  | .hbm, ⟨16, _⟩ => ⟨S2048x1024, .bf16⟩
  | .hbm, ⟨17, _⟩ => ⟨S2304x1024, .bf16⟩
  | .hbm, ⟨18, _⟩ => ⟨S16x1024, .bf16⟩
  | .hbm, ⟨19, _⟩ => ⟨S8704x1024, .bf16⟩
  | .hbm, ⟨20, _⟩ => ⟨S2048x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInDgReferenceIdeal.lean ====
abbrev S2048x1024 : Shape := ⟨2, ![2048, 1024]⟩
abbrev S1024x8464 : Shape := ⟨2, ![1024, 8464]⟩
abbrev S2048x8464 : Shape := ⟨2, ![2048, 8464]⟩
abbrev S8464x1024 : Shape := ⟨2, ![8464, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x8464, .f32⟩
  | .hbm, ⟨3, _⟩ => ⟨S2048x8464, .f32⟩
  | .hbm, ⟨4, _⟩ => ⟨S8464x1024, .f32⟩
  | .hbm, ⟨5, _⟩ => ⟨S1024x8464, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WInKernel.lean ====
abbrev S2048x1024 : Shape := ⟨2, ![2048, 1024]⟩
abbrev S1024x8464 : Shape := ⟨2, ![1024, 8464]⟩
abbrev S8464x1024 : Shape := ⟨2, ![8464, 1024]⟩
abbrev S_ : Shape := ⟨0, ![]⟩
abbrev S240x1024 : Shape := ⟨2, ![240, 1024]⟩
abbrev S4096x1024 : Shape := ⟨2, ![4096, 1024]⟩
abbrev S2304x1024 : Shape := ⟨2, ![2304, 1024]⟩
abbrev S16x1024 : Shape := ⟨2, ![16, 1024]⟩
abbrev S8704x1024 : Shape := ⟨2, ![8704, 1024]⟩
abbrev S2048x8704 : Shape := ⟨2, ![2048, 8704]⟩
abbrev S1024x1024 : Shape := ⟨2, ![1024, 1024]⟩
abbrev S512x1024 : Shape := ⟨2, ![512, 1024]⟩
abbrev S1024x512 : Shape := ⟨2, ![1024, 512]⟩
abbrev S256x1024 : Shape := ⟨2, ![256, 1024]⟩
abbrev S1024x256 : Shape := ⟨2, ![1024, 256]⟩

abbrev nBuf : Space → Nat
  | .hbm => 13
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x1024, .bf16⟩
  | .hbm, ⟨3, _⟩ => ⟨S8464x1024, .f32⟩
  | .hbm, ⟨4, _⟩ => ⟨S8464x1024, .bf16⟩
  | .hbm, ⟨5, _⟩ => ⟨S_, .bf16⟩
  | .hbm, ⟨6, _⟩ => ⟨S240x1024, .bf16⟩
  | .hbm, ⟨7, _⟩ => ⟨S4096x1024, .bf16⟩
  | .hbm, ⟨8, _⟩ => ⟨S2048x1024, .bf16⟩
  | .hbm, ⟨9, _⟩ => ⟨S2304x1024, .bf16⟩
  | .hbm, ⟨10, _⟩ => ⟨S16x1024, .bf16⟩
  | .hbm, ⟨11, _⟩ => ⟨S8704x1024, .bf16⟩
  | .hbm, ⟨12, _⟩ => ⟨S2048x8704, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInReferenceIdeal.lean ====
abbrev S2048x1024 : Shape := ⟨2, ![2048, 1024]⟩
abbrev S1024x8464 : Shape := ⟨2, ![1024, 8464]⟩
abbrev S2048x8464 : Shape := ⟨2, ![2048, 8464]⟩
abbrev S2048x4096 : Shape := ⟨2, ![2048, 4096]⟩
abbrev S2048x2048 : Shape := ⟨2, ![2048, 2048]⟩
abbrev S2048x2304 : Shape := ⟨2, ![2048, 2304]⟩
abbrev S2048x16 : Shape := ⟨2, ![2048, 16]⟩
abbrev S_ : Shape := ⟨0, ![]⟩
abbrev S2048x240 : Shape := ⟨2, ![2048, 240]⟩
abbrev S2048x8704 : Shape := ⟨2, ![2048, 8704]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8464, .f32⟩
  | .hbm, ⟨2, _⟩ => ⟨S2048x8464, .f32⟩
  | .hbm, ⟨3, _⟩ => ⟨S2048x4096, .f32⟩
  | .hbm, ⟨4, _⟩ => ⟨S2048x2048, .f32⟩
  | .hbm, ⟨5, _⟩ => ⟨S2048x2304, .f32⟩
  | .hbm, ⟨6, _⟩ => ⟨S2048x16, .f32⟩
  | .hbm, ⟨7, _⟩ => ⟨S_, .f32⟩
  | .hbm, ⟨8, _⟩ => ⟨S2048x240, .f32⟩
  | .hbm, ⟨9, _⟩ => ⟨S2048x8704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpFwdKernel.lean ====
abbrev S2048x1024 : Shape := ⟨2, ![2048, 1024]⟩
abbrev S1024x5632 : Shape := ⟨2, ![1024, 5632]⟩
abbrev S5632x1024 : Shape := ⟨2, ![5632, 1024]⟩
abbrev S8x704x1024 : Shape := ⟨3, ![8, 704, 1024]⟩
abbrev S_ : Shape := ⟨0, ![]⟩
abbrev S8x768x1024 : Shape := ⟨3, ![8, 768, 1024]⟩
abbrev S2048x3072 : Shape := ⟨2, ![2048, 3072]⟩
abbrev S1024x1024 : Shape := ⟨2, ![1024, 1024]⟩
abbrev S1x768x1024 : Shape := ⟨3, ![1, 768, 1024]⟩
abbrev S1024x768 : Shape := ⟨2, ![1024, 768]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S8x704x1024, .f32⟩
  | .hbm, ⟨5, _⟩ => ⟨S_, .i32⟩
  | .hbm, ⟨6, _⟩ => ⟨S_, .f32⟩
  | .hbm, ⟨7, _⟩ => ⟨S8x768x1024, .f32⟩
  | .hbm, ⟨8, _⟩ => ⟨S8x768x1024, .bf16⟩
  | .hbm, ⟨9, _⟩ => ⟨S2048x3072, .bf16⟩
  | .hbm, ⟨10, _⟩ => ⟨S2048x3072, .bf16⟩
  | .hbm, ⟨11, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, v27.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpFwdReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S2048x4x704 : Shape := ⟨3, ![2048, 4, 704]⟩
abbrev S2048x4x768 : Shape := ⟨3, ![2048, 4, 768]⟩
abbrev S2048x3072 : Shape := ⟨2, ![2048, 3072]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x4x704, .f32⟩
  | .hbm, ⟨16, _⟩ => ⟨S_, .i32⟩
  | .hbm, ⟨17, _⟩ => ⟨S_, .f32⟩
  | .hbm, ⟨18, _⟩ => ⟨S2048x4x768, .f32⟩
  | .hbm, ⟨19, _⟩ => ⟨S2048x3072, .f32⟩
  | .hbm, ⟨20, _⟩ => ⟨S2048x3072, .bf16⟩
  | .hbm, ⟨21, _⟩ => ⟨S2048x4x704, .f32⟩
  | .hbm, ⟨22, _⟩ => ⟨S_, .i32⟩
  | .hbm, ⟨23, _⟩ => ⟨S_, .f32⟩
  | .hbm, ⟨24, _⟩ => ⟨S2048x4x768, .f32⟩
  | .hbm, ⟨25, _⟩ => ⟨S2048x3072, .f32⟩
  | .hbm, ⟨26, _⟩ => ⟨S2048x3072, .bf16⟩
  | .hbm, ⟨27, _⟩ => ⟨S2048x4x704, .f32⟩
  | .hbm, ⟨28, _⟩ => ⟨S_, .i32⟩
  | .hbm, ⟨29, _⟩ => ⟨S_, .f32⟩
  | .hbm, ⟨30, _⟩ => ⟨S2048x4x768, .f32⟩
  | .hbm, ⟨31, _⟩ => ⟨S2048x3072, .f32⟩
  | .hbm, ⟨32, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]
-- ==== DownFwdKernel.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S4x704x1024 : Shape := ⟨3, ![4, 704, 1024]⟩
abbrev S4x768x1024 : Shape := ⟨3, ![4, 768, 1024]⟩
abbrev S3072x1024 : Shape := ⟨2, ![3072, 1024]⟩
abbrev S1024x3072 : Shape := ⟨2, ![1024, 3072]⟩
abbrev S3072x512 : Shape := ⟨2, ![3072, 512]⟩
abbrev S1x512 : Shape := ⟨2, ![1, 512]⟩
abbrev S1024x512 : Shape := ⟨2, ![1024, 512]⟩
abbrev S3072x256 : Shape := ⟨2, ![3072, 256]⟩
abbrev S1024x256 : Shape := ⟨2, ![1024, 256]⟩
abbrev S1x256 : Shape := ⟨2, ![1, 256]⟩

abbrev nBuf : Space → Nat
  | .hbm => 21
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S2048x4x704, .f32⟩
  | .hbm, ⟨5, _⟩ => ⟨S_, .i32⟩
  | .hbm, ⟨6, _⟩ => ⟨S_, .f32⟩
  | .hbm, ⟨7, _⟩ => ⟨S2048x4x768, .f32⟩
  | .hbm, ⟨8, _⟩ => ⟨S2048x3072, .f32⟩
  | .hbm, ⟨9, _⟩ => ⟨S2048x3072, .bf16⟩
  | .hbm, ⟨10, _⟩ => ⟨S2816x1024, .bf16⟩
  | .hbm, ⟨11, _⟩ => ⟨S4x704x1024, .bf16⟩
  | .hbm, ⟨12, _⟩ => ⟨S_, .i32⟩
  | .hbm, ⟨13, _⟩ => ⟨S_, .bf16⟩
  | .hbm, ⟨14, _⟩ => ⟨S4x768x1024, .bf16⟩
  | .hbm, ⟨15, _⟩ => ⟨S3072x1024, .bf16⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownFwdReferenceIdeal.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DownWgKernel.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S2048x4x704 : Shape := ⟨3, ![2048, 4, 704]⟩
abbrev S_ : Shape := ⟨0, ![]⟩
abbrev S2048x4x768 : Shape := ⟨3, ![2048, 4, 768]⟩
abbrev S2048x3072 : Shape := ⟨2, ![2048, 3072]⟩
abbrev S3072x1024 : Shape := ⟨2, ![3072, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S2048x4x704, .f32⟩
  | .hbm, ⟨5, _⟩ => ⟨S_, .i32⟩
  | .hbm, ⟨6, _⟩ => ⟨S_, .f32⟩
  | .hbm, ⟨7, _⟩ => ⟨S2048x4x768, .f32⟩
  | .hbm, ⟨8, _⟩ => ⟨S2048x3072, .f32⟩
  | .hbm, ⟨9, _⟩ => ⟨S2048x3072, .bf16⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownWgReferenceIdeal.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S_ : Shape := ⟨0, ![]⟩
abbrev S1024 : Shape := ⟨1, ![1024]⟩
abbrev S1024x2816 : Shape := ⟨2, ![1024, 2816]⟩
abbrev S4x704x1024 : Shape := ⟨3, ![4, 704, 1024]⟩
abbrev S4x768x1024 : Shape := ⟨3, ![4, 768, 1024]⟩
abbrev S3072x1024 : Shape := ⟨2, ![3072, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S2816x1024, .f32⟩
  | .hbm, ⟨18, _⟩ => ⟨S2048x2816, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4x704x1024, .f32⟩
  | .hbm, ⟨23, _⟩ => ⟨S_, .i32⟩
  | .hbm, ⟨24, _⟩ => ⟨S_, .f32⟩
  | .hbm, ⟨25, _⟩ => ⟨S4x768x1024, .f32⟩
  | .hbm, ⟨26, _⟩ => ⟨S3072x1024, .f32⟩
  | .hbm, ⟨27, _⟩ => ⟨S3072x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== DactKernel.lean ====
abbrev S2048x1024 : Shape := ⟨2, ![2048, 1024]⟩
abbrev S1x1024 : Shape := ⟨2, ![1, 1024]⟩
abbrev S2816x1024 : Shape := ⟨2, ![2816, 1024]⟩
abbrev S2048x2816 : Shape := ⟨2, ![2048, 2816]⟩
abbrev S_ : Shape := ⟨0, ![]⟩
abbrev S4x704x1024 : Shape := ⟨3, ![4, 704, 1024]⟩
abbrev S4x768x1024 : Shape := ⟨3, ![4, 768, 1024]⟩
abbrev S3072x1024 : Shape := ⟨2, ![3072, 1024]⟩
abbrev S2048x4x704 : Shape := ⟨3, ![2048, 4, 704]⟩
abbrev S2048x4x768 : Shape := ⟨3, ![2048, 4, 768]⟩
abbrev S2048x3072 : Shape := ⟨2, ![2048, 3072]⟩
abbrev S1024x1024 : Shape := ⟨2, ![1024, 1024]⟩
abbrev S768x1024 : Shape := ⟨2, ![768, 1024]⟩
abbrev S1024x768 : Shape := ⟨2, ![1024, 768]⟩
abbrev S256x1024 : Shape := ⟨2, ![256, 1024]⟩
abbrev S1024x256 : Shape := ⟨2, ![1024, 256]⟩

abbrev nBuf : Space → Nat
  | .hbm => 28
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .f32⟩
  | .hbm, ⟨3, _⟩ => ⟨S2048x2816, .f32⟩
  | .hbm, ⟨4, _⟩ => ⟨S2048x2816, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S2816x1024, .bf16⟩
  | .hbm, ⟨9, _⟩ => ⟨S4x704x1024, .bf16⟩
  | .hbm, ⟨10, _⟩ => ⟨S_, .i32⟩
  | .hbm, ⟨11, _⟩ => ⟨S_, .bf16⟩
  | .hbm, ⟨12, _⟩ => ⟨S4x768x1024, .bf16⟩
  | .hbm, ⟨13, _⟩ => ⟨S3072x1024, .bf16⟩
  | .hbm, ⟨14, _⟩ => ⟨S2048x4x704, .f32⟩
  | .hbm, ⟨15, _⟩ => ⟨S_, .i32⟩
  | .hbm, ⟨16, _⟩ => ⟨S_, .f32⟩
  | .hbm, ⟨17, _⟩ => ⟨S2048x4x768, .f32⟩
  | .hbm, ⟨18, _⟩ => ⟨S2048x3072, .f32⟩
  | .hbm, ⟨19, _⟩ => ⟨S2048x3072, .bf16⟩
  | .hbm, ⟨20, _⟩ => ⟨S2048x4x704, .f32⟩
  | .hbm, ⟨21, _⟩ => ⟨S_, .i32⟩
  | .hbm, ⟨22, _⟩ => ⟨S_, .f32⟩
  | .hbm, ⟨23, _⟩ => ⟨S2048x4x768, .f32⟩
  | .hbm, ⟨24, _⟩ => ⟨S2048x3072, .f32⟩
  | .hbm, ⟨25, _⟩ => ⟨S2048x3072, .bf16⟩
  | .hbm, ⟨26, _⟩ => ⟨S2048x3072, .bf16⟩
  | .hbm, ⟨27, _⟩ => ⟨S2048x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DactReferenceIdeal.lean ====
abbrev S2048x1024 : Shape := ⟨2, ![2048, 1024]⟩
abbrev S1x1024 : Shape := ⟨2, ![1, 1024]⟩
abbrev S2816x1024 : Shape := ⟨2, ![2816, 1024]⟩
abbrev S2048x2816 : Shape := ⟨2, ![2048, 2816]⟩
abbrev S_ : Shape := ⟨0, ![]⟩
abbrev S1024 : Shape := ⟨1, ![1024]⟩
abbrev S1024x2816 : Shape := ⟨2, ![1024, 2816]⟩
abbrev S2048x4x704 : Shape := ⟨3, ![2048, 4, 704]⟩
abbrev S2048x4x768 : Shape := ⟨3, ![2048, 4, 768]⟩
abbrev S2048x3072 : Shape := ⟨2, ![2048, 3072]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x2816, .f32⟩
  | .hbm, ⟨32, _⟩ => ⟨S2816x1024, .f32⟩
  | .hbm, ⟨33, _⟩ => ⟨S2048x2816, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x4x704, .f32⟩
  | .hbm, ⟨44, _⟩ => ⟨S_, .i32⟩
  | .hbm, ⟨45, _⟩ => ⟨S_, .f32⟩
  | .hbm, ⟨46, _⟩ => ⟨S2048x4x768, .f32⟩
  | .hbm, ⟨47, _⟩ => ⟨S2048x3072, .f32⟩
  | .hbm, ⟨48, _⟩ => ⟨S2048x3072, .bf16⟩
  | .hbm, ⟨49, _⟩ => ⟨S2048x4x704, .f32⟩
  | .hbm, ⟨50, _⟩ => ⟨S_, .i32⟩
  | .hbm, ⟨51, _⟩ => ⟨S_, .f32⟩
  | .hbm, ⟨52, _⟩ => ⟨S2048x4x768, .f32⟩
  | .hbm, ⟨53, _⟩ => ⟨S2048x3072, .f32⟩
  | .hbm, ⟨54, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_call3_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== MergeKernel.lean ====
abbrev S2048x1024 : Shape := ⟨2, ![2048, 1024]⟩
abbrev S2048x8464 : Shape := ⟨2, ![2048, 8464]⟩
abbrev S_ : Shape := ⟨0, ![]⟩
abbrev S2048x240 : Shape := ⟨2, ![2048, 240]⟩
abbrev S2048x4096 : Shape := ⟨2, ![2048, 4096]⟩
abbrev S2048x2048 : Shape := ⟨2, ![2048, 2048]⟩
abbrev S2048x2304 : Shape := ⟨2, ![2048, 2304]⟩
abbrev S2048x16 : Shape := ⟨2, ![2048, 16]⟩
abbrev S2048x8704 : Shape := ⟨2, ![2048, 8704]⟩
abbrev S512x256 : Shape := ⟨2, ![512, 256]⟩

abbrev nBuf : Space → Nat
  | .hbm => 15
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8464, .f32⟩
  | .hbm, ⟨4, _⟩ => ⟨S_, .f32⟩
  | .hbm, ⟨5, _⟩ => ⟨S2048x240, .f32⟩
  | .hbm, ⟨6, _⟩ => ⟨S2048x4096, .f32⟩
  | .hbm, ⟨7, _⟩ => ⟨S2048x2048, .f32⟩
  | .hbm, ⟨8, _⟩ => ⟨S2048x2304, .f32⟩
  | .hbm, ⟨9, _⟩ => ⟨S2048x16, .f32⟩
  | .hbm, ⟨10, _⟩ => ⟨S2048x8704, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S2048x1024 : Shape := ⟨2, ![2048, 1024]⟩
abbrev S2048x8464 : Shape := ⟨2, ![2048, 8464]⟩
abbrev S2048x2048 : Shape := ⟨2, ![2048, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8464, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x2048, .f32⟩
  | .hbm, ⟨29, _⟩ => ⟨S2048x2048, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S2048x1024, .bf16⟩
  | .hbm, ⟨34, _⟩ => ⟨S2048x1024, .bf16⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== AdaWKernel.lean ====
abbrev S4x1024x1152 : Shape := ⟨3, ![4, 1024, 1152]⟩
abbrev S1x4x1024x1152 : Shape := ⟨4, ![1, 4, 1024, 1152]⟩
abbrev S1x256x1152 : Shape := ⟨3, ![1, 256, 1152]⟩
abbrev S1x1x256x1152 : Shape := ⟨4, ![1, 1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S1x4x1024x1152, .f32⟩
  | .hbm, ⟨4, _⟩ => ⟨S4x1024x1152, .f32⟩
  | .hbm, ⟨5, _⟩ => ⟨S4x1024x1152, .f32⟩
  | .hbm, ⟨6, _⟩ => ⟨S4x1024x1152, .f32⟩
  | .hbm, ⟨7, _⟩ => ⟨S4x1024x1152, .f32⟩
  | .local _ .vmem, ⟨0, _⟩ => ⟨S1x256x1152, .f32⟩
  | .local _ .vmem, ⟨1, _⟩ => ⟨S1x256x1152, .f32⟩
  | .local _ .vmem, ⟨2, _⟩ => ⟨S1x256x1152, .f32⟩
  | .local _ .vmem, ⟨3, _⟩ => ⟨S1x256x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x1x256x1152, .f32⟩
  | .local _ .vmem, ⟨7, _⟩ => ⟨S1x1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | .local _ .vmem, ⟨14, _⟩ => ⟨S1x256x1152, .f32⟩
  | .local _ .vmem, ⟨15, _⟩ => ⟨S1x256x1152, .f32⟩
  | _, _ => ⟨S4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaWReferenceIdeal.lean ====
abbrev S4x1024x1152 : Shape := ⟨3, ![4, 1024, 1152]⟩
abbrev S1x4x1024x1152 : Shape := ⟨4, ![1, 4, 1024, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S1x4x1024x1152, .f32⟩
  | .hbm, ⟨4, _⟩ => ⟨S_, .f32⟩
  | .hbm, ⟨5, _⟩ => ⟨S4x1024x1152, .f32⟩
  | .hbm, ⟨6, _⟩ => ⟨S_, .f32⟩
  | .hbm, ⟨7, _⟩ => ⟨S4x1024x1152, .f32⟩
  | .hbm, ⟨8, _⟩ => ⟨S4x1024x1152, .f32⟩
  | .hbm, ⟨9, _⟩ => ⟨S_, .f32⟩
  | .hbm, ⟨10, _⟩ => ⟨S4x1024x1152, .f32⟩
  | .hbm, ⟨11, _⟩ => ⟨S4x1024x1152, .f32⟩
  | .hbm, ⟨12, _⟩ => ⟨S4x1024x1152, .f32⟩
  | .hbm, ⟨13, _⟩ => ⟨S_, .f32⟩
  | .hbm, ⟨14, _⟩ => ⟨S4x1024x1152, .f32⟩
  | .hbm, ⟨15, _⟩ => ⟨S4x1024x1152, .f32⟩
  | .hbm, ⟨16, _⟩ => ⟨S4x1024x1152, .f32⟩
  | .hbm, ⟨17, _⟩ => ⟨S_, .f32⟩
  | .hbm, ⟨18, _⟩ => ⟨S4x1024x1152, .f32⟩
  | .hbm, ⟨19, _⟩ => ⟨S4x1024x1152, .f32⟩
  | .hbm, ⟨20, _⟩ => ⟨S4x1024x1152, .f32⟩
  | .hbm, ⟨21, _⟩ => ⟨S_, .f32⟩
  | .hbm, ⟨22, _⟩ => ⟨S4x1024x1152, .f32⟩
  | .hbm, ⟨23, _⟩ => ⟨S4x1024x1152, .f32⟩
  | .hbm, ⟨24, _⟩ => ⟨S_, .f32⟩
  | .hbm, ⟨25, _⟩ => ⟨S4x1024x1152, .f32⟩
  | .hbm, ⟨26, _⟩ => ⟨S4x1024x1152, .f32⟩
  | .hbm, ⟨27, _⟩ => ⟨S4x1024x1152, .f32⟩
  | .hbm, ⟨28, _⟩ => ⟨S_, .f32⟩
  | .hbm, ⟨29, _⟩ => ⟨S4x1024x1152, .f32⟩
  | .hbm, ⟨30, _⟩ => ⟨S4x1024x1152, .f32⟩
  | .hbm, ⟨31, _⟩ => ⟨S4x1024x1152, .f32⟩
  | .hbm, ⟨32, _⟩ => ⟨S_, .f32⟩
  | .hbm, ⟨33, _⟩ => ⟨S4x1024x1152, .f32⟩
  | .hbm, ⟨34, _⟩ => ⟨S4x1024x1152, .f32⟩
  | .hbm, ⟨35, _⟩ => ⟨S4x1024x1152, .f32⟩
  | .hbm, ⟨36, _⟩ => ⟨S_, .f32⟩
  | .hbm, ⟨37, _⟩ => ⟨S4x1024x1152, .f32⟩
  | .hbm, ⟨38, _⟩ => ⟨S4x1024x1152, .f32⟩
  | _, _ => ⟨S4x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdaBKernel.lean ====
abbrev S4x9216 : Shape := ⟨2, ![4, 9216]⟩
abbrev S8x4x9216 : Shape := ⟨3, ![8, 4, 9216]⟩
abbrev S1x4x9216 : Shape := ⟨3, ![1, 4, 9216]⟩
abbrev S8x1x4x9216 : Shape := ⟨4, ![8, 1, 4, 9216]⟩
abbrev S1x1x4x9216 : Shape := ⟨4, ![1, 1, 4, 9216]⟩

abbrev nBuf : Space → Nat
  | .hbm => 12
  | .vmem => 8
  | .smem => 0
  | _ => 0

abbrev bufTy : (tb : Table) → Fin (tcTables nBuf tb) → BufTy
  | .hbm, ⟨0, _⟩ => ⟨S4x9216, .f32⟩
  | .hbm, ⟨1, _⟩ => ⟨S4x9216, .f32⟩
  | .hbm, ⟨2, _⟩ => ⟨S4x9216, .f32⟩
  | .hbm, ⟨3, _⟩ => ⟨S8x4x9216, .f32⟩
  | .hbm, ⟨4, _⟩ => ⟨S1x4x9216, .f32⟩
  | .hbm, ⟨5, _⟩ => ⟨S1x4x9216, .f32⟩
  | .hbm, ⟨6, _⟩ => ⟨S1x4x9216, .f32⟩
  | .hbm, ⟨7, _⟩ => ⟨S8x1x4x9216, .f32⟩
  | .hbm, ⟨8, _⟩ => ⟨S1x4x9216, .f32⟩
  | .hbm, ⟨9, _⟩ => ⟨S1x4x9216, .f32⟩
  | .hbm, ⟨10, _⟩ => ⟨S1x4x9216, .f32⟩
  | .hbm, ⟨11, _⟩ => ⟨S1x4x9216, .f32⟩
  | .local _ .vmem, ⟨0, _⟩ => ⟨S1x4x9216, .f32⟩
  | .local _ .vmem, ⟨1, _⟩ => ⟨S1x4x9216, .f32⟩
  | .local _ .vmem, ⟨2, _⟩ => ⟨S1x4x9216, .f32⟩
  | .local _ .vmem, ⟨3, _⟩ => ⟨S8x1x4x9216, .f32⟩
  | .local _ .vmem, ⟨4, _⟩ => ⟨S1x4x9216, .f32⟩
  | .local _ .vmem, ⟨5, _⟩ => ⟨S1x4x9216, .f32⟩
  | .local _ .vmem, ⟨6, _⟩ => ⟨S1x4x9216, .f32⟩
  | .local _ .vmem, ⟨7, _⟩ => ⟨S1x4x9216, .f32⟩
  | _, _ => ⟨S4x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1x4x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaBReferenceIdeal.lean ====
abbrev S4x9216 : Shape := ⟨2, ![4, 9216]⟩
abbrev S8x4x9216 : Shape := ⟨3, ![8, 4, 9216]⟩
abbrev S_ : Shape := ⟨0, ![]⟩
abbrev S1x4x9216 : Shape := ⟨3, ![1, 4, 9216]⟩

abbrev nBuf : Space → Nat
  | .hbm => 43
  | .vmem => 0
  | .smem => 0
  | _ => 0

abbrev bufTy : (tb : Table) → Fin (tcTables nBuf tb) → BufTy
  | .hbm, ⟨0, _⟩ => ⟨S4x9216, .f32⟩
  | .hbm, ⟨1, _⟩ => ⟨S4x9216, .f32⟩
  | .hbm, ⟨2, _⟩ => ⟨S4x9216, .f32⟩
  | .hbm, ⟨3, _⟩ => ⟨S8x4x9216, .f32⟩
  | .hbm, ⟨4, _⟩ => ⟨S_, .f32⟩
  | .hbm, ⟨5, _⟩ => ⟨S4x9216, .f32⟩
  | .hbm, ⟨6, _⟩ => ⟨S_, .f32⟩
  | .hbm, ⟨7, _⟩ => ⟨S4x9216, .f32⟩
  | .hbm, ⟨8, _⟩ => ⟨S4x9216, .f32⟩
  | .hbm, ⟨9, _⟩ => ⟨S_, .f32⟩
  | .hbm, ⟨10, _⟩ => ⟨S4x9216, .f32⟩
  | .hbm, ⟨11, _⟩ => ⟨S4x9216, .f32⟩
  | .hbm, ⟨12, _⟩ => ⟨S4x9216, .f32⟩
  | .hbm, ⟨13, _⟩ => ⟨S_, .f32⟩
  | .hbm, ⟨14, _⟩ => ⟨S4x9216, .f32⟩
  | .hbm, ⟨15, _⟩ => ⟨S4x9216, .f32⟩
  | .hbm, ⟨16, _⟩ => ⟨S4x9216, .f32⟩
  | .hbm, ⟨17, _⟩ => ⟨S_, .f32⟩
  | .hbm, ⟨18, _⟩ => ⟨S4x9216, .f32⟩
  | .hbm, ⟨19, _⟩ => ⟨S4x9216, .f32⟩
  | .hbm, ⟨20, _⟩ => ⟨S4x9216, .f32⟩
  | .hbm, ⟨21, _⟩ => ⟨S_, .f32⟩
  | .hbm, ⟨22, _⟩ => ⟨S4x9216, .f32⟩
  | .hbm, ⟨23, _⟩ => ⟨S4x9216, .f32⟩
  | .hbm, ⟨24, _⟩ => ⟨S_, .f32⟩
  | .hbm, ⟨25, _⟩ => ⟨S4x9216, .f32⟩
  | .hbm, ⟨26, _⟩ => ⟨S4x9216, .f32⟩
  | .hbm, ⟨27, _⟩ => ⟨S4x9216, .f32⟩
  | .hbm, ⟨28, _⟩ => ⟨S_, .f32⟩
  | .hbm, ⟨29, _⟩ => ⟨S4x9216, .f32⟩
  | .hbm, ⟨30, _⟩ => ⟨S4x9216, .f32⟩
  | .hbm, ⟨31, _⟩ => ⟨S4x9216, .f32⟩
  | .hbm, ⟨32, _⟩ => ⟨S_, .f32⟩
  | .hbm, ⟨33, _⟩ => ⟨S4x9216, .f32⟩
  | .hbm, ⟨34, _⟩ => ⟨S4x9216, .f32⟩
  | .hbm, ⟨35, _⟩ => ⟨S4x9216, .f32⟩
  | .hbm, ⟨36, _⟩ => ⟨S_, .f32⟩
  | .hbm, ⟨37, _⟩ => ⟨S4x9216, .f32⟩
  | .hbm, ⟨38, _⟩ => ⟨S4x9216, .f32⟩
  | .hbm, ⟨39, _⟩ => ⟨S1x4x9216, .f32⟩
  | .hbm, ⟨40, _⟩ => ⟨S1x4x9216, .f32⟩
  | .hbm, ⟨41, _⟩ => ⟨S1x4x9216, .f32⟩
  | .hbm, ⟨42, _⟩ => ⟨S1x4x9216, .f32⟩
  | _, _ => ⟨S4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdaNormKernel.lean ====
abbrev S4x1024 : Shape := ⟨2, ![4, 1024]⟩
abbrev S8x4x1024 : Shape := ⟨3, ![8, 4, 1024]⟩
abbrev S1x4x1024 : Shape := ⟨3, ![1, 4, 1024]⟩
abbrev S8x1x4x1024 : Shape := ⟨4, ![8, 1, 4, 1024]⟩
abbrev S1x1x4x1024 : Shape := ⟨4, ![1, 1, 4, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S1x4x1024, .f32⟩
  | .hbm, ⟨5, _⟩ => ⟨S1x4x1024, .f32⟩
  | .hbm, ⟨6, _⟩ => ⟨S1x4x1024, .f32⟩
  | .hbm, ⟨7, _⟩ => ⟨S8x1x4x1024, .f32⟩
  | .hbm, ⟨8, _⟩ => ⟨S1x4x1024, .f32⟩
  | .hbm, ⟨9, _⟩ => ⟨S1x4x1024, .f32⟩
  | .hbm, ⟨10, _⟩ => ⟨S1x4x1024, .f32⟩
  | .hbm, ⟨11, _⟩ => ⟨S1x4x1024, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S8x1x4x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | .local _ .vmem, ⟨7, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaNormReferenceIdeal.lean ====
abbrev S4x1024 : Shape := ⟨2, ![4, 1024]⟩
abbrev S8x4x1024 : Shape := ⟨3, ![8, 4, 1024]⟩
abbrev S_ : Shape := ⟨0, ![]⟩
abbrev S1x4x1024 : Shape := ⟨3, ![1, 4, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S8x4x1024, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S_, .f32⟩
  | .hbm, ⟨37, _⟩ => ⟨S4x1024, .f32⟩
  | .hbm, ⟨38, _⟩ => ⟨S4x1024, .f32⟩
  | .hbm, ⟨39, _⟩ => ⟨S1x4x1024, .f32⟩
  | .hbm, ⟨40, _⟩ => ⟨S1x4x1024, .f32⟩
  | .hbm, ⟨41, _⟩ => ⟨S1x4x1024, .f32⟩
  | .hbm, ⟨42, _⟩ => ⟨S1x4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdaConvKernel.lean ====
abbrev S4x4x384 : Shape := ⟨3, ![4, 4, 384]⟩
abbrev S8x4x4x384 : Shape := ⟨4, ![8, 4, 4, 384]⟩
abbrev S1x4x384 : Shape := ⟨3, ![1, 4, 384]⟩
abbrev S8x1x4x384 : Shape := ⟨4, ![8, 1, 4, 384]⟩
abbrev S1x1x4x384 : Shape := ⟨4, ![1, 1, 4, 384]⟩

abbrev nBuf : Space → Nat
  | .hbm => 8
  | .vmem => 16
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S8x4x4x384, .f32⟩
  | .hbm, ⟨4, _⟩ => ⟨S4x4x384, .f32⟩
  | .hbm, ⟨5, _⟩ => ⟨S4x4x384, .f32⟩
  | .hbm, ⟨6, _⟩ => ⟨S4x4x384, .f32⟩
  | .hbm, ⟨7, _⟩ => ⟨S4x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S8x1x4x384, .f32⟩
  | .local _ .vmem, ⟨7, _⟩ => ⟨S8x1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | .local _ .vmem, ⟨14, _⟩ => ⟨S1x4x384, .f32⟩
  | .local _ .vmem, ⟨15, _⟩ => ⟨S1x4x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaConvReferenceIdeal.lean ====
abbrev S4x4x384 : Shape := ⟨3, ![4, 4, 384]⟩
abbrev S8x4x4x384 : Shape := ⟨4, ![8, 4, 4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S8x4x4x384, .f32⟩
  | .hbm, ⟨4, _⟩ => ⟨S_, .f32⟩
  | .hbm, ⟨5, _⟩ => ⟨S4x4x384, .f32⟩
  | .hbm, ⟨6, _⟩ => ⟨S_, .f32⟩
  | .hbm, ⟨7, _⟩ => ⟨S4x4x384, .f32⟩
  | .hbm, ⟨8, _⟩ => ⟨S4x4x384, .f32⟩
  | .hbm, ⟨9, _⟩ => ⟨S_, .f32⟩
  | .hbm, ⟨10, _⟩ => ⟨S4x4x384, .f32⟩
  | .hbm, ⟨11, _⟩ => ⟨S4x4x384, .f32⟩
  | .hbm, ⟨12, _⟩ => ⟨S4x4x384, .f32⟩
  | .hbm, ⟨13, _⟩ => ⟨S_, .f32⟩
  | .hbm, ⟨14, _⟩ => ⟨S4x4x384, .f32⟩
  | .hbm, ⟨15, _⟩ => ⟨S4x4x384, .f32⟩
  | .hbm, ⟨16, _⟩ => ⟨S4x4x384, .f32⟩
  | .hbm, ⟨17, _⟩ => ⟨S_, .f32⟩
  | .hbm, ⟨18, _⟩ => ⟨S4x4x384, .f32⟩
  | .hbm, ⟨19, _⟩ => ⟨S4x4x384, .f32⟩
  | .hbm, ⟨20, _⟩ => ⟨S4x4x384, .f32⟩
  | .hbm, ⟨21, _⟩ => ⟨S_, .f32⟩
  | .hbm, ⟨22, _⟩ => ⟨S4x4x384, .f32⟩
  | .hbm, ⟨23, _⟩ => ⟨S4x4x384, .f32⟩
  | .hbm, ⟨24, _⟩ => ⟨S_, .f32⟩
  | .hbm, ⟨25, _⟩ => ⟨S4x4x384, .f32⟩
  | .hbm, ⟨26, _⟩ => ⟨S4x4x384, .f32⟩
  | .hbm, ⟨27, _⟩ => ⟨S4x4x384, .f32⟩
  | .hbm, ⟨28, _⟩ => ⟨S_, .f32⟩
  | .hbm, ⟨29, _⟩ => ⟨S4x4x384, .f32⟩
  | .hbm, ⟨30, _⟩ => ⟨S4x4x384, .f32⟩
  | .hbm, ⟨31, _⟩ => ⟨S4x4x384, .f32⟩
  | .hbm, ⟨32, _⟩ => ⟨S_, .f32⟩
  | .hbm, ⟨33, _⟩ => ⟨S4x4x384, .f32⟩
  | .hbm, ⟨34, _⟩ => ⟨S4x4x384, .f32⟩
  | .hbm, ⟨35, _⟩ => ⟨S4x4x384, .f32⟩
  | .hbm, ⟨36, _⟩ => ⟨S_, .f32⟩
  | .hbm, ⟨37, _⟩ => ⟨S4x4x384, .f32⟩
  | .hbm, ⟨38, _⟩ => ⟨S4x4x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdaQkKernel.lean ====
abbrev S4x64 : Shape := ⟨2, ![4, 64]⟩
abbrev S8x4x64 : Shape := ⟨3, ![8, 4, 64]⟩
abbrev S1x4x64 : Shape := ⟨3, ![1, 4, 64]⟩
abbrev S8x1x4x64 : Shape := ⟨4, ![8, 1, 4, 64]⟩
abbrev S1x1x4x64 : Shape := ⟨4, ![1, 1, 4, 64]⟩

abbrev nBuf : Space → Nat
  | .hbm => 12
  | .vmem => 8
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S8x4x64, .f32⟩
  | .hbm, ⟨4, _⟩ => ⟨S1x4x64, .f32⟩
  | .hbm, ⟨5, _⟩ => ⟨S1x4x64, .f32⟩
  | .hbm, ⟨6, _⟩ => ⟨S1x4x64, .f32⟩
  | .hbm, ⟨7, _⟩ => ⟨S8x1x4x64, .f32⟩
  | .hbm, ⟨8, _⟩ => ⟨S1x4x64, .f32⟩
  | .hbm, ⟨9, _⟩ => ⟨S1x4x64, .f32⟩
  | .hbm, ⟨10, _⟩ => ⟨S1x4x64, .f32⟩
  | .hbm, ⟨11, _⟩ => ⟨S1x4x64, .f32⟩
  | .local _ .vmem, ⟨0, _⟩ => ⟨S1x4x64, .f32⟩
  | .local _ .vmem, ⟨1, _⟩ => ⟨S1x4x64, .f32⟩
  | .local _ .vmem, ⟨2, _⟩ => ⟨S1x4x64, .f32⟩
  | .local _ .vmem, ⟨3, _⟩ => ⟨S8x1x4x64, .f32⟩
  | .local _ .vmem, ⟨4, _⟩ => ⟨S1x4x64, .f32⟩
  | .local _ .vmem, ⟨5, _⟩ => ⟨S1x4x64, .f32⟩
  | .local _ .vmem, ⟨6, _⟩ => ⟨S1x4x64, .f32⟩
  | .local _ .vmem, ⟨7, _⟩ => ⟨S1x4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaQkReferenceIdeal.lean ====
abbrev S4x64 : Shape := ⟨2, ![4, 64]⟩
abbrev S8x4x64 : Shape := ⟨3, ![8, 4, 64]⟩
abbrev S_ : Shape := ⟨0, ![]⟩
abbrev S1x4x64 : Shape := ⟨3, ![1, 4, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S8x4x64, .f32⟩
  | .hbm, ⟨4, _⟩ => ⟨S_, .f32⟩
  | .hbm, ⟨5, _⟩ => ⟨S4x64, .f32⟩
  | .hbm, ⟨6, _⟩ => ⟨S_, .f32⟩
  | .hbm, ⟨7, _⟩ => ⟨S4x64, .f32⟩
  | .hbm, ⟨8, _⟩ => ⟨S4x64, .f32⟩
  | .hbm, ⟨9, _⟩ => ⟨S_, .f32⟩
  | .hbm, ⟨10, _⟩ => ⟨S4x64, .f32⟩
  | .hbm, ⟨11, _⟩ => ⟨S4x64, .f32⟩
  | .hbm, ⟨12, _⟩ => ⟨S4x64, .f32⟩
  | .hbm, ⟨13, _⟩ => ⟨S_, .f32⟩
  | .hbm, ⟨14, _⟩ => ⟨S4x64, .f32⟩
  | .hbm, ⟨15, _⟩ => ⟨S4x64, .f32⟩
  | .hbm, ⟨16, _⟩ => ⟨S4x64, .f32⟩
  | .hbm, ⟨17, _⟩ => ⟨S_, .f32⟩
  | .hbm, ⟨18, _⟩ => ⟨S4x64, .f32⟩
  | .hbm, ⟨19, _⟩ => ⟨S4x64, .f32⟩
  | .hbm, ⟨20, _⟩ => ⟨S4x64, .f32⟩
  | .hbm, ⟨21, _⟩ => ⟨S_, .f32⟩
  | .hbm, ⟨22, _⟩ => ⟨S4x64, .f32⟩
  | .hbm, ⟨23, _⟩ => ⟨S4x64, .f32⟩
  | .hbm, ⟨24, _⟩ => ⟨S_, .f32⟩
  | .hbm, ⟨25, _⟩ => ⟨S4x64, .f32⟩
  | .hbm, ⟨26, _⟩ => ⟨S4x64, .f32⟩
  | .hbm, ⟨27, _⟩ => ⟨S4x64, .f32⟩
  | .hbm, ⟨28, _⟩ => ⟨S_, .f32⟩
  | .hbm, ⟨29, _⟩ => ⟨S4x64, .f32⟩
  | .hbm, ⟨30, _⟩ => ⟨S4x64, .f32⟩
  | .hbm, ⟨31, _⟩ => ⟨S4x64, .f32⟩
  | .hbm, ⟨32, _⟩ => ⟨S_, .f32⟩
  | .hbm, ⟨33, _⟩ => ⟨S4x64, .f32⟩
  | .hbm, ⟨34, _⟩ => ⟨S4x64, .f32⟩
  | .hbm, ⟨35, _⟩ => ⟨S4x64, .f32⟩
  | .hbm, ⟨36, _⟩ => ⟨S_, .f32⟩
  | .hbm, ⟨37, _⟩ => ⟨S4x64, .f32⟩
  | .hbm, ⟨38, _⟩ => ⟨S4x64, .f32⟩
  | .hbm, ⟨39, _⟩ => ⟨S1x4x64, .f32⟩
  | .hbm, ⟨40, _⟩ => ⟨S1x4x64, .f32⟩
  | .hbm, ⟨41, _⟩ => ⟨S1x4x64, .f32⟩
  | .hbm, ⟨42, _⟩ => ⟨S1x4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdaHeadKernel.lean ====
abbrev S4x8 : Shape := ⟨2, ![4, 8]⟩
abbrev S8x4x8 : Shape := ⟨3, ![8, 4, 8]⟩
abbrev S1x4x8 : Shape := ⟨3, ![1, 4, 8]⟩
abbrev S8x1x4x8 : Shape := ⟨4, ![8, 1, 4, 8]⟩
abbrev S1x1x4x8 : Shape := ⟨4, ![1, 1, 4, 8]⟩

abbrev nBuf : Space → Nat
  | .hbm => 12
  | .vmem => 8
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S8x4x8, .f32⟩
  | .hbm, ⟨4, _⟩ => ⟨S1x4x8, .f32⟩
  | .hbm, ⟨5, _⟩ => ⟨S1x4x8, .f32⟩
  | .hbm, ⟨6, _⟩ => ⟨S1x4x8, .f32⟩
  | .hbm, ⟨7, _⟩ => ⟨S8x1x4x8, .f32⟩
  | .hbm, ⟨8, _⟩ => ⟨S1x4x8, .f32⟩
  | .hbm, ⟨9, _⟩ => ⟨S1x4x8, .f32⟩
  | .hbm, ⟨10, _⟩ => ⟨S1x4x8, .f32⟩
  | .hbm, ⟨11, _⟩ => ⟨S1x4x8, .f32⟩
  | .local _ .vmem, ⟨0, _⟩ => ⟨S1x4x8, .f32⟩
  | .local _ .vmem, ⟨1, _⟩ => ⟨S1x4x8, .f32⟩
  | .local _ .vmem, ⟨2, _⟩ => ⟨S1x4x8, .f32⟩
  | .local _ .vmem, ⟨3, _⟩ => ⟨S8x1x4x8, .f32⟩
  | .local _ .vmem, ⟨4, _⟩ => ⟨S1x4x8, .f32⟩
  | .local _ .vmem, ⟨5, _⟩ => ⟨S1x4x8, .f32⟩
  | .local _ .vmem, ⟨6, _⟩ => ⟨S1x4x8, .f32⟩
  | .local _ .vmem, ⟨7, _⟩ => ⟨S1x4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaHeadReferenceIdeal.lean ====
abbrev S4x8 : Shape := ⟨2, ![4, 8]⟩
abbrev S8x4x8 : Shape := ⟨3, ![8, 4, 8]⟩
abbrev S_ : Shape := ⟨0, ![]⟩
abbrev S1x4x8 : Shape := ⟨3, ![1, 4, 8]⟩

abbrev nBuf : Space → Nat
  | .hbm => 43
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S8x4x8, .f32⟩
  | .hbm, ⟨4, _⟩ => ⟨S_, .f32⟩
  | .hbm, ⟨5, _⟩ => ⟨S4x8, .f32⟩
  | .hbm, ⟨6, _⟩ => ⟨S_, .f32⟩
  | .hbm, ⟨7, _⟩ => ⟨S4x8, .f32⟩
  | .hbm, ⟨8, _⟩ => ⟨S4x8, .f32⟩
  | .hbm, ⟨9, _⟩ => ⟨S_, .f32⟩
  | .hbm, ⟨10, _⟩ => ⟨S4x8, .f32⟩
  | .hbm, ⟨11, _⟩ => ⟨S4x8, .f32⟩
  | .hbm, ⟨12, _⟩ => ⟨S4x8, .f32⟩
  | .hbm, ⟨13, _⟩ => ⟨S_, .f32⟩
  | .hbm, ⟨14, _⟩ => ⟨S4x8, .f32⟩
  | .hbm, ⟨15, _⟩ => ⟨S4x8, .f32⟩
  | .hbm, ⟨16, _⟩ => ⟨S4x8, .f32⟩
  | .hbm, ⟨17, _⟩ => ⟨S_, .f32⟩
  | .hbm, ⟨18, _⟩ => ⟨S4x8, .f32⟩
  | .hbm, ⟨19, _⟩ => ⟨S4x8, .f32⟩
  | .hbm, ⟨20, _⟩ => ⟨S4x8, .f32⟩
  | .hbm, ⟨21, _⟩ => ⟨S_, .f32⟩
  | .hbm, ⟨22, _⟩ => ⟨S4x8, .f32⟩
  | .hbm, ⟨23, _⟩ => ⟨S4x8, .f32⟩
  | .hbm, ⟨24, _⟩ => ⟨S_, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S_, .f32⟩
  | .hbm, ⟨29, _⟩ => ⟨S4x8, .f32⟩
  | .hbm, ⟨30, _⟩ => ⟨S4x8, .f32⟩
  | .hbm, ⟨31, _⟩ => ⟨S4x8, .f32⟩
  | .hbm, ⟨32, _⟩ => ⟨S_, .f32⟩
  | .hbm, ⟨33, _⟩ => ⟨S4x8, .f32⟩
  | .hbm, ⟨34, _⟩ => ⟨S4x8, .f32⟩
  | .hbm, ⟨35, _⟩ => ⟨S4x8, .f32⟩
  | .hbm, ⟨36, _⟩ => ⟨S_, .f32⟩
  | .hbm, ⟨37, _⟩ => ⟨S4x8, .f32⟩
  | .hbm, ⟨38, _⟩ => ⟨S4x8, .f32⟩
  | .hbm, ⟨39, _⟩ => ⟨S1x4x8, .f32⟩
  | .hbm, ⟨40, _⟩ => ⟨S1x4x8, .f32⟩
  | .hbm, ⟨41, _⟩ => ⟨S1x4x8, .f32⟩
  | .hbm, ⟨42, _⟩ => ⟨S1x4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdaDnKernel.lean ====
abbrev S4x128 : Shape := ⟨2, ![4, 128]⟩
abbrev S8x4x128 : Shape := ⟨3, ![8, 4, 128]⟩
abbrev S1x4x128 : Shape := ⟨3, ![1, 4, 128]⟩
abbrev S8x1x4x128 : Shape := ⟨4, ![8, 1, 4, 128]⟩
abbrev S1x1x4x128 : Shape := ⟨4, ![1, 1, 4, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S8x4x128, .f32⟩
  | .hbm, ⟨4, _⟩ => ⟨S1x4x128, .f32⟩
  | .hbm, ⟨5, _⟩ => ⟨S1x4x128, .f32⟩
  | .hbm, ⟨6, _⟩ => ⟨S1x4x128, .f32⟩
  | .hbm, ⟨7, _⟩ => ⟨S8x1x4x128, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S1x4x128, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S8x1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdaDnReferenceIdeal.lean ====
abbrev S4x128 : Shape := ⟨2, ![4, 128]⟩
abbrev S8x4x128 : Shape := ⟨3, ![8, 4, 128]⟩
abbrev S_ : Shape := ⟨0, ![]⟩
abbrev S1x4x128 : Shape := ⟨3, ![1, 4, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S8x4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | .hbm, ⟨39, _⟩ => ⟨S1x4x128, .f32⟩
  | .hbm, ⟨40, _⟩ => ⟨S1x4x128, .f32⟩
  | .hbm, ⟨41, _⟩ => ⟨S1x4x128, .f32⟩
  | .hbm, ⟨42, _⟩ => ⟨S1x4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Common.lean ====
/-
  Facts used by several of the value proofs of this directory: a sum over one contracted axis written over a range, a sum
  over columns padded with zeros, and the padded layout of a 2816-column array read at an index.
-/
module

public import Idealize.ShloMosaic.Lib.Pipeline.Value
public import Idealize.ShloMosaic.Lib.ValueIdx
public import Idealize.ShloMosaic.Lib.KernelVsHost
public import Idealize.ShloMosaic.Lib.IdealHost
public import Idealize.ShloMosaic.Lib.MatmulPlain

@[expose] public section

noncomputable section

namespace Cert.Common

open Idealize.ShloMosaic Idealize.ShloMosaic.ValueIdx
open scoped BigOperators

/-- The two zero offsets of a rank-two access, as the constant function. -/
theorem zeros2 : (![0, 0] : Fin 2 → Nat) = fun _ => 0 := funext fun a => by fin_cases a <;> rfl
/-- The three zero offsets of a rank-three access, as the constant function. -/
theorem zeros3 : (![0, 0, 0] : Fin 3 → Nat) = fun _ => 0 := funext fun a => by fin_cases a <;> rfl

/-- A sum over the positions of one contracted axis is the sum over its extent. -/
theorem contr_sum {sl sr so : Shape} (D : DotDims sl sr so) (n : ℕ) (hr : D.contr.rank = 1)
    (hs : D.contr.size ⟨0, by omega⟩ = n) (f : D.contr.Idx → EReal) (g : Fin n → EReal)
    (h : ∀ (k : Fin n) (q : D.contr.Idx), (q ⟨0, by omega⟩ : ℕ) = k.val → f q = g k) :
    ∑ q, f q = ∑ k, g k := by
  rw [← Equiv.sum_comp (contrEquiv1 D n hr hs).symm]
  exact Finset.sum_congr rfl fun k _ => h k _ (contrEquiv1_symm_val D n hr hs k)

/-- A matrix product with one contracted axis, read at an index: the accumulator plus the sum of the products of the
    entries the two index families name. -/
theorem matmul_apply1 {sl sr so : Shape} {φ₁ φ₂ : FTy} (D : DotDims sl sr so) (n : ℕ) (hr : D.contr.rank = 1)
    (hs : D.contr.size ⟨0, by omega⟩ = n) (prec : Option ContractPrecision)
    (x : FVec Ideal sl φ₁) (y : FVec Ideal sr φ₂) (acc : FVec Ideal so .f32) (j : so.Idx)
    (l : Fin n → sl.Idx) (r : Fin n → sr.Idx)
    (hl : ∀ (k : Fin n) (q : D.contr.Idx), (q ⟨0, by omega⟩ : ℕ) = k.val → ∀ a, (D.lhsIdx j q a : ℕ) = (l k a : ℕ))
    (hrr : ∀ (k : Fin n) (q : D.contr.Idx), (q ⟨0, by omega⟩ : ℕ) = k.val → ∀ a, (D.rhsIdx j q a : ℕ) = (r k a : ℕ)) :
    FloatOps.matmul D prec x y acc j = (acc j + ∑ k, x (l k) * y (r k) : EReal) := by
  rw [Ideal.matmul_apply]
  refine congrArg (acc j + ·) (contr_sum D n hr hs _ _ fun k q hq => ?_)
  rw [show D.lhsIdx j q = l k from funext fun a => Fin.ext (hl k q hq a),
    show D.rhsIdx j q = r k from funext fun a => Fin.ext (hrr k q hq a)]

/-- A host product with one contracted axis, read at an index. -/
theorem dotGeneral_apply1 {sl sr so : Shape} {φ₁ φ₂ : FTy} (D : DotDims sl sr so) (n : ℕ) (hr : D.contr.rank = 1)
    (hs : D.contr.size ⟨0, by omega⟩ = n) (prec : Option ContractPrecision)
    (x : FVec Ideal sl φ₁) (y : FVec Ideal sr φ₂) (j : so.Idx)
    (l : Fin n → sl.Idx) (r : Fin n → sr.Idx)
    (hl : ∀ (k : Fin n) (q : D.contr.Idx), (q ⟨0, by omega⟩ : ℕ) = k.val → ∀ a, (D.lhsIdx j q a : ℕ) = (l k a : ℕ))
    (hrr : ∀ (k : Fin n) (q : D.contr.Idx), (q ⟨0, by omega⟩ : ℕ) = k.val → ∀ a, (D.rhsIdx j q a : ℕ) = (r k a : ℕ)) :
    Host.dotGeneral D prec x y j = (∑ k, x (l k) * y (r k) : EReal) := by
  unfold Host.dotGeneral
  rw [Ideal.dotGeneral_apply]
  refine contr_sum D n hr hs _ _ fun k q hq => ?_
  rw [show D.lhsIdx j q = l k from funext fun a => Fin.ext (hl k q hq a),
    show D.rhsIdx j q = r k from funext fun a => Fin.ext (hrr k q hq a)]

/-- The array of a function of its two coordinates. -/
def arr2 {M N : ℕ} {α : Type} (f : Fin M → Fin N → α) : (⟨2, ![M, N]⟩ : Shape).Idx → α := fun i => f (i 0) (i 1)

/-- An array is the array of its entries. -/
theorem eq_arr2 {M N : ℕ} {α : Type} {x : (⟨2, ![M, N]⟩ : Shape).Idx → α} {f : Fin M → Fin N → α}
    (h : ∀ a b, x (ix2 a b) = f a b) : x = arr2 f := by
  funext i
  rw [eq_ix2 i]
  exact h _ _

/-- The array of a function of its three coordinates. -/
def arr3 {M N K : ℕ} {α : Type} (f : Fin M → Fin N → Fin K → α) : (⟨3, ![M, N, K]⟩ : Shape).Idx → α :=
  fun i => f (i 0) (i 1) (i 2)

/-- An array is the array of its entries. -/
theorem eq_arr3 {M N K : ℕ} {α : Type} {x : (⟨3, ![M, N, K]⟩ : Shape).Idx → α} {f : Fin M → Fin N → Fin K → α}
    (h : ∀ a b d, x (ix3 a b d) = f a b d) : x = arr3 f := by
  funext i
  rw [eq_ix3 i]
  exact h _ _ _

/-- A sum over 3072 columns that hold, in four groups of 768, the 2816 columns in groups of 704 followed by zeros. -/
theorem sum_padded {M : Type*} [AddCommMonoid M] (g : Fin 3072 → M) (f : Fin 2816 → M)
    (hin : ∀ (q : Fin 3072) (h : q.val % 768 < 704), g q = f ⟨q.val / 768 * 704 + q.val % 768, by omega⟩)
    (hout : ∀ q : Fin 3072, ¬ q.val % 768 < 704 → g q = 0) :
    ∑ q, g q = ∑ j, f j := by
  symm
  refine Fintype.sum_of_injective (fun j : Fin 2816 => (⟨j.val / 704 * 768 + j.val % 704, by omega⟩ : Fin 3072)) ?_ f g ?_ ?_
  · intro a b h
    have := Fin.mk.inj h
    exact Fin.ext (by omega)
  · intro q hq
    refine hout q fun h => hq ⟨⟨q.val / 768 * 704 + q.val % 768, by omega⟩, Fin.ext ?_⟩
    show (q.val / 768 * 704 + q.val % 768) / 704 * 768 + (q.val / 768 * 704 + q.val % 768) % 704 = q.val
    omega
  · intro j
    rw [hin _ (by show (j.val / 704 * 768 + j.val % 704) % 768 < 704; omega)]
    refine congrArg f (Fin.ext ?_)
    show j.val = (j.val / 704 * 768 + j.val % 704) / 768 * 704 + (j.val / 704 * 768 + j.val % 704) % 768
    omega

end Cert.Common

end
-- ==== Proof.UpDg.lean ====
/-
  The gradient of the FFN's up projection with respect to its input: on every device the tiled kernel's result array is
  the transposed product of the joined gate and up gradients with the weights. Written here: the padded operands read
  at an index, one block of the result, and the sum over the padded columns brought back to the sum over the columns.
-/
module

public import proofs.«01_k».proof.Defs
public import proofs.«01_k».proof.Proof.Common
public import proofs.«01_k».proof.Proof.Gen.UpDgKernelIdeal.Value
public import proofs.«01_k».proof.Proof.Gen.UpDgReferenceIdeal.Run
public import Idealize.ShloMosaic.Lib.Claim
public import Idealize.ShloMosaic.Lib.Quiescent
public import Idealize.ShloMosaic.Lib.Pipeline.ValueKit.Point

@[expose] public section

noncomputable section

namespace Cert.UpDg

open Idealize.ShloMosaic Idealize.ShloMosaic.TcCoe

section Reference

open Cert.UpDgReferenceIdeal Cert.UpDgReferenceIdeal.Gen

/-- The gate's and the up gradient's products with their halves of the weights, summed. -/
def joined (w : FVec Ideal S1024x5632 .f32) (g u : FVec Ideal S2048x2816 .f32) : FVec Ideal S2048x1024 .f32 :=
  Common.arr2 fun t d =>
    ((∑ k : Fin 2816, g (ix2 t k) * w (ix2 d ⟨k.val, by omega⟩) : EReal)
      + ∑ k : Fin 2816, u (ix2 t k) * w (ix2 d ⟨2816 + k.val, by omega⟩) : EReal)

/-- The reference's term: the two gradients side by side against the weights. -/
theorem reference_eq (w : FVec Ideal S1024x5632 .f32) (g u : FVec Ideal S2048x2816 .f32) :
    Host.dotGeneral dot_S2048x5632_S1024x5632_S2048x1024_1_1_0_0_n_n none
      (addf (pad S2048x5632 ![0, 2816] ![0, 0] ![0, 0] u (constant S_ .f32 0x00000000#32)
          pads_S2048x2816_S2048x5632_000_281600 h_S_)
        (pad S2048x5632 ![0, 0] ![0, 2816] ![0, 0] g (constant S_ .f32 0x00000000#32)
          pads_S2048x2816_S2048x5632_000_028160 h_S_)) w = joined w g u := by
  refine Common.eq_arr2 fun t d => ?_
  pointwise
  refine (Fin.sum_univ_add (a := 2816) (b := 2816) _).trans (congrArg₂ (fun a b : EReal => a + b)
    (Finset.sum_congr rfl fun k _ => ?_) (Finset.sum_congr rfl fun k _ => ?_))
  · have hk : ((Fin.castAdd 2816 k : Fin (2816 + 2816)) : ℕ) = k.val := rfl
    rw [dif_neg (by omega), dif_pos (by omega), zero_add]
    rfl
  · have hk : ((Fin.natAdd 2816 k : Fin (2816 + 2816)) : ℕ) = 2816 + k.val := rfl
    rw [dif_pos (by omega), dif_neg (by omega), add_zero]
    blk_point

end Reference

open Idealize.SL.Sem
open Idealize.ShloMosaic.Pipeline (Dat)
open Cert.UpDgKernelIdeal Cert.UpDgKernelIdeal.Gen

variable (m : (ℓ : Loc nD τ sig) → Buf (Elt Ideal) ℓ) (c : Dev nD)

/-- The 2816 columns in four groups of 704, each group followed by zeros up to 768 columns. -/
def colsPad (x : FVec Ideal S2048x2816 .f32) : FVec Ideal S2048x3072 .bf16 :=
  truncf .bf16 (shapeCast S2048x3072 (pad S2048x4x768 ![0, 0, 0] ![0, 0, 64] ![0, 0, 0]
    (shapeCast S2048x4x704 x shapeCasts_S2048x2816_S2048x4x704) (sitofp .f32 (constantI S_ 32 0#32))
    pads_S2048x4x704_S2048x4x768_000_000_0640 h_S_) shapeCasts_S2048x4x768_S2048x3072) bitsLt_bf16_f32

/-- The weights transposed, their 5632 rows in eight groups of 704, each followed by zeros up to 768 rows. -/
def rowsPad (w : FVec Ideal S1024x5632 .f32) : FVec Ideal S8x768x1024 .bf16 :=
  truncf .bf16 (pad S8x768x1024 ![0, 0, 0] ![0, 64, 0] ![0, 0, 0]
    (shapeCast S8x704x1024 (transpose S5632x1024 [1, 0] w transposes_S1024x5632_S5632x1024_1_0)
      shapeCasts_S5632x1024_S8x704x1024) (sitofp .f32 (constantI S_ 32 0#32))
    pads_S8x704x1024_S8x768x1024_000_0640_000 h_S_) bitsLt_bf16_f32

theorem V_v3 : V m c main_v3 = colsPad (m ((c : Thread nD τ).loc main_arg2)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons,
    List.flatten_nil, List.append_nil, List.cons_append, List.nil_append]
  after_results_simp
  rfl

theorem V_v7 : V m c main_v7 = colsPad (m ((c : Thread nD τ).loc main_arg3)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons,
    List.flatten_nil, List.append_nil, List.cons_append, List.nil_append]
  after_results_simp
  rfl

theorem V_v11 : V m c main_v11 = rowsPad (m ((c : Thread nD τ).loc main_arg1)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons,
    List.flatten_nil, List.append_nil, List.cons_append, List.nil_append]
  after_results_simp
  rfl

/-- The padded columns at an index: the column of the group, or zero. -/
theorem colsPad_apply (x : FVec Ideal S2048x2816 .f32) (t : Fin 2048) (q : Fin 3072) :
    colsPad x (ix2 t q)
      = if h : q.val % 768 < 704 then x (ix2 t ⟨q.val / 768 * 704 + q.val % 768, by omega⟩) else (0 : EReal) := by
  pointwise [colsPad]
  have hq : q.val / 768 < 4 := by omega
  by_cases h : q.val % 768 < 704
  · rw [dif_pos ⟨hq, h⟩, dif_pos h]
  · rw [dif_neg (fun h' => h h'.2), dif_neg h]
    exact sitofp_zero

/-- The padded rows at an index: the row of the group, or zero. -/
theorem rowsPad_apply (w : FVec Ideal S1024x5632 .f32) (s : Fin 8) (r : Fin 768) (d : Fin 1024) :
    rowsPad w (ix3 s r d)
      = if h : r.val < 704 then w (ix2 d ⟨s.val * 704 + r.val, by omega⟩) else (0 : EReal) := by
  pointwise [rowsPad]
  by_cases h : r.val < 704
  · rw [dif_pos h, dif_pos h]
  · rw [dif_neg h, dif_neg h]
    exact sitofp_zero

/-- The kernel's result from its three padded operands: two products, summed. -/
def paddedProduct (x y : FVec Ideal S2048x3072 .bf16) (w : FVec Ideal S8x768x1024 .bf16) : FVec Ideal S2048x1024 .f32 :=
  Common.arr2 fun t d =>
    ((∑ k : Fin 3072, x (ix2 t k) * w (ix3 ⟨k.val / 768, by omega⟩ ⟨k.val % 768, by omega⟩ d) : EReal)
      + ∑ k : Fin 3072, y (ix2 t k) * w (ix3 ⟨4 + k.val / 768, by omega⟩ ⟨k.val % 768, by omega⟩ d) : EReal)

theorem index3 : ∀ t : Fin cfg0.N, win0_3.index t = ![(grid0.coords t 0).val, (grid0.coords t 1).val] :=
  (by decide +kernel : ∀ t : Fin grid0.N, _)
theorem index0 : ∀ t : Fin cfg0.N, win0_0.index t = ![(grid0.coords t 0).val, 0] :=
  (by decide +kernel : ∀ t : Fin grid0.N, _)
theorem index1 : ∀ t : Fin cfg0.N, win0_1.index t = ![(grid0.coords t 0).val, 0] :=
  (by decide +kernel : ∀ t : Fin grid0.N, _)
theorem index2 : ∀ t : Fin cfg0.N, win0_2.index t = ![0, 0, (grid0.coords t 1).val] :=
  (by decide +kernel : ∀ t : Fin grid0.N, _)

/-- The result array is the two products of the padded operands. -/
theorem final : (dats m 0 c).arrAt 3 cfg0.N = paddedProduct (V m c main_v3) (V m c main_v7) (V m c main_v11) := by
  refine (dats m 0 c).arrAt_eq_of_covers 3 _ (by decide +kernel) fun t hf y => ?_
  blk_simp
  rw [after0_3]
  frame_out
  pointwise [k0_pay1, paddedProduct, Common.arr2]
  blk_point [iblk, index0, index1, index2, index3]

/-- The products over padded columns are the products over the columns: the padding adds zeros. -/
theorem paddedProduct_eq (w : FVec Ideal S1024x5632 .f32) (g u : FVec Ideal S2048x2816 .f32) :
    paddedProduct (colsPad g) (colsPad u) (rowsPad w) = joined w g u := by
  refine congrArg Common.arr2 (funext fun t => funext fun d => congrArg₂ (fun a b : EReal => a + b)
    (Common.sum_padded _ _ (fun q h => ?_) fun q h => ?_) (Common.sum_padded _ _ (fun q h => ?_) fun q h => ?_))
  · rw [colsPad_apply, rowsPad_apply, dif_pos h, dif_pos h]
  · rw [colsPad_apply, dif_neg h, zero_mul]
  · rw [colsPad_apply, rowsPad_apply, dif_pos h, dif_pos h]
    blk_point
  · rw [colsPad_apply, dif_neg h, zero_mul]

/-- The result array as a function of the arguments. -/
theorem final_eq : (dats m 0 c).arrAt 3 cfg0.N = joined (m ((c : Thread nD τ).loc main_arg1))
    (m ((c : Thread nD τ).loc main_arg2)) (m ((c : Thread nD τ).loc main_arg3)) := by
  rw [final, V_v3, V_v7, V_v11, paddedProduct_eq]

/-- From agreeing arguments the tiled kernel and the reference both run to the joined product. -/
theorem algebraic : Cert.algebraic_UpDgKernelIdeal_UpDgReferenceIdeal := by
  intro m g m' g' _ hagree
  refine ⟨fun c => joined (m ((c : Thread nD τ).loc main_arg1)) (m ((c : Thread nD τ).loc main_arg2))
    (m ((c : Thread nD τ).loc main_arg3)), ?_, ?_⟩
  · exact (θ_run Cert.UpDgKernelIdeal.defs _ _).mono (fun _ h c => ⟨(h c).1.trans (final_eq m c), (h c).2⟩)
      (Cert.UpDgKernelIdeal.Value.run_blocks m g)
  · refine (θ_run Cert.UpDgReferenceIdeal.defs _ _).mono (fun _ h c => ⟨(h c).1.trans ?_, (h c).2⟩)
      (Cert.UpDgReferenceIdeal.Value.run (F := Ideal) m' g')
    rw [(hagree c).2.1, (hagree c).2.2.1, (hagree c).2.2.2]
    exact reference_eq _ _ _

/-- The reference leaves its arguments and its counters as it found them. -/
theorem reference_frame : Cert.quiescent_UpDgReferenceIdeal := fun m ρ _ =>
  (θ_run Cert.UpDgReferenceIdeal.defs _ _).mono (fun r h => ⟨fun c => (h c).2, sem_eq_zero_of_no_sems (by decide) r.2⟩)
    (Cert.UpDgReferenceIdeal.Value.run (F := Ideal) m ρ)

end Cert.UpDg

end
-- ==== Proof.UpWg.lean ====
/-
  The gradient of the FFN's up projection with respect to its weights: on every device the tiled kernel's result array is
  the product of the joined gate and up gradients with the layer's input, transposed, in the padded layout of the
  weights. The kernel walks eight groups of rows: four of the gate's gradient, then four of the up gradient.
-/
module

public import proofs.«01_k».proof.Defs
public import proofs.«01_k».proof.Proof.Common
public import proofs.«01_k».proof.Proof.UpDg
public import proofs.«01_k».proof.Proof.Gen.UpWgKernelIdeal.Value
public import proofs.«01_k».proof.Proof.Gen.UpWgReferenceIdeal.Run
public import Idealize.ShloMosaic.Lib.Claim
public import Idealize.ShloMosaic.Lib.Quiescent
public import Idealize.ShloMosaic.Lib.Pipeline.ValueKit.Point

@[expose] public section

noncomputable section

namespace Cert.UpWg

open Idealize.ShloMosaic Idealize.ShloMosaic.TcCoe

section Reference

open Cert.UpWgReferenceIdeal Cert.UpWgReferenceIdeal.Gen

/-- The weights' gradient in eight groups of 704 rows, each followed by zeros up to 768 rows: the gate's four groups,
    then the up projection's. -/
def gradRows (x : FVec Ideal S2048x1024 .f32) (g u : FVec Ideal S2048x2816 .f32) : FVec Ideal S8x768x1024 .bf16 :=
  Common.arr3 fun s r d =>
    if h : r.val < 704 then
      if hs : s.val < 4 then (∑ k : Fin 2048, g (ix2 k ⟨s.val * 704 + r.val, by omega⟩) * x (ix2 k d) : EReal)
      else (∑ k : Fin 2048, u (ix2 k ⟨(s.val - 4) * 704 + r.val, by omega⟩) * x (ix2 k d) : EReal)
    else (0 : EReal)

/-- The reference's term: the joined gradients against the input, laid out in padded groups of rows. -/
theorem reference_eq (x : FVec Ideal S2048x1024 .f32) (g u : FVec Ideal S2048x2816 .f32) :
    truncf .bf16 (pad S8x768x1024 ![0, 0, 0] ![0, 64, 0] ![0, 0, 0] (shapeCast S8x704x1024 (transpose S5632x1024 [1, 0]
      (transpose S1024x5632 [1, 0] (Host.dotGeneral dot_S2048x5632_S2048x1024_S5632x1024_0_0_1_1_n_n none
        (addf (pad S2048x5632 ![0, 2816] ![0, 0] ![0, 0] u (constant S_ .f32 0x00000000#32)
            pads_S2048x2816_S2048x5632_000_281600 h_S_)
          (pad S2048x5632 ![0, 0] ![0, 2816] ![0, 0] g (constant S_ .f32 0x00000000#32)
            pads_S2048x2816_S2048x5632_000_028160 h_S_)) x)
        transposes_S5632x1024_S1024x5632_1_0) transposes_S1024x5632_S5632x1024_1_0) shapeCasts_S5632x1024_S8x704x1024)
      (sitofp .f32 (constantI S_ 32 0#32)) pads_S8x704x1024_S8x768x1024_000_0640_000 h_S_) bitsLt_bf16_f32
      = gradRows x g u := by
  refine Common.eq_arr3 fun s r d => ?_
  pointwise
  by_cases h : r.val < 704
  · refine (dif_pos h).trans (Eq.trans ?_ (dif_pos h).symm)
    by_cases hs : s.val < 4
    · refine Eq.trans ?_ (dif_pos hs).symm
      refine Finset.sum_congr rfl fun k _ => congrArg (fun e : EReal => e * x (ix2 k d)) ?_
      have hu : ¬(2816 ≤ s.val * 704 + r.val ∧ s.val * 704 + r.val - 2816 < 2816) := by omega
      have hg : s.val * 704 + r.val < 2816 := by omega
      exact (congrArg₂ (fun a b : EReal => a + b) (dif_neg hu) (dif_pos hg)).trans (zero_add _)
    · refine Eq.trans ?_ (dif_neg hs).symm
      refine Finset.sum_congr rfl fun k _ => congrArg (fun e : EReal => e * x (ix2 k d)) ?_
      have hu : 2816 ≤ s.val * 704 + r.val ∧ s.val * 704 + r.val - 2816 < 2816 := by omega
      have hg : ¬s.val * 704 + r.val < 2816 := by omega
      refine (congrArg₂ (fun a b : EReal => a + b) (dif_pos hu) (dif_neg hg)).trans ((add_zero _).trans ?_)
      exact congrArg u (congrArg (ix2 k) (Fin.ext (by
        show s.val * 704 + r.val - 2816 = (s.val - 4) * 704 + r.val
        omega)))
  · refine (dif_neg h).trans (Eq.trans ?_ (dif_neg h).symm)
    exact sitofp_zero

end Reference

open Idealize.SL.Sem
open Idealize.ShloMosaic.Pipeline (Dat)
open Cert.UpWgKernelIdeal Cert.UpWgKernelIdeal.Gen

variable (m : (ℓ : Loc nD τ sig) → Buf (Elt Ideal) ℓ) (c : Dev nD)

theorem V_v0 : V m c main_v0 = m ((c : Thread nD τ).loc main_arg0) := by
  show StableHlo.after (List.flatten [hostOps0, hostOps0_1, hostOps0_2, hostOps0_3, hostOps0_4]) _ _ = _
  simp only [hostOps0, hostOps0_1, hostOps0_2, hostOps0_3, hostOps0_4, List.flatten_cons,
    List.flatten_nil, List.append_nil, List.cons_append, List.nil_append]
  after_results_simp
  rfl

theorem V_v4 : V m c main_v4 = UpDg.colsPad (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons,
    List.flatten_nil, List.append_nil, List.cons_append, List.nil_append]
  after_results_simp
  rfl

theorem V_v8 : V m c main_v8 = UpDg.colsPad (m ((c : Thread nD τ).loc main_arg3)) := by
  show StableHlo.after (List.flatten [hostOps0, hostOps0_1, hostOps0_2, hostOps0_3, hostOps0_4]) _ _ = _
  simp only [hostOps0, hostOps0_1, hostOps0_2, hostOps0_3, hostOps0_4, List.flatten_cons,
    List.flatten_nil, List.append_nil, List.cons_append, List.nil_append]
  after_results_simp
  rfl

/-- The kernel's result from its operands in the padded layout. -/
def paddedGrad (x : FVec Ideal S2048x1024 .bf16) (g u : FVec Ideal S2048x3072 .bf16) : FVec Ideal S8x768x1024 .bf16 :=
  Common.arr3 fun s r d =>
    if hs : s.val < 4 then (∑ k : Fin 2048, g (ix2 k ⟨s.val * 768 + r.val, by omega⟩) * x (ix2 k d) : EReal)
    else (∑ k : Fin 2048, u (ix2 k ⟨(s.val - 4) * 768 + r.val, by omega⟩) * x (ix2 k d) : EReal)

theorem index3 : ∀ t : Fin cfg0.N, win0_3.index t = ![t.val, 0, 0] := (by decide +kernel : ∀ t : Fin grid0.N, _)
theorem index0 : ∀ t : Fin cfg0.N, win0_0.index t = ![0, 0] := (by decide +kernel : ∀ t : Fin grid0.N, _)
theorem index1 : ∀ t : Fin cfg0.N, win0_1.index t = ![0, min t.val 3] := (by decide +kernel : ∀ t : Fin grid0.N, _)
theorem index2 : ∀ t : Fin cfg0.N, win0_2.index t = ![0, t.val - 4] := (by decide +kernel : ∀ t : Fin grid0.N, _)

/-- The result array from the padded operands. -/
theorem final : (dats m 0 c).arrAt 3 cfg0.N = paddedGrad (V m c main_v0) (V m c main_v4) (V m c main_v8) := by
  refine (dats m 0 c).arrAt_eq_of_covers 3 _ (by decide +kernel) fun t hf y => ?_
  blk_simp
  rw [after0_3]
  by_cases h : t.val < 4
  · rw [outsAt0_A m c t h (by omega)]
    frame_out
    pointwise [k0_pay1, paddedGrad, Common.arr3]
    rw [dif_pos (by blk_simp [index3]; omega)]
    blk_point [iblk, index0, index1, index2, index3]
  · rw [outsAt0_B m c t h (by omega)]
    frame_out
    pointwise [k0_pay2, paddedGrad, Common.arr3]
    rw [dif_neg (by blk_simp [index3]; omega)]
    blk_point [iblk, index0, index1, index2, index3]

/-- The padded rows hold the gradient where the group has a row and zero elsewhere: a padded column is zero. -/
theorem paddedGrad_eq (x : FVec Ideal S2048x1024 .f32) (g u : FVec Ideal S2048x2816 .f32) :
    paddedGrad x (UpDg.colsPad g) (UpDg.colsPad u) = gradRows x g u := by
  refine congrArg Common.arr3 (funext fun s => funext fun r => funext fun d => ?_)
  have hcol (f : FVec Ideal S2048x2816 .f32) (e : ℕ) (he : e < 4) (k : Fin 2048) :
      UpDg.colsPad f (ix2 k ⟨e * 768 + r.val, by omega⟩)
        = if h : r.val < 704 then f (ix2 k ⟨e * 704 + r.val, by omega⟩) else (0 : EReal) := by
    rw [UpDg.colsPad_apply]
    have hq : (e * 768 + r.val) / 768 = e := by omega
    have hr : (e * 768 + r.val) % 768 = r.val := by omega
    simp only [hq, hr]
  by_cases h : r.val < 704
  · rw [dif_pos h]
    by_cases hs : s.val < 4
    · rw [dif_pos hs, dif_pos hs]
      refine Finset.sum_congr rfl fun k _ => congrArg (fun e : EReal => e * x (ix2 k d)) ?_
      rw [hcol g s.val hs k, dif_pos h]
    · rw [dif_neg hs, dif_neg hs]
      refine Finset.sum_congr rfl fun k _ => congrArg (fun e : EReal => e * x (ix2 k d)) ?_
      rw [hcol u (s.val - 4) (by omega) k, dif_pos h]
  · rw [dif_neg h]
    by_cases hs : s.val < 4
    · rw [dif_pos hs]
      refine Finset.sum_eq_zero fun k _ => ?_
      rw [hcol g s.val hs k, dif_neg h]
      exact zero_mul _
    · rw [dif_neg hs]
      refine Finset.sum_eq_zero fun k _ => ?_
      rw [hcol u (s.val - 4) (by omega) k, dif_neg h]
      exact zero_mul _

/-- The result array as a function of the arguments. -/
theorem final_eq : (dats m 0 c).arrAt 3 cfg0.N = gradRows (m ((c : Thread nD τ).loc main_arg0))
    (m ((c : Thread nD τ).loc main_arg2)) (m ((c : Thread nD τ).loc main_arg3)) := by
  rw [final, V_v0, V_v4, V_v8]
  exact paddedGrad_eq _ _ _

/-- From agreeing arguments the tiled kernel and the reference both run to the padded gradient. -/
theorem algebraic : Cert.algebraic_UpWgKernelIdeal_UpWgReferenceIdeal := by
  intro m g m' g' _ hagree
  refine ⟨fun c => gradRows (m ((c : Thread nD τ).loc main_arg0)) (m ((c : Thread nD τ).loc main_arg2))
    (m ((c : Thread nD τ).loc main_arg3)), ?_, ?_⟩
  · exact (θ_run Cert.UpWgKernelIdeal.defs _ _).mono (fun _ h c => ⟨(h c).1.trans (final_eq m c), (h c).2⟩)
      (Cert.UpWgKernelIdeal.Value.run_blocks m g)
  · refine (θ_run Cert.UpWgReferenceIdeal.defs _ _).mono (fun _ h c => ⟨(h c).1.trans ?_, (h c).2⟩)
      (Cert.UpWgReferenceIdeal.Value.run (F := Ideal) m' g')
    rw [(hagree c).1, (hagree c).2.2.1, (hagree c).2.2.2]
    exact reference_eq _ _ _

/-- The reference leaves its arguments and its counters as it found them. -/
theorem reference_frame : Cert.quiescent_UpWgReferenceIdeal := fun m ρ _ =>
  (θ_run Cert.UpWgReferenceIdeal.defs _ _).mono (fun r h => ⟨fun c => (h c).2, sem_eq_zero_of_no_sems (by decide) r.2⟩)
    (Cert.UpWgReferenceIdeal.Value.run (F := Ideal) m ρ)

end Cert.UpWg

end
-- ==== Proof.Layout.lean ====
/-
  The order in which the version keeps the columns of the input projection: the DeltaNet's columns, the merge's, the
  attention's, the two gates', and zeros up to a whole number of tiles.
-/
module

public import proofs.«01_k».proof.Proof.Common

@[expose] public section

noncomputable section

namespace Cert.Layout

open scoped BigOperators

/-- The entry of a row of the projection's 8464 columns that stands at column `q` of the version's order. -/
def zread (f : Fin 8464 → EReal) (q : Fin 8704) : EReal :=
  if h : q.val < 4096 then f ⟨2304 + q.val, by omega⟩
  else if h : q.val - 4096 < 2048 then f ⟨6416 + (q.val - 4096), by omega⟩
  else if h : q.val - 4096 - 2048 < 2304 then f ⟨q.val - 4096 - 2048, by omega⟩
  else if h : q.val - 4096 - 2048 - 2304 < 16 then f ⟨6400 + (q.val - 4096 - 2048 - 2304), by omega⟩
  else 0

/-- Products with a fixed row of numbers and their sum commute with the order. -/
theorem sum_mul_zread {n : ℕ} (x : Fin n → EReal) (f : Fin n → Fin 8464 → EReal) (q : Fin 8704) :
    ∑ t, x t * zread (f t) q = zread (fun j => ∑ t, x t * f t j) q := by
  unfold zread
  split_ifs
  · rfl
  · rfl
  · rfl
  · rfl
  · exact Finset.sum_eq_zero fun t _ => mul_zero _

/-- A product of two rows in the version's order, summed, is the product of the rows: the order is a permutation. -/
theorem sum_zread_mul (f g : Fin 8464 → EReal) :
    ∑ q, zread f q * zread g q = ∑ j, f j * g j := by
  let F : ℕ → EReal := fun j => if h : j < 8464 then f ⟨j, h⟩ * g ⟨j, h⟩ else 0
  let G : ℕ → EReal := fun q =>
    if q < 4096 then F (2304 + q) else if q - 4096 < 2048 then F (6416 + (q - 4096))
    else if q - 4096 - 2048 < 2304 then F (q - 4096 - 2048)
    else if q - 4096 - 2048 - 2304 < 16 then F (6400 + (q - 4096 - 2048 - 2304)) else 0
  have hG : ∑ q, zread f q * zread g q = ∑ q ∈ Finset.range 8704, G q := by
    rw [← Fin.sum_univ_eq_sum_range]
    refine Finset.sum_congr rfl fun q _ => ?_
    simp only [zread, G, F]
    split_ifs <;> first | rfl | omega | exact mul_zero _
  have hF : ∑ j, f j * g j = ∑ j ∈ Finset.range 8464, F j := by
    rw [← Fin.sum_univ_eq_sum_range]
    refine Finset.sum_congr rfl fun j _ => ?_
    simp only [F]
    rw [dif_pos j.isLt]
  have e1 : ∑ q ∈ Finset.range 4096, G q = ∑ q ∈ Finset.range 4096, F (2304 + q) :=
    Finset.sum_congr rfl fun q hq => by
      have := Finset.mem_range.1 hq
      simp only [G]; rw [if_pos this]
  have e2 : ∑ q ∈ Finset.range 2048, G (4096 + q) = ∑ q ∈ Finset.range 2048, F (6416 + q) :=
    Finset.sum_congr rfl fun q hq => by
      have := Finset.mem_range.1 hq
      simp only [G]
      rw [if_neg (by omega), if_pos (by omega)]
      exact congrArg F (by omega)
  have e3 : ∑ q ∈ Finset.range 2304, G (6144 + q) = ∑ q ∈ Finset.range 2304, F q :=
    Finset.sum_congr rfl fun q hq => by
      have := Finset.mem_range.1 hq
      simp only [G]
      rw [if_neg (by omega), if_neg (by omega), if_pos (by omega)]
      exact congrArg F (by omega)
  have e4 : ∑ q ∈ Finset.range 16, G (8448 + q) = ∑ q ∈ Finset.range 16, F (6400 + q) :=
    Finset.sum_congr rfl fun q hq => by
      have := Finset.mem_range.1 hq
      simp only [G]
      rw [if_neg (by omega), if_neg (by omega), if_neg (by omega), if_pos (by omega)]
      exact congrArg F (by omega)
  have e5 : ∑ q ∈ Finset.range 240, G (8464 + q) = 0 :=
    Finset.sum_eq_zero fun q hq => by
      simp only [G]
      rw [if_neg (by omega), if_neg (by omega), if_neg (by omega), if_neg (by omega)]
  rw [hG, hF, Finset.sum_range_add G 8464 240, e5, add_zero, Finset.sum_range_add G 8448 16, e4,
    Finset.sum_range_add G 6144 2304, e3, Finset.sum_range_add G 4096 2048, e1, e2,
    Finset.sum_range_add F 6416 2048, Finset.sum_range_add F 6400 16, Finset.sum_range_add F 2304 4096]
  ac_rfl

end Cert.Layout

end
-- ==== Proof.WInWg.lean ====
/-
  The gradient of the input projection with respect to its weights: on every device the tiled kernel's result array is
  the product of the layer's normalised input, transposed, with the gradient of the projected columns, in the version's
  order of columns.
-/
module

public import proofs.«01_k».proof.Defs
public import proofs.«01_k».proof.Proof.Layout
public import proofs.«01_k».proof.Proof.Gen.WInWgKernelIdeal.Value
public import proofs.«01_k».proof.Proof.Gen.WInWgReferenceIdeal.Run
public import Idealize.ShloMosaic.Lib.Claim
public import Idealize.ShloMosaic.Lib.Quiescent
public import Idealize.ShloMosaic.Lib.Pipeline.ValueKit.Point

@[expose] public section

noncomputable section

namespace Cert.WInWg

open Idealize.ShloMosaic Idealize.ShloMosaic.TcCoe Idealize.SL.Sem

section Reference

open Cert.WInWgReferenceIdeal Cert.WInWgReferenceIdeal.Gen

/-- The weights' gradient in the version's order of columns. -/
def gradCols (x : FVec Ideal S2048x1024 .f32) (dz : FVec Ideal S2048x8464 .f32) : FVec Ideal S1024x8704 .bf16 :=
  Common.arr2 fun k q => Layout.zread (fun j => (∑ t : Fin 2048, x (ix2 t k) * dz (ix2 t j) : EReal)) q

/-- The reference runs to the gradient in the version's order. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10)
        = gradCols (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run (F := Ideal) m ρ)
  refine Common.eq_arr2 fun k q => ?_
  generalize m ((c : Thread nD τ).loc main_arg0) = x
  generalize m ((c : Thread nD τ).loc main_arg2) = dz
  change FVec Ideal S2048x1024 .f32 at x
  change FVec Ideal S2048x8464 .f32 at dz
  pointwise
  exact Eq.trans (b := Layout.zread (fun j => (∑ t : Fin 2048, dz (ix2 t j) * x (ix2 t k) : EReal)) q) rfl
    (congrArg (fun f => Layout.zread f q) (funext fun j => Finset.sum_congr rfl fun _ _ => mul_comm _ _))

/-- The reference leaves its arguments and its counters as it found them. -/
theorem reference_frame : Cert.quiescent_WInWgReferenceIdeal := fun m ρ _ =>
  (θ_run defs _ _).mono (fun r h => ⟨fun c => (h c).2, sem_eq_zero_of_no_sems (by decide) r.2⟩) (reference_run m ρ)

end Reference

open Idealize.ShloMosaic.Pipeline (Dat)
open Cert.WInWgKernelIdeal Cert.WInWgKernelIdeal.Gen

variable (m : (ℓ : Loc nD τ sig) → Buf (Elt Ideal) ℓ) (c : Dev nD)

/-- The projected columns' gradient in the version's order, as the host code before the kernel builds it. -/
def zOrder (dz : FVec Ideal S2048x8464 .f32) : FVec Ideal S2048x8704 .bf16 :=
  truncf .bf16 (concatenate S2048x8704 1
    [⟨S2048x4096, extractStridedSlice S2048x4096 ![0, 2304] dz slices_S2048x8464_S2048x4096_0_2304⟩,
      ⟨S2048x2048, extractStridedSlice S2048x2048 ![0, 6416] dz slices_S2048x8464_S2048x2048_0_6416⟩,
      ⟨S2048x2304, extractStridedSlice S2048x2304 ![0, 0] dz slices_S2048x8464_S2048x2304_0_0⟩,
      ⟨S2048x16, extractStridedSlice S2048x16 ![0, 6400] dz slices_S2048x8464_S2048x16_0_6400⟩,
      ⟨S2048x240, broadcastInDim S2048x240 ![] bcast_S_S2048x240 (constant S_ FTy.f32 0#32)⟩]
    concatenates_S2048x4096_S2048x2048_S2048x2304_S2048x16_S2048x240_S2048x8704_d1) bitsLt_bf16_f32

theorem zOrder_apply (dz : FVec Ideal S2048x8464 .f32) (t : Fin 2048) (q : Fin 8704) :
    zOrder dz (ix2 t q) = Layout.zread (fun j => dz (ix2 t j)) q := by
  pointwise [zOrder]
  exact Eq.trans (b := Layout.zread (fun j => dz (ix2 t j)) q) rfl rfl

theorem V_v0 : V m c main_v0 = m ((c : Thread nD τ).loc main_arg0) := by
  show StableHlo.after (List.flatten [hostOps0]) _ _ = _
  simp only [hostOps0, List.flatten_cons, List.flatten_nil, List.append_nil, List.cons_append, List.nil_append]
  after_results_simp
  rfl

theorem V_v7 : V m c main_v7 = zOrder (m ((c : Thread nD τ).loc main_arg2)) := by
  show StableHlo.after (List.flatten [hostOps0]) _ _ = _
  simp only [hostOps0, List.flatten_cons, List.flatten_nil, List.append_nil, List.cons_append, List.nil_append]
  after_results_simp
  rfl

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)

/-- The result over the two operands. -/
def final (x : FVec Ideal S2048x1024 .bf16) (dz : FVec Ideal S2048x8704 .bf16) : FVec Ideal S1024x8704 .bf16 :=
  Common.arr2 fun k q => (∑ t : Fin 2048, x (ix2 t k) * dz (ix2 t q) : EReal)

theorem arr_eq : (dats m 0 c).arrAt 2 cfg0.N = final (V m c main_v0) (V m c main_v7) := by
  refine (dats m 0 c).arrAt_eq_of_covers 2 _ (by decide +kernel) fun t hf y => ?_
  blk_simp
  rw [after0_2]
  frame_out
  pointwise [k0_pay1, final, Common.arr2]
  blk_point [iblk, index0, index1, index2]

theorem final_eq : (dats m 0 c).arrAt 2 cfg0.N
    = gradCols (m ((c : Thread nD τ).loc main_arg0)) (m ((c : Thread nD τ).loc main_arg2)) := by
  rw [arr_eq, V_v0, V_v7]
  generalize m ((c : Thread nD τ).loc main_arg0) = x
  generalize m ((c : Thread nD τ).loc main_arg2) = dz
  change FVec Ideal S2048x1024 .f32 at x
  change FVec Ideal S2048x8464 .f32 at dz
  refine Common.eq_arr2 fun k q => ?_
  exact (Finset.sum_congr rfl fun t _ => congrArg (fun e : EReal => x (ix2 t k) * e) (zOrder_apply dz t q)).trans
    (Layout.sum_mul_zread _ _ q)

/-- The tiled kernel and the reference end in the same gradient. -/
theorem algebraic : Cert.algebraic_WInWgKernelIdeal_WInWgReferenceIdeal := by
  intro m g m' g' _ hagree
  refine ⟨fun c => gradCols (m ((c : Thread nD τ).loc main_arg0)) (m ((c : Thread nD τ).loc main_arg2)), ?_, ?_⟩
  · exact (θ_run Cert.WInWgKernelIdeal.defs _ _).mono (fun _ h c => ⟨(h c).1.trans (final_eq m c), (h c).2⟩)
      (Cert.WInWgKernelIdeal.Value.run_blocks m g)
  · refine (θ_run Cert.WInWgReferenceIdeal.defs _ _).mono (fun _ h c => ⟨(h c).1.trans ?_, (h c).2⟩)
      (reference_run m' g')
    rw [(hagree c).1, (hagree c).2.2]

end Cert.WInWg

end
-- ==== Proof.WIn.lean ====
/-
  The input projection: on every device the tiled kernel's result array is the product of the layer's normalised input
  with the projection's weights, in the version's order of columns.
-/
module

public import proofs.«01_k».proof.Defs
public import proofs.«01_k».proof.Proof.Layout
public import proofs.«01_k».proof.Proof.Gen.WInKernelIdeal.Value
public import proofs.«01_k».proof.Proof.Gen.WInReferenceIdeal.Run
public import Idealize.ShloMosaic.Lib.Claim
public import Idealize.ShloMosaic.Lib.Quiescent
public import Idealize.ShloMosaic.Lib.Pipeline.ValueKit.Point

@[expose] public section

noncomputable section

namespace Cert.WIn

open Idealize.ShloMosaic Idealize.ShloMosaic.TcCoe Idealize.SL.Sem

section Reference

open Cert.WInReferenceIdeal Cert.WInReferenceIdeal.Gen

/-- The projected columns in the version's order. -/
def projected (x : FVec Ideal S2048x1024 .f32) (w : FVec Ideal S1024x8464 .f32) : FVec Ideal S2048x8704 .f32 :=
  Common.arr2 fun t q => Layout.zread (fun j => (∑ k : Fin 1024, x (ix2 t k) * w (ix2 k j) : EReal)) q

/-- The reference runs to the projected columns in the version's order. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6)
        = projected (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run (F := Ideal) m ρ)
  refine Common.eq_arr2 fun t q => ?_
  generalize m ((c.tc : Thread nD τ).loc main_arg0) = x
  generalize m ((c.tc : Thread nD τ).loc main_arg1) = w
  change FVec Ideal S2048x1024 .f32 at x
  change FVec Ideal S1024x8464 .f32 at w
  pointwise
  exact Eq.trans (b := Layout.zread (fun j => (∑ k : Fin 1024, x (ix2 t k) * w (ix2 k j) : EReal)) q) rfl rfl

/-- The reference leaves its arguments and its counters as it found them. -/
theorem reference_frame : Cert.quiescent_WInReferenceIdeal := fun m ρ _ =>
  (θ_run defs _ _).mono (fun r h => ⟨fun c => (h c).2, sem_eq_zero_of_no_sems (by decide) r.2⟩) (reference_run m ρ)

end Reference

open Idealize.ShloMosaic.Pipeline (Dat)
open Cert.WInKernelIdeal Cert.WInKernelIdeal.Gen

variable (m : (ℓ : Loc nD τ sig) → Buf (Elt Ideal) ℓ) (c : Dev nD)

/-- The rows of the transposed weights in the version's order. -/
def rowOrder (v : FVec Ideal S8464x1024 .bf16) : FVec Ideal S8704x1024 .bf16 :=
  concatenate S8704x1024 0
    [⟨S4096x1024, extractStridedSlice S4096x1024 ![2304, 0] v slices_S8464x1024_S4096x1024_2304_0⟩,
      ⟨S2048x1024, extractStridedSlice S2048x1024 ![6416, 0] v slices_S8464x1024_S2048x1024_6416_0⟩,
      ⟨S2304x1024, extractStridedSlice S2304x1024 ![0, 0] v slices_S8464x1024_S2304x1024_0_0⟩,
      ⟨S16x1024, extractStridedSlice S16x1024 ![6400, 0] v slices_S8464x1024_S16x1024_6400_0⟩,
      ⟨S240x1024, broadcastInDim S240x1024 ![] bcast_S_S240x1024 (constant (F := Ideal) S_ FTy.bf16 0#16)⟩]
    concatenates_S4096x1024_S2048x1024_S2304x1024_S16x1024_S240x1024_S8704x1024_d0

theorem rowOrder_apply (v : FVec Ideal S8464x1024 .bf16) (q : Fin 8704) (k : Fin 1024) :
    rowOrder v (ix2 q k) = Layout.zread (fun j => v (ix2 j k)) q := by
  unfold rowOrder
  simp only [concatenate_cons_apply, concatenateAt_cons, concatenateAt_singleton]
  unfold Layout.zread
  refine dite_congr rfl (fun h => ?_) fun h => ?_
  · exact congrArg v (funext (Fin.forall_fin_two.2 ⟨rfl, Fin.ext (Nat.zero_add _)⟩))
  refine dite_congr rfl (fun h => ?_) fun h => ?_
  · exact congrArg v (funext (Fin.forall_fin_two.2 ⟨rfl, Fin.ext (Nat.zero_add _)⟩))
  refine dite_congr rfl (fun h => ?_) fun h => ?_
  · exact congrArg v (funext (Fin.forall_fin_two.2 ⟨Fin.ext (Nat.zero_add _), Fin.ext (Nat.zero_add _)⟩))
  refine dite_congr rfl (fun h => ?_) fun h => ?_
  · exact congrArg v (funext (Fin.forall_fin_two.2 ⟨rfl, Fin.ext (Nat.zero_add _)⟩))
  · pointwise
/-- The weights, transposed, in the version's order of rows, as the host code before the kernel builds them. -/
def wOrder (w : FVec Ideal S1024x8464 .f32) : FVec Ideal S8704x1024 .bf16 :=
  rowOrder (truncf .bf16 (transpose S8464x1024 [1, 0] w transposes_S1024x8464_S8464x1024_1_0) bitsLt_bf16_f32)

theorem wOrder_apply (w : FVec Ideal S1024x8464 .f32) (q : Fin 8704) (k : Fin 1024) :
    wOrder w (ix2 q k) = Layout.zread (fun j => w (ix2 k j)) q := by
  refine (rowOrder_apply _ q k).trans (congrArg (fun f => Layout.zread f q) (funext fun j => ?_))
  pointwise

theorem V_v0 : V m c main_v0 = m ((c : Thread nD τ).loc main_arg0) := by
  show StableHlo.after (List.flatten [hostOps0]) _ _ = _
  simp only [hostOps0, List.flatten_cons, List.flatten_nil, List.append_nil, List.cons_append, List.nil_append]
  after_results_simp
  rfl

theorem V_v8 : V m c main_v8 = wOrder (m ((c : Thread nD τ).loc main_arg1)) := by
  show StableHlo.after (List.flatten [hostOps0]) _ _ = _
  simp only [hostOps0, List.flatten_cons, List.flatten_nil, List.append_nil, List.cons_append, List.nil_append]
  after_results_simp
  rfl

theorem index0 : ∀ t : Fin cfg0.N, win0_0.index t = ![t.val / 17, 0] := (by decide +kernel : ∀ t : Fin grid0.N, _)
theorem index1 : ∀ t : Fin cfg0.N, win0_1.index t = ![t.val % 17, 0] := (by decide +kernel : ∀ t : Fin grid0.N, _)
theorem index2 : ∀ t : Fin cfg0.N, win0_2.index t = ![t.val / 17, t.val % 17] :=
  (by decide +kernel : ∀ t : Fin grid0.N, _)

/-- The result over the two operands. -/
def final (x : FVec Ideal S2048x1024 .bf16) (w : FVec Ideal S8704x1024 .bf16) : FVec Ideal S2048x8704 .f32 :=
  Common.arr2 fun t q => (∑ k : Fin 1024, x (ix2 t k) * w (ix2 q k) : EReal)

theorem arr_eq : (dats m 0 c).arrAt 2 cfg0.N = final (V m c main_v0) (V m c main_v8) := by
  refine (dats m 0 c).arrAt_eq_of_covers 2 _ (by decide +kernel) fun t hf y => ?_
  blk_simp
  rw [after0_2]
  canon_tiles y h
  all_goals
    open_payloads
    pointwise [k0_pay1, k0_pay2, k0_pay3, final, Common.arr2]
    blk_point [iblk, index0, index1, index2]

theorem final_eq : (dats m 0 c).arrAt 2 cfg0.N
    = projected (m ((c : Thread nD τ).loc main_arg0)) (m ((c : Thread nD τ).loc main_arg1)) := by
  rw [arr_eq, V_v0, V_v8]
  generalize m ((c : Thread nD τ).loc main_arg0) = x
  generalize m ((c : Thread nD τ).loc main_arg1) = w
  change FVec Ideal S2048x1024 .f32 at x
  change FVec Ideal S1024x8464 .f32 at w
  refine Common.eq_arr2 fun t q => ?_
  exact (Finset.sum_congr rfl fun k _ => congrArg (fun e : EReal => x (ix2 t k) * e) (wOrder_apply w q k)).trans
    (Layout.sum_mul_zread _ _ q)

/-- The tiled kernel and the reference end in the same columns. -/
theorem algebraic : Cert.algebraic_WInKernelIdeal_WInReferenceIdeal := by
  intro m g m' g' _ hagree
  refine ⟨fun c => projected (m ((c : Thread nD τ).loc main_arg0)) (m ((c : Thread nD τ).loc main_arg1)), ?_, ?_⟩
  · exact (θ_run Cert.WInKernelIdeal.defs _ _).mono (fun _ h c => ⟨(h c).1.trans (final_eq m c), (h c).2⟩)
      (Cert.WInKernelIdeal.Value.run_blocks m g)
  · refine (θ_run Cert.WInReferenceIdeal.defs _ _).mono (fun _ h c => ⟨(h c).1.trans ?_, (h c).2⟩)
      (reference_run m' g')
    rw [(hagree c).1, (hagree c).2]

end Cert.WIn

end
-- ==== Proof.WInDg.lean ====
/-
  The gradient of the input projection with respect to its input: on every device the tiled kernel, which adds the
  product up over four stretches of the contracted axis, ends in the product of the projected columns' gradient with the
  weights, transposed.
-/
module

public import proofs.«01_k».proof.Defs
public import proofs.«01_k».proof.Proof.WIn
public import proofs.«01_k».proof.Proof.WInWg
public import proofs.«01_k».proof.Proof.Gen.WInDgKernelIdeal.Value
public import proofs.«01_k».proof.Proof.Gen.WInDgReferenceIdeal.Run
public import Idealize.ShloMosaic.Lib.Claim
public import Idealize.ShloMosaic.Lib.Quiescent
public import Idealize.ShloMosaic.Lib.Pipeline.ValueKit.Point

@[expose] public section

noncomputable section

namespace Cert.WInDg

open Idealize.ShloMosaic Idealize.ShloMosaic.TcCoe Idealize.SL.Sem

section Reference

open Cert.WInDgReferenceIdeal Cert.WInDgReferenceIdeal.Gen

/-- The gradient of the projection's input. -/
def gradRows (w : FVec Ideal S1024x8464 .f32) (dz : FVec Ideal S2048x8464 .f32) : FVec Ideal S2048x1024 .f32 :=
  Common.arr2 fun t k => (∑ j : Fin 8464, dz (ix2 t j) * w (ix2 k j) : EReal)

theorem reference_eq (w : FVec Ideal S1024x8464 .f32) (dz : FVec Ideal S2048x8464 .f32) :
    Host.dotGeneral dot_S2048x8464_S1024x8464_S2048x1024_1_1_0_0_n_n none dz w = gradRows w dz := by
  refine Common.eq_arr2 fun t k => ?_
  pointwise

/-- The reference leaves its arguments and its counters as it found them. -/
theorem reference_frame : Cert.quiescent_WInDgReferenceIdeal := fun m ρ _ =>
  (θ_run defs _ _).mono (fun r h => ⟨fun c => (h c).2, sem_eq_zero_of_no_sems (by decide) r.2⟩)
    (Value.run (F := Ideal) m ρ)

end Reference

open Idealize.ShloMosaic.Pipeline (Dat)
open Cert.WInDgKernelIdeal Cert.WInDgKernelIdeal.Gen

variable (m : (ℓ : Loc nD τ sig) → Buf (Elt Ideal) ℓ) (c : Dev nD)

theorem V_v6 : V m c main_v6 = WInWg.zOrder (m ((c : Thread nD τ).loc main_arg2)) := by
  show StableHlo.after (List.flatten [hostOps0]) _ _ = _
  simp only [hostOps0, List.flatten_cons, List.flatten_nil, List.append_nil, List.cons_append, List.nil_append]
  after_results_simp
  rfl

theorem V_v14 : V m c main_v14 = WIn.wOrder (m ((c : Thread nD τ).loc main_arg1)) := by
  show StableHlo.after (List.flatten [hostOps0]) _ _ = _
  simp only [hostOps0, List.flatten_cons, List.flatten_nil, List.append_nil, List.cons_append, List.nil_append]
  after_results_simp
  rfl

theorem index0 : ∀ t : Fin cfg0.N, win0_0.index t = ![t.val / 4, t.val % 4] :=
  (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- The result over the two operands. -/
def final (dz : FVec Ideal S2048x8704 .bf16) (w : FVec Ideal S8704x1024 .bf16) : FVec Ideal S2048x1024 .f32 :=
  Common.arr2 fun t k => (∑ q : Fin 8704, dz (ix2 t q) * w (ix2 q k) : EReal)

/-- What point `t` adds: its stretch of the contracted axis. -/
def stretch (t : Fin cfg0.N) (i : S1024x1024.Idx) : EReal :=
  let a : Vec Ideal S1024x2176 .bf16 := iblk m c 0 t
  let b : Vec Ideal S2176x1024 .bf16 := iblk m c 1 t
  (∑ k : Fin 2176, a (ix2 (i 0) k) * b (ix2 k (i 1)) : EReal)

theorem scratch_first (t : Fin cfg0.N) (h0 : t.val % 4 = 0) (i : S1024x1024.Idx) :
    (outsAt0 m c t.val t.isLt).2 i = (fun _ => (0 : EReal)) i + stretch m c t i := by
  rw [outsAt0_A m c t h0 (by omega) (by omega)]
  refine Eq.trans ?_ (zero_add _).symm
  frame_out
  pointwise [k0_pay1, k0_pay2, k0_pay3, stretch]

theorem scratch_next (t : Fin cfg0.N) (h0 : ¬t.val % 4 = 0) (i : S1024x1024.Idx) :
    (outsAt0 m c t.val t.isLt).2 i
      = (outsAt0 m c (t.val - 1) (Nat.lt_of_le_of_lt (Nat.sub_le _ _) t.isLt)).2 i + stretch m c t i := by
  by_cases h2 : t.val % 4 = 3
  · rw [outsAt0_C m c t h0 (by omega) h2]
    frame_out
    pointwise [k0_pay1, k0_pay2, k0_pay3, stretch]
    exact congrArg (fun e : EReal => e + _) (congrFun (Memref.IsWhole.read_unread _ _) i)
  · rw [outsAt0_B m c t h0 (by omega) h2]
    frame_out
    pointwise [k0_pay1, k0_pay2, k0_pay3, stretch]
    exact congrArg (fun e : EReal => e + _) (congrFun (Memref.IsWhole.read_unread _ _) i)

theorem out_last (t : Fin cfg0.N) (h2 : t.val % 4 = 3) :
    (outsAt0 m c t.val t.isLt).1 = (outsAt0 m c t.val t.isLt).2 := by
  rw [outsAt0_C m c t (by omega) (by omega) h2]
  frame_out

theorem stretch_eq (dz : FVec Ideal S2048x8704 .bf16) (hz : V m c main_v6 = dz) (w : FVec Ideal S8704x1024 .bf16)
    (hw : V m c main_v14 = w) (p : Fin cfg0.N) (i : S1024x1024.Idx) (r : Fin 2048)
    (hr : r.val = p.val / 4 * 1024 + (i 0).val) :
    stretch m c p i = (∑ k : Fin 2176, dz (ix2 r ⟨p.val % 4 * 2176 + k.val, by omega⟩)
      * w (ix2 ⟨p.val % 4 * 2176 + k.val, by omega⟩ (i 1)) : EReal) := by
  subst hz hw
  unfold stretch
  refine Finset.sum_congr rfl fun k _ => ?_
  refine congrArg₂ (fun e f : EReal => e * f) ?_ ?_
  · blk_point [iblk, index0]
  · blk_point [iblk, index1]

/-- The four stretches are the contracted axis. -/
theorem sum_stretches (dz : FVec Ideal S2048x8704 .bf16) (w : FVec Ideal S8704x1024 .bf16) (r : Fin 2048)
    (k : Fin 1024) :
    (∑ s : Fin 4, ∑ l : Fin 2176, (dz (ix2 r ⟨s.val * 2176 + l.val, by omega⟩)
      * w (ix2 ⟨s.val * 2176 + l.val, by omega⟩ k) : EReal)) = final dz w (ix2 r k) := by
  let F : ℕ → EReal := fun q => if h : q < 8704 then dz (ix2 r ⟨q, h⟩) * w (ix2 ⟨q, h⟩ k) else 0
  have hF (q : ℕ) (h : q < 8704) : F q = dz (ix2 r ⟨q, h⟩) * w (ix2 ⟨q, h⟩ k) := dif_pos h
  have e : (∑ s : Fin 4, ∑ l : Fin 2176, F (s.val * 2176 + l.val)) = ∑ q : Fin 8704, F q.val :=
    Fin.sum_univ_univ_mul_add 4 2176 F
  clear_value F
  show _ = (∑ q : Fin 8704, dz (ix2 r q) * w (ix2 q k) : EReal)
  refine Eq.trans (Finset.sum_congr rfl fun s _ => Finset.sum_congr rfl fun l _ => ?_)
    (e.trans (Finset.sum_congr rfl fun q _ => ?_))
  · exact (hF _ _).symm
  · exact hF q.val q.isLt

/-- The result array from the operands: the four stretches of a block are the contracted axis. -/
theorem arr_eq : (dats m 0 c).arrAt 2 cfg0.N = final (V m c main_v6) (V m c main_v14) := by
  refine (dats m 0 c).arrAt_eq_of_covers 2 _ (by decide +kernel) fun t hf y => ?_
  have h2 : t.val % 4 = 3 := (flush0_2 t).mp hf
  blk_simp
  rw [after0_2, out_last m c t h2]
  refine (Pipeline.eq_sum_fin_of_reset_step_apply_of_flush (fun n h => (outsAt0 m c n h).2) 4
    (fun _ => (0 : EReal)) (stretch m c) (scratch_first m c) (scratch_next m c) t h2 y).trans ?_
  refine (zero_add _).trans ?_
  have hr : (((win0_2.blk t).view.emb y) 0).val = t.val / 4 * 1024 + (y 0).val := by blk_simp [index2]
  have hk : (((win0_2.blk t).view.emb y) 1).val = (y 1).val := by blk_simp [index2]
  refine Eq.trans (Finset.sum_congr rfl fun s _ => (stretch_eq m c _ rfl _ rfl ⟨4 * (t.val / 4) + s.val, _⟩ y
    (((win0_2.blk t).view.emb y) 0) ?_).trans ?_) (sum_stretches (V m c main_v6) (V m c main_v14) _ _)
  · show _ = (4 * (t.val / 4) + s.val) / 4 * 1024 + (y 0).val
    omega
  · have hs : (4 * (t.val / 4) + s.val) % 4 = s.val := by omega
    refine Finset.sum_congr rfl fun l _ => congrArg₂ (fun e f : EReal => e * f) ?_ ?_
    · exact congrArg (V m c main_v6) (congrArg (ix2 _) (Fin.ext (congrArg (· * 2176 + l.val) hs)))
    · exact congrArg (V m c main_v14) (congrArg₂ ix2 (Fin.ext (congrArg (· * 2176 + l.val) hs)) (Fin.ext hk.symm))

theorem product_eq (w : FVec Ideal S1024x8464 .f32) (dz : FVec Ideal S2048x8464 .f32) :
    final (WInWg.zOrder dz) (WIn.wOrder w) = gradRows w dz := by
  refine Common.eq_arr2 fun t k => ?_
  have h (q : Fin 8704) : (WInWg.zOrder dz (ix2 t q) * WIn.wOrder w (ix2 q k) : EReal)
      = Layout.zread (fun j => dz (ix2 t j)) q * Layout.zread (fun j => w (ix2 k j)) q := by
    rw [WInWg.zOrder_apply, WIn.wOrder_apply]
  show (∑ q : Fin 8704, WInWg.zOrder dz (ix2 t q) * WIn.wOrder w (ix2 q k) : EReal) = _
  exact (Finset.sum_congr rfl fun q _ => h q).trans (Layout.sum_zread_mul _ _)

theorem final_eq : (dats m 0 c).arrAt 2 cfg0.N
    = gradRows (m ((c : Thread nD τ).loc main_arg1)) (m ((c : Thread nD τ).loc main_arg2)) := by
  rw [arr_eq, V_v6, V_v14]
  exact product_eq _ _

/-- The tiled kernel and the reference end in the same gradient. -/
theorem algebraic : Cert.algebraic_WInDgKernelIdeal_WInDgReferenceIdeal := by
  intro m g m' g' _ hagree
  refine ⟨fun c => gradRows (m ((c : Thread nD τ).loc main_arg1)) (m ((c : Thread nD τ).loc main_arg2)), ?_, ?_⟩
  · exact (θ_run Cert.WInDgKernelIdeal.defs _ _).mono (fun _ h c => ⟨(h c).1.trans (final_eq m c), (h c).2⟩)
      (Cert.WInDgKernelIdeal.Value.run_blocks m g)
  · refine (θ_run Cert.WInDgReferenceIdeal.defs _ _).mono (fun _ h c => ⟨(h c).1.trans ?_, (h c).2⟩)
      (Cert.WInDgReferenceIdeal.Value.run (F := Ideal) m' g')
    rw [(hagree c).2.1, (hagree c).2.2]
    exact reference_eq _ _

end Cert.WInDg

end
-- ==== Proof.UpFwd.lean ====
/-
  The FFN's up projection: on every device the tiled kernel's three result arrays are the gate, the up columns and the
  gated columns, each in four groups of 704 columns followed by zeros up to 768.
-/
module

public import proofs.«01_k».proof.Defs
public import proofs.«01_k».proof.Proof.UpDg
public import proofs.«01_k».proof.Proof.Gen.UpFwdKernelIdeal.Value
public import proofs.«01_k».proof.Proof.Gen.UpFwdReferenceIdeal.Run
public import Idealize.ShloMosaic.Lib.Claim
public import Idealize.ShloMosaic.Lib.Quiescent
public import Idealize.ShloMosaic.Lib.Pipeline.ValueKit.Point

@[expose] public section

noncomputable section

namespace Cert.UpFwd

open Idealize.ShloMosaic Idealize.ShloMosaic.TcCoe Idealize.SL.Sem

section Reference

open Cert.UpFwdReferenceIdeal Cert.UpFwdReferenceIdeal.Gen

/-- Column `j` of the product of the input with the weights. -/
def column (x : FVec Ideal S2048x1024 .f32) (w : FVec Ideal S1024x5632 .f32) (t : Fin 2048) (j : Fin 5632) : EReal :=
  (∑ k : Fin 1024, x (ix2 t k) * w (ix2 k j) : EReal)

/-- The gate's columns in the padded layout. -/
def gates (x : FVec Ideal S2048x1024 .f32) (w : FVec Ideal S1024x5632 .f32) : FVec Ideal S2048x3072 .bf16 :=
  Common.arr2 fun t q =>
    if h : q.val % 768 < 704 then column x w t ⟨q.val / 768 * 704 + q.val % 768, by omega⟩ else (0 : EReal)

/-- The up columns in the padded layout. -/
def ups (x : FVec Ideal S2048x1024 .f32) (w : FVec Ideal S1024x5632 .f32) : FVec Ideal S2048x3072 .bf16 :=
  Common.arr2 fun t q =>
    if h : q.val % 768 < 704 then column x w t ⟨2816 + (q.val / 768 * 704 + q.val % 768), by omega⟩ else (0 : EReal)

/-- The gated columns in the padded layout. -/
def acts (x : FVec Ideal S2048x1024 .f32) (w : FVec Ideal S1024x5632 .f32) : FVec Ideal S2048x3072 .bf16 :=
  Common.arr2 fun t q =>
    if h : q.val % 768 < 704 then
      column x w t ⟨q.val / 768 * 704 + q.val % 768, by omega⟩
        * Ideal.logistic (column x w t ⟨q.val / 768 * 704 + q.val % 768, by omega⟩)
        * column x w t ⟨2816 + (q.val / 768 * 704 + q.val % 768), by omega⟩
    else (0 : EReal)

/-- The reference runs to the three arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8)
        = gates (m ((c : Thread nD τ).loc main_arg0))
          (m ((c : Thread nD τ).loc main_arg1))
      ∧ r.2.mem ((c : Thread nD τ).loc main_v12)
        = ups (m ((c : Thread nD τ).loc main_arg0))
          (m ((c : Thread nD τ).loc main_arg1))
      ∧ r.2.mem ((c : Thread nD τ).loc main_v16)
        = acts (m ((c : Thread nD τ).loc main_arg0))
          (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2.1.trans ?_, (h c).2.2.1.trans ?_, (h c).2.2.2⟩)
    (Value.run (F := Ideal) m ρ)
  all_goals
    refine Common.eq_arr2 fun t q => ?_
    generalize m ((c.tc : Thread nD τ).loc main_arg0) = x
    generalize m ((c.tc : Thread nD τ).loc main_arg1) = w
    change FVec Ideal S2048x1024 .f32 at x
    change FVec Ideal S1024x5632 .f32 at w
    pointwise
    have hq : q.val / 768 < 4 := by omega
    by_cases h : q.val % 768 < 704
    · refine (dif_pos ⟨hq, h⟩).trans (Eq.trans ?_ (dif_pos h).symm)
      rfl
    · refine (dif_neg fun h' => h h'.2).trans (Eq.trans ?_ (dif_neg h).symm)
      exact sitofp_zero

/-- The reference leaves its arguments and its counters as it found them. -/
theorem reference_frame : Cert.quiescent_UpFwdReferenceIdeal := fun m ρ _ =>
  (θ_run defs _ _).mono (fun r h => ⟨fun c => (h c).2.2.2, sem_eq_zero_of_no_sems (by decide) r.2⟩) (reference_run m ρ)

end Reference

open Idealize.ShloMosaic.Pipeline (Dat)
open Cert.UpFwdKernelIdeal Cert.UpFwdKernelIdeal.Gen

variable (m : (ℓ : Loc nD τ sig) → Buf (Elt Ideal) ℓ) (c : Dev nD)

theorem V_v0 : V m c main_v0 = m ((c : Thread nD τ).loc main_arg0) := by
  show StableHlo.after (List.flatten [hostOps0, hostOps0_1, hostOps0_2]) _ _ = _
  simp only [hostOps0, hostOps0_1, hostOps0_2, List.flatten_cons, List.flatten_nil, List.append_nil,
    List.cons_append, List.nil_append]
  after_results_simp
  rfl

theorem V_v4 : V m c main_v4 = UpDg.rowsPad (m ((c : Thread nD τ).loc main_arg1)) := by
  show StableHlo.after (List.flatten [hostOps0, hostOps0_1, hostOps0_2]) _ _ = _
  simp only [hostOps0, hostOps0_1, hostOps0_2, List.flatten_cons, List.flatten_nil, List.append_nil,
    List.cons_append, List.nil_append]
  after_results_simp
  rfl

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![4 + t.val % 4, 0, 0] :=
  (by decide +kernel : ∀ t : Fin grid0.N, _)
theorem index3 : ∀ t : Fin cfg0.N, win0_3.index t = ![t.val / 4, t.val % 4] :=
  (by decide +kernel : ∀ t : Fin grid0.N, _)
theorem index4 : ∀ t : Fin cfg0.N, win0_4.index t = ![t.val / 4, t.val % 4] :=
  (by decide +kernel : ∀ t : Fin grid0.N, _)
theorem index5 : ∀ t : Fin cfg0.N, win0_5.index t = ![t.val / 4, t.val % 4] :=
  (by decide +kernel : ∀ t : Fin grid0.N, _)

/-- The product with the rows of one half of the padded weights. -/
def half (x : FVec Ideal S2048x1024 .bf16) (w : FVec Ideal S8x768x1024 .bf16) (e : ℕ) (he : e ≤ 4) :
    FVec Ideal S2048x3072 .bf16 :=
  Common.arr2 fun t q =>
    (∑ k : Fin 1024, x (ix2 t k) * w (ix3 ⟨e + q.val / 768, by omega⟩ ⟨q.val % 768, by omega⟩ k) : EReal)

def halves (x : FVec Ideal S2048x1024 .bf16) (w : FVec Ideal S8x768x1024 .bf16) : FVec Ideal S2048x3072 .bf16 :=
  Common.arr2 fun t q => half x w 0 (by omega) (ix2 t q) * Ideal.logistic (half x w 0 (by omega) (ix2 t q))
    * half x w 4 (by omega) (ix2 t q)

theorem arr3_eq : (dats m 0 c).arrAt 3 cfg0.N = half (V m c main_v0) (V m c main_v4) 0 (by omega) := by
  refine (dats m 0 c).arrAt_eq_of_covers 3 _ (by decide +kernel) fun t hf y => ?_
  blk_simp
  rw [after0_3]
  canon_tiles y h
  all_goals
    open_payloads
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, half, Common.arr2]
    blk_point [iblk, index0, index1, index2, index3]

theorem arr4_eq : (dats m 0 c).arrAt 4 cfg0.N = half (V m c main_v0) (V m c main_v4) 4 (by omega) := by
  refine (dats m 0 c).arrAt_eq_of_covers 4 _ (by decide +kernel) fun t hf y => ?_
  blk_simp
  rw [after0_4]
  canon_tiles y h
  all_goals
    open_payloads
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, half, Common.arr2]
    blk_point [iblk, index0, index1, index2, index4]

theorem arr5_eq : (dats m 0 c).arrAt 5 cfg0.N = halves (V m c main_v0) (V m c main_v4) := by
  refine (dats m 0 c).arrAt_eq_of_covers 5 _ (by decide +kernel) fun t hf y => ?_
  blk_simp
  rw [after0_5]
  canon_tiles y h
  all_goals
    open_payloads
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, half, halves, Common.arr2]
    refine congrArg₂ (fun e f : EReal => e * Ideal.logistic e * f) ?_ ?_
    · blk_point [iblk, index0, index1, index5]
    · blk_point [iblk, index0, index2, index5]

/-- A column of the padded product is the column of the product, or zero. -/
theorem half_apply (x : FVec Ideal S2048x1024 .f32) (w : FVec Ideal S1024x5632 .f32) (e : ℕ) (he : e ≤ 4) (t : Fin 2048)
    (q : Fin 3072) : half x (UpDg.rowsPad w) e he (ix2 t q)
      = if h : q.val % 768 < 704 then column x w t ⟨(e + q.val / 768) * 704 + q.val % 768, by omega⟩ else (0 : EReal) := by
  show (∑ k : Fin 1024, x (ix2 t k) * UpDg.rowsPad w (ix3 ⟨e + q.val / 768, by omega⟩ ⟨q.val % 768, by omega⟩ k)
    : EReal) = _
  by_cases h : q.val % 768 < 704
  · refine Eq.trans ?_ (dif_pos h).symm
    unfold column
    refine Finset.sum_congr rfl fun k _ => congrArg (fun e : EReal => x (ix2 t k) * e) ?_
    exact (UpDg.rowsPad_apply w _ _ k).trans (dif_pos h)
  · refine Eq.trans ?_ (dif_neg h).symm
    refine Finset.sum_eq_zero fun k _ => ?_
    exact (congrArg (fun e : EReal => x (ix2 t k) * e) ((UpDg.rowsPad_apply w _ _ k).trans (dif_neg h))).trans (mul_zero _)

theorem half_low (x : FVec Ideal S2048x1024 .f32) (w : FVec Ideal S1024x5632 .f32) :
    half x (UpDg.rowsPad w) 0 (by omega) = gates x w := by
  refine Common.eq_arr2 fun t q => (half_apply x w 0 _ t q).trans ?_
  simp only [Nat.zero_add]

theorem half_high (x : FVec Ideal S2048x1024 .f32) (w : FVec Ideal S1024x5632 .f32) :
    half x (UpDg.rowsPad w) 4 (by omega) = ups x w := by
  refine Common.eq_arr2 fun t q => (half_apply x w 4 _ t q).trans ?_
  by_cases h : q.val % 768 < 704
  · refine (dif_pos h).trans (Eq.trans ?_ (dif_pos h).symm)
    exact congrArg (column x w t) (Fin.ext (by
      show (4 + q.val / 768) * 704 + q.val % 768 = 2816 + (q.val / 768 * 704 + q.val % 768)
      omega))
  · refine Eq.trans ?_ (dif_neg h).symm
    exact dif_neg h

theorem halves_eq (x : FVec Ideal S2048x1024 .f32) (w : FVec Ideal S1024x5632 .f32) :
    halves x (UpDg.rowsPad w) = acts x w := by
  refine Common.eq_arr2 fun t q => ?_
  show half x (UpDg.rowsPad w) 0 _ (ix2 t q) * Ideal.logistic (half x (UpDg.rowsPad w) 0 _ (ix2 t q))
    * half x (UpDg.rowsPad w) 4 _ (ix2 t q) = _
  rw [half_low, half_high]
  by_cases h : q.val % 768 < 704
  · refine Eq.trans ?_ (dif_pos h).symm
    exact congrArg₂ (fun e f : EReal => e * Ideal.logistic e * f) (dif_pos h) (dif_pos h)
  · refine Eq.trans ?_ (dif_neg h).symm
    exact (congrArg (fun e : EReal => gates x w (ix2 t q) * Ideal.logistic (gates x w (ix2 t q)) * e)
      (dif_neg h)).trans (mul_zero _)

/-- From agreeing arguments the tiled kernel and the reference end in the same three arrays. -/
theorem algebraic : Cert.algebraic_UpFwdKernelIdeal_UpFwdReferenceIdeal := by
  intro m g m' g' _ hagree
  refine ⟨fun c => gates (m ((c : Thread nD τ).loc main_arg0)) (m ((c : Thread nD τ).loc main_arg1)),
    fun c => ups (m ((c : Thread nD τ).loc main_arg0)) (m ((c : Thread nD τ).loc main_arg1)),
    fun c => acts (m ((c : Thread nD τ).loc main_arg0)) (m ((c : Thread nD τ).loc main_arg1)), ?_, ?_⟩
  · refine (θ_run Cert.UpFwdKernelIdeal.defs _ _).mono (fun _ h c => ⟨(h c).1.trans ?_, (h c).2.1.trans ?_,
      (h c).2.2.1.trans ?_, (h c).2.2.2⟩) (Cert.UpFwdKernelIdeal.Value.run_blocks m g)
    · rw [arr3_eq, V_v0, V_v4]; exact half_low _ _
    · rw [arr4_eq, V_v0, V_v4]; exact half_high _ _
    · rw [arr5_eq, V_v0, V_v4]; exact halves_eq _ _
  · refine (θ_run Cert.UpFwdReferenceIdeal.defs _ _).mono (fun _ h c => ⟨(h c).1.trans ?_, (h c).2.1.trans ?_,
      (h c).2.2.1.trans ?_, (h c).2.2.2⟩) (reference_run m' g')
    all_goals rw [(hagree c).1, (hagree c).2]

end Cert.UpFwd

end
-- ==== Proof.DownFwd.lean ====
/-
  The FFN's down projection with the residual: on every device the tiled kernel's two result arrays are the product of
  the gated columns with the weights, and the residual plus half the gate times that product.
-/
module

public import proofs.«01_k».proof.Defs
public import proofs.«01_k».proof.Proof.UpDg
public import proofs.«01_k».proof.Proof.Gen.DownFwdKernelIdeal.Value
public import proofs.«01_k».proof.Proof.Gen.DownFwdReferenceIdeal.Run
public import Idealize.ShloMosaic.Lib.Claim
public import Idealize.ShloMosaic.Lib.Quiescent
public import Idealize.ShloMosaic.Lib.Pipeline.ValueKit.Point

@[expose] public section

noncomputable section

namespace Cert.DownFwd

open Idealize.ShloMosaic Idealize.ShloMosaic.TcCoe Idealize.SL.Sem

section Reference

open Cert.DownFwdReferenceIdeal Cert.DownFwdReferenceIdeal.Gen

/-- The product of the gated columns with the weights. -/
def product (a : FVec Ideal S2048x2816 .f32) (w : FVec Ideal S2816x1024 .f32) : FVec Ideal S2048x1024 .f32 :=
  Common.arr2 fun t d => (∑ k : Fin 2816, a (ix2 t k) * w (ix2 k d) : EReal)

/-- Half the gate. -/
def halfGate (g : FVec Ideal S1x1024 .f32) : FVec Ideal S1x1024 .f32 :=
  mulf (broadcastInDim S1x1024 ![] bcast_S_S1x1024 (constant S_ .f32 0x3F000000#32)) g

/-- The residual plus the product scaled column by column. -/
def residual (x y : FVec Ideal S2048x1024 .f32) (s : FVec Ideal S1x1024 .f32) : FVec Ideal S2048x1024 .f32 :=
  Common.arr2 fun t d => (x (ix2 t d) + y (ix2 t d) * s (ix2 (0 : Fin 1) d) : EReal)

/-- The reference runs to the two arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5)
        = residual (m ((c : Thread nD τ).loc main_arg3)) (product (m ((c : Thread nD τ).loc main_arg0)) (m ((c : Thread nD τ).loc main_arg1)))
          (halfGate (m ((c : Thread nD τ).loc main_arg2)))
      ∧ r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2⟩)
    (Value.run (F := Ideal) m ρ)
  all_goals
    refine Common.eq_arr2 fun t d => ?_
    generalize m ((c : Thread nD τ).loc main_arg0) = a
    generalize m ((c : Thread nD τ).loc main_arg1) = w
    generalize m ((c : Thread nD τ).loc main_arg2) = g
    generalize m ((c : Thread nD τ).loc main_arg3) = x
    change FVec Ideal S2048x2816 .f32 at a
    change FVec Ideal S2816x1024 .f32 at w
    change FVec Ideal S1x1024 .f32 at g
    change FVec Ideal S2048x1024 .f32 at x
  · pointwise [halfGate, product, Common.arr2]
    exact congrArg (fun e : EReal => x (ix2 t d) + e) (mul_comm _ _)
  · pointwise

/-- The reference leaves its arguments and its counters as it found them. -/
theorem reference_frame : Cert.quiescent_DownFwdReferenceIdeal := fun m ρ _ =>
  (θ_run defs _ _).mono (fun r h => ⟨fun c => (h c).2.2, sem_eq_zero_of_no_sems (by decide) r.2⟩) (reference_run m ρ)

end Reference

open Idealize.ShloMosaic.Pipeline (Dat)
open Cert.DownFwdKernelIdeal Cert.DownFwdKernelIdeal.Gen

variable (m : (ℓ : Loc nD τ sig) → Buf (Elt Ideal) ℓ) (c : Dev nD)

/-- The weights' 2816 rows in four groups of 704, each followed by zeros up to 768 rows. -/
def rowsPad (w : FVec Ideal S2816x1024 .f32) : FVec Ideal S3072x1024 .bf16 :=
  shapeCast S3072x1024 (pad S4x768x1024 ![0, 0, 0] ![0, 64, 0] ![0, 0, 0]
    (shapeCast S4x704x1024 (truncf .bf16 w bitsLt_bf16_f32) shapeCasts_S2816x1024_S4x704x1024)
    (sitofp .bf16 (constantI S_ 32 0#32)) pads_S4x704x1024_S4x768x1024_000_0640_000 h_S_)
    shapeCasts_S4x768x1024_S3072x1024

/-- The padded rows at an index: the row of the group, or zero. -/
theorem rowsPad_apply (w : FVec Ideal S2816x1024 .f32) (q : Fin 3072) (d : Fin 1024) :
    rowsPad w (ix2 q d)
      = if h : q.val % 768 < 704 then w (ix2 ⟨q.val / 768 * 704 + q.val % 768, by omega⟩ d) else (0 : EReal) := by
  pointwise [rowsPad]
  have hq : q.val / 768 < 4 := by omega
  by_cases h : q.val % 768 < 704
  · refine Eq.trans ?_ (dif_pos h).symm
    exact dif_pos ⟨hq, h⟩
  · refine Eq.trans ?_ (dif_neg h).symm
    exact (dif_neg (fun h' => h h'.2)).trans sitofp_zero

theorem V_v3 : V m c main_v3 = UpDg.colsPad (m ((c : Thread nD τ).loc main_arg0)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp
  rfl

theorem V_v7 : V m c main_v7 = rowsPad (m ((c : Thread nD τ).loc main_arg1)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp
  rfl

theorem V_v9 : V m c main_v9 = halfGate (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil,
    List.cons_append, List.nil_append]
  after_results_simp
  rfl

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![0, t.val % 2] := (by decide +kernel : ∀ t : Fin grid0.N, _)
theorem index3 : ∀ t : Fin cfg0.N, win0_3.index t = ![t.val / 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)

/-- The product over the padded operands. -/
def padded (a : FVec Ideal S2048x3072 .bf16) (w : FVec Ideal S3072x1024 .bf16) : FVec Ideal S2048x1024 .f32 :=
  Common.arr2 fun t d => (∑ q : Fin 3072, a (ix2 t q) * w (ix2 q d) : EReal)

theorem arr5_eq : (dats m 0 c).arrAt 5 cfg0.N = padded (V m c main_v3) (V m c main_v7) := by
  refine (dats m 0 c).arrAt_eq_of_covers 5 _ (by decide +kernel) fun t hf y => ?_
  blk_simp
  rw [after0_5]
  canon_tiles y h
  all_goals
    open_payloads
    pointwise [k0_pay1, k0_pay2, k0_pay3, k0_pay4, k0_pay5, padded, Common.arr2]
    blk_point [iblk, index0, index1, index5]

theorem arr4_eq : (dats m 0 c).arrAt 4 cfg0.N
    = residual (V m c main_arg3) (padded (V m c main_v3) (V m c main_v7)) (V m c main_v9) := by
  refine (dats m 0 c).arrAt_eq_of_covers 4 _ (by decide +kernel) fun t hf y => ?_
  blk_simp
  rw [after0_4]
  canon_tiles y h
  all_goals
    open_payloads
    pointwise [k0_pay1, k0_pay2, k0_pay3, k0_pay4, k0_pay5, residual, padded, Common.arr2]
    refine congrArg₂ (fun e f : EReal => e + f) ?_ (congrArg₂ (fun e f : EReal => e * f) ?_ ?_)
    · blk_point [iblk, index3, index4]
    · blk_point [iblk, index0, index1, index4]
    · blk_point [iblk, index2, index4]

/-- The padding adds zeros. -/
theorem padded_eq (a : FVec Ideal S2048x2816 .f32) (w : FVec Ideal S2816x1024 .f32) :
    padded (UpDg.colsPad a) (rowsPad w) = product a w := by
  refine congrArg Common.arr2 (funext fun t => funext fun d => Common.sum_padded _ _ (fun q h => ?_) fun q h => ?_)
  · rw [UpDg.colsPad_apply, rowsPad_apply, dif_pos h, dif_pos h]
  · rw [UpDg.colsPad_apply, dif_neg h, zero_mul]

/-- From agreeing arguments the tiled kernel and the reference end in the same two arrays. -/
theorem algebraic : Cert.algebraic_DownFwdKernelIdeal_DownFwdReferenceIdeal := by
  intro m g m' g' _ hagree
  refine ⟨fun c => residual (m ((c : Thread nD τ).loc main_arg3)) (product (m ((c : Thread nD τ).loc main_arg0)) (m ((c : Thread nD τ).loc main_arg1))) (halfGate (m ((c : Thread nD τ).loc main_arg2))),
    fun c => product (m ((c : Thread nD τ).loc main_arg0)) (m ((c : Thread nD τ).loc main_arg1)), ?_, ?_⟩
  · refine (θ_run Cert.DownFwdKernelIdeal.defs _ _).mono (fun _ h c => ⟨(h c).1.trans ?_, (h c).2.1.trans ?_,
      (h c).2.2⟩) (Cert.DownFwdKernelIdeal.Value.run_blocks m g)
    · rw [arr4_eq, V_v3, V_v7, V_v9, padded_eq]
      rfl
    · rw [arr5_eq, V_v3, V_v7]
      exact padded_eq _ _
  · refine (θ_run Cert.DownFwdReferenceIdeal.defs _ _).mono (fun _ h c => ⟨(h c).1.trans ?_, (h c).2.1.trans ?_,
      (h c).2.2⟩) (reference_run m' g')
    · rw [(hagree c).1, (hagree c).2.1, (hagree c).2.2.1, (hagree c).2.2.2]
    · rw [(hagree c).1, (hagree c).2.1]

end Cert.DownFwd

end
-- ==== Proof.Finite.lean ====
/-
  Arrays of real numbers among the arrays of extended reals: what a comparison of magnitudes with infinity says of an
  array, and that sums and products of real entries are real.
-/
module

public import proofs.«01_k».proof.Defs
public import Idealize.ShloMosaic.Lib.ReduceAll
public import Idealize.ShloMosaic.Lib.Pipeline.ValueKit.Point

@[expose] public section

noncomputable section

namespace Cert.Finite

open Idealize.ShloMosaic

/-- Every entry is a real number. -/
def Real {s : Shape} (x : s.Idx → EReal) : Prop := ∃ r : s.Idx → ℝ, x = fun i => (r i : EReal)

/-- The bits of positive infinity. -/
theorem infinity : Ideal.ofBits .f32 0x7F800000#32 = (⊤ : EReal) := by
  unfold Ideal.ofBits Ideal.ieee
  simp only [show ((0x7F800000#32 : BitVec 32).extractLsb' 23 8).toNat = 2 ^ 8 - 1 from by decide,
    show ((0x7F800000#32 : BitVec 32).extractLsb' 0 23).toNat = 0 from by decide,
    show ((0x7F800000#32 : BitVec 32).extractLsb' (8 + 23) 1 == 1#1) = false from by decide, if_true]
  rfl

/-- A number whose magnitude is below infinity is real. -/
theorem real_of_lt (x : EReal) (h : max x (-x) < ⊤) : ∃ r : ℝ, x = (r : EReal) := by
  induction x with
  | bot => simp at h
  | top => simp at h
  | coe r => exact ⟨r, rfl⟩

/-- An array all of whose magnitudes compare below infinity is an array of real numbers. -/
theorem real_of_all {s t u : Shape} {axes : List (Fin s.rank)} [Subsingleton t.Idx] (x : FVec Ideal s .f32)
    (b : Shape.BroadcastsInDim ⟨0, ![]⟩ s (![] : Fin 0 → Fin s.rank)) (init : u.Idx → BitVec 1) (h : s.ReducesTo axes t)
    (hu : 0 < u.numel) (j : t.Idx)
    (e : Host.reduce IntOp.andi (cmpf .olt (Host.absf x) (broadcastInDim s ![] b (constant ⟨0, ![]⟩ .f32 0x7F800000#32)))
      init h hu j = 1#1) : Real x := by
  have key : ∀ i, ∃ r : ℝ, x i = (r : EReal) := fun i => by
    have := Host.reduce_andi_all _ init h hu j e i
    refine real_of_lt (x i) ?_
    have h2 : Ideal.cmp .olt (max (x i) (-(x i))) (Ideal.ofBits .f32 0x7F800000#32) = 1#1 := this
    rw [infinity] at h2
    by_contra hn
    unfold Ideal.cmp at h2
    simp only [hn, decide_false] at h2
    exact absurd h2 (by decide)
  choose r hr using key
  exact ⟨r, funext hr⟩

/-- Bits whose exponent is not all ones denote a real number. -/
theorem real_bits (b : BitVec 32) (h : (b.extractLsb' 23 8).toNat ≠ 2 ^ 8 - 1) : ∃ r : ℝ, Ideal.ofBits .f32 b = (r : EReal) := by
  unfold Ideal.ofBits Ideal.ieee
  simp only [h, if_false]
  split_ifs
  all_goals exact ⟨_, rfl⟩

/-- A sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

end Cert.Finite

end
-- ==== Proof.DownWg.lean ====
/-
  The gradient of the FFN's down projection with respect to its weights: for finite arguments the tiled kernel's result
  array holds the gradient, its rows in four groups of 704 rows, each followed by zeros up to 768.
-/
module

public import proofs.«01_k».proof.Defs
public import proofs.«01_k».proof.Proof.DownFwd
public import proofs.«01_k».proof.Proof.Finite
public import proofs.«01_k».proof.Proof.Gen.DownWgKernelIdeal.Value
public import proofs.«01_k».proof.Proof.Gen.DownWgReferenceIdeal.Run
public import Idealize.ShloMosaic.Lib.Claim
public import Idealize.ShloMosaic.Lib.Quiescent
public import Idealize.ShloMosaic.Lib.Pipeline.ValueKit.Point

@[expose] public section

noncomputable section

namespace Cert.DownWg

open Idealize.ShloMosaic Idealize.ShloMosaic.TcCoe Idealize.SL.Sem

/-- What the precondition says: the gated columns, the gate and the result's gradient are arrays of real numbers. -/
theorem real_args [Cert.Pre_a_gt_dxo_finite.Facts] (a : FVec Ideal ⟨2, ![2048, 2816]⟩ .f32)
    (w : FVec Ideal ⟨2, ![2816, 1024]⟩ .f32) (g : FVec Ideal ⟨2, ![1, 1024]⟩ .f32) (x : FVec Ideal ⟨2, ![2048, 1024]⟩ .f32)
    (h : Cert.Pre_a_gt_dxo_finite.fn (F := Ideal) a w g x = fun _ => 1#1) :
    Finite.Real a ∧ Finite.Real g ∧ Finite.Real x := by
  haveI : Subsingleton (Shape.Idx ⟨0, ![]⟩) := ⟨fun i j => funext fun k => k.elim0⟩
  have e := congrFun h (fun k => k.elim0)
  obtain ⟨e', hx⟩ := IntOp.andi_eq_one.1 e
  obtain ⟨ha, hg⟩ := IntOp.andi_eq_one.1 e'
  exact ⟨Finite.real_of_all _ _ _ _ _ _ ha, Finite.real_of_all _ _ _ _ _ _ hg, Finite.real_of_all _ _ _ _ _ _ hx⟩

section Reference

open Cert.DownWgReferenceIdeal Cert.DownWgReferenceIdeal.Gen

/-- The weights' gradient, row by row in the padded layout: the scale inside the sum. -/
def inside (a : FVec Ideal S2048x2816 .f32) (s : FVec Ideal S1x1024 .f32) (x : FVec Ideal S2048x1024 .f32) :
    FVec Ideal S3072x1024 .bf16 :=
  Common.arr2 fun q d =>
    if h : q.val % 768 < 704 then
      (∑ t : Fin 2048, s (ix2 (0 : Fin 1) d) * x (ix2 t d) * a (ix2 t ⟨q.val / 768 * 704 + q.val % 768, by omega⟩) : EReal)
    else (0 : EReal)

/-- The weights' gradient, row by row in the padded layout: the scale outside the sum. -/
def outside (a : FVec Ideal S2048x2816 .f32) (s : FVec Ideal S1x1024 .f32) (x : FVec Ideal S2048x1024 .f32) :
    FVec Ideal S3072x1024 .bf16 :=
  Common.arr2 fun q d =>
    if h : q.val % 768 < 704 then
      (∑ t : Fin 2048, a (ix2 t ⟨q.val / 768 * 704 + q.val % 768, by omega⟩) * x (ix2 t d) : EReal) * s (ix2 (0 : Fin 1) d)
    else (0 : EReal)

theorem halfGate_real (g : FVec Ideal S1x1024 .f32) (h : Finite.Real g) : Finite.Real (DownFwd.halfGate g) := by
  obtain ⟨r, rfl⟩ := h
  obtain ⟨k, hk⟩ := Finite.real_bits 0x3F000000#32 (by decide)
  exact ⟨fun i => k * r i, funext fun i => (congrArg (fun e : EReal => e * (r i : EReal)) hk).trans (EReal.coe_mul _ _).symm⟩

/-- Over real numbers the scale may stand inside or outside the sum. -/
theorem inside_eq (a : FVec Ideal S2048x2816 .f32) (s : FVec Ideal S1x1024 .f32) (x : FVec Ideal S2048x1024 .f32)
    (ha : Finite.Real a) (hs : Finite.Real s) (hx : Finite.Real x) : inside a s x = outside a s x := by
  obtain ⟨a, rfl⟩ := ha
  obtain ⟨s, rfl⟩ := hs
  obtain ⟨x, rfl⟩ := hx
  refine congrArg Common.arr2 (funext fun q => funext fun d => ?_)
  by_cases h : q.val % 768 < 704
  · refine (dif_pos h).trans (Eq.trans ?_ (dif_pos h).symm)
    generalize (⟨q.val / 768 * 704 + q.val % 768, _⟩ : Fin 2816) = j
    simp only [← EReal.coe_mul, ← Finite.coe_sum, Finset.sum_mul]
    exact congrArg _ (Finset.sum_congr rfl fun t _ => by ring)
  · refine Eq.trans ?_ (dif_neg h).symm
    exact dif_neg h

/-- The reference runs to the gradient with the scale inside the sum. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v18)
        = inside (m ((c : Thread nD τ).loc main_arg0))
          (DownFwd.halfGate (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Value.run (F := Ideal) m ρ)
  refine Common.eq_arr2 fun q d => ?_
  generalize m ((c : Thread nD τ).loc main_arg0) = a
  generalize m ((c : Thread nD τ).loc main_arg2) = g
  generalize m ((c : Thread nD τ).loc main_arg3) = x
  change FVec Ideal S2048x2816 .f32 at a
  change FVec Ideal S1x1024 .f32 at g
  change FVec Ideal S2048x1024 .f32 at x
  pointwise [DownFwd.halfGate]
  have hq : q.val / 768 < 4 := by omega
  by_cases h : q.val % 768 < 704
  · refine Eq.trans ?_ (dif_pos h).symm
    exact dif_pos ⟨hq, h⟩
  · refine Eq.trans ?_ (dif_neg h).symm
    exact (dif_neg (fun h' => h h'.2)).trans sitofp_zero

/-- The same with the precondition. -/
theorem reference_frame_pre [Cert.Pre_a_gt_dxo_finite.Facts] : Cert.quiescent_DownWgReferenceIdeal_pre_a_gt_dxo_finite :=
  fun m ρ _ => (θ_run defs _ _).mono (fun r h => ⟨fun c => (h c).2, sem_eq_zero_of_no_sems (by decide) r.2⟩)
    (reference_run m ρ)

/-- The reference leaves its arguments and its counters as it found them. -/
theorem reference_frame : Cert.quiescent_DownWgReferenceIdeal := fun m ρ _ =>
  (θ_run defs _ _).mono (fun r h => ⟨fun c => (h c).2, sem_eq_zero_of_no_sems (by decide) r.2⟩) (reference_run m ρ)

end Reference

open Idealize.ShloMosaic.Pipeline (Dat)
open Cert.DownWgKernelIdeal Cert.DownWgKernelIdeal.Gen

variable (m : (ℓ : Loc nD τ sig) → Buf (Elt Ideal) ℓ) (c : Dev nD)

theorem V_v3 : V m c main_v3 = UpDg.colsPad (m ((c : Thread nD τ).loc main_arg0)) := by
  show StableHlo.after (List.flatten [hostOps0, hostOps0_1, hostOps0_2]) _ _ = _
  simp only [hostOps0, hostOps0_1, hostOps0_2, List.flatten_cons, List.flatten_nil, List.append_nil,
    List.cons_append, List.nil_append]
  after_results_simp
  rfl

theorem V_v5 : V m c main_v5 = DownFwd.halfGate (m ((c : Thread nD τ).loc main_arg2)) := by
  show StableHlo.after (List.flatten [hostOps0, hostOps0_1, hostOps0_2]) _ _ = _
  simp only [hostOps0, hostOps0_1, hostOps0_2, List.flatten_cons, List.flatten_nil, List.append_nil,
    List.cons_append, List.nil_append]
  after_results_simp
  rfl

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

/-- The result over the operands. -/
def final (a : FVec Ideal S2048x3072 .bf16) (x : FVec Ideal S2048x1024 .f32) (s : FVec Ideal S1x1024 .f32) :
    FVec Ideal S3072x1024 .bf16 :=
  Common.arr2 fun q d => (∑ t : Fin 2048, a (ix2 t q) * x (ix2 t d) : EReal) * s (ix2 (0 : Fin 1) d)

theorem arr_eq : (dats m 0 c).arrAt 3 cfg0.N = final (V m c main_v3) (V m c main_arg3) (V m c main_v5) := by
  refine (dats m 0 c).arrAt_eq_of_covers 3 _ (by decide +kernel) fun t hf y => ?_
  blk_simp
  rw [after0_3]
  frame_out
  pointwise [k0_pay1, final, Common.arr2]
  refine congrArg₂ (fun e f : EReal => e * f) ?_ ?_
  · blk_point [iblk, index0, index1, index3]
  · blk_point [iblk, index2, index3]

/-- The padded columns give rows of zeros. -/
theorem final_eq (a : FVec Ideal S2048x2816 .f32) (x : FVec Ideal S2048x1024 .f32) (s : FVec Ideal S1x1024 .f32) :
    final (UpDg.colsPad a) x s = outside a s x := by
  refine congrArg Common.arr2 (funext fun q => funext fun d => ?_)
  by_cases h : q.val % 768 < 704
  · refine Eq.trans ?_ (dif_pos h).symm
    exact congrArg (fun e : EReal => e * s (ix2 (0 : Fin 1) d)) (Finset.sum_congr rfl fun t _ =>
      congrArg (fun e : EReal => e * x (ix2 t d)) ((UpDg.colsPad_apply a t q).trans (dif_pos h)))
  · refine Eq.trans ?_ (dif_neg h).symm
    exact (congrArg (fun e : EReal => e * s (ix2 (0 : Fin 1) d)) (Finset.sum_eq_zero fun t _ =>
      (congrArg (fun e : EReal => e * x (ix2 t d)) ((UpDg.colsPad_apply a t q).trans (dif_neg h))).trans (zero_mul _))).trans
      (zero_mul _)

/-- From agreeing finite arguments the tiled kernel and the reference end in the same gradient. -/
theorem algebraic [Cert.Pre_a_gt_dxo_finite.Facts] :
    Cert.algebraic_DownWgKernelIdeal_DownWgReferenceIdeal_pre_a_gt_dxo_finite := by
  intro m g m' g' hpre hagree
  refine ⟨fun c => outside (m ((c : Thread nD τ).loc main_arg0)) (DownFwd.halfGate (m ((c : Thread nD τ).loc main_arg2))) (m ((c : Thread nD τ).loc main_arg3)), ?_, ?_⟩
  · refine (θ_run Cert.DownWgKernelIdeal.defs _ _).mono (fun _ h c => ⟨(h c).1.trans ?_, (h c).2⟩)
      (Cert.DownWgKernelIdeal.Value.run_blocks m g)
    rw [arr_eq, V_v3, V_v5]
    exact final_eq _ _ _
  · refine (θ_run Cert.DownWgReferenceIdeal.defs _ _).mono (fun _ h c => ⟨(h c).1.trans ?_, (h c).2⟩)
      (reference_run m' g')
    obtain ⟨ha, hg, hx⟩ := real_args _ _ _ _ (hpre c)
    rw [(hagree c).1, (hagree c).2.2.1, (hagree c).2.2.2]
    exact inside_eq _ _ _ ha (halfGate_real _ hg) hx

end Cert.DownWg

end
-- ==== Proof.Dact.lean ====
/-
  The gradient of the FFN's gated columns: for finite arguments the tiled kernel's two result arrays are the gradients of
  the gate's and of the up columns, each in four groups of 704 columns followed by zeros up to 768.
-/
module

public import proofs.«01_k».proof.Defs
public import proofs.«01_k».proof.Proof.DownWg
public import proofs.«01_k».proof.Proof.Gen.DactKernelIdeal.Value
public import proofs.«01_k».proof.Proof.Gen.DactReferenceIdeal.Run
public import Idealize.ShloMosaic.Lib.Claim
public import Idealize.ShloMosaic.Lib.Quiescent
public import Idealize.ShloMosaic.Lib.Pipeline.ValueKit.Point

@[expose] public section

noncomputable section

namespace Cert.Dact

open Idealize.ShloMosaic Idealize.ShloMosaic.TcCoe Idealize.SL.Sem

/-- What the precondition says: all five arguments are arrays of real numbers. -/
theorem real_args [Cert.Pre_dact_finite.Facts] (x : FVec Ideal ⟨2, ![2048, 1024]⟩ .f32) (s : FVec Ideal ⟨2, ![1, 1024]⟩ .f32)
    (w : FVec Ideal ⟨2, ![2816, 1024]⟩ .f32) (g u : FVec Ideal ⟨2, ![2048, 2816]⟩ .f32)
    (h : Cert.Pre_dact_finite.fn (F := Ideal) x s w g u = fun _ => 1#1) :
    Finite.Real x ∧ Finite.Real s ∧ Finite.Real w ∧ Finite.Real g ∧ Finite.Real u := by
  haveI : Subsingleton (Shape.Idx ⟨0, ![]⟩) := ⟨fun i j => funext fun k => k.elim0⟩
  have e := congrFun h (fun k => k.elim0)
  obtain ⟨e, hu⟩ := IntOp.andi_eq_one.1 e
  obtain ⟨e, hg⟩ := IntOp.andi_eq_one.1 e
  obtain ⟨e, hw⟩ := IntOp.andi_eq_one.1 e
  obtain ⟨hx, hs⟩ := IntOp.andi_eq_one.1 e
  exact ⟨Finite.real_of_all _ _ _ _ _ _ hx, Finite.real_of_all _ _ _ _ _ _ hs, Finite.real_of_all _ _ _ _ _ _ hw,
    Finite.real_of_all _ _ _ _ _ _ hg, Finite.real_of_all _ _ _ _ _ _ hu⟩

section Reference

open Cert.DactReferenceIdeal Cert.DactReferenceIdeal.Gen

/-- The gradient of the gated columns: the scaled gradient times the weights transposed. -/
def back (x : FVec Ideal S2048x1024 .f32) (s : FVec Ideal S1x1024 .f32) (w : FVec Ideal S2816x1024 .f32) (t : Fin 2048)
    (j : Fin 2816) : EReal :=
  (∑ d : Fin 1024, s (ix2 (0 : Fin 1) d) * x (ix2 t d) * w (ix2 j d) : EReal)

/-- The gate's gradient from the gradient `h` of the gated column, by the rule for a product. -/
def gateSum (h g u : EReal) : EReal :=
  h * u * Ideal.logistic g + g * (h * u) * (Ideal.logistic g * (1 - Ideal.logistic g))

/-- The gate's gradient from the gradient `h` of the gated column, factored. -/
def gateProduct (h g u : EReal) : EReal := h * u * Ideal.logistic g * (1 + g * (1 - Ideal.logistic g))

theorem gateProduct_congr {h h' g g' u u' : EReal} (eh : h = h') (eg : g = g') (eu : u = u') :
    h * u * Ideal.logistic g * (1 + g * (1 - Ideal.logistic g)) = gateProduct h' g' u' := by
  rw [eh, eg, eu]
  rfl

/-- Columns in the padded layout. -/
def padCols (f : Fin 2048 → Fin 2816 → EReal) : FVec Ideal S2048x3072 .bf16 :=
  Common.arr2 fun t q =>
    if h : q.val % 768 < 704 then f t ⟨q.val / 768 * 704 + q.val % 768, by omega⟩ else (0 : EReal)

theorem back_real (x : FVec Ideal S2048x1024 .f32) (s : FVec Ideal S1x1024 .f32) (w : FVec Ideal S2816x1024 .f32)
    (hx : Finite.Real x) (hs : Finite.Real s) (hw : Finite.Real w) (t : Fin 2048) (j : Fin 2816) :
    ∃ r : ℝ, back x s w t j = (r : EReal) := by
  obtain ⟨x, rfl⟩ := hx
  obtain ⟨s, rfl⟩ := hs
  obtain ⟨w, rfl⟩ := hw
  refine ⟨∑ d : Fin 1024, s (ix2 (0 : Fin 1) d) * x (ix2 t d) * w (ix2 j d), ?_⟩
  unfold back
  simp only [← EReal.coe_mul, ← Finite.coe_sum]

/-- Over real numbers the two forms of the gate's gradient agree. -/
theorem gateSum_eq (h g u : ℝ) : gateSum (h : EReal) (g : EReal) (u : EReal) = gateProduct (h : EReal) (g : EReal) (u : EReal) := by
  unfold gateSum gateProduct
  rw [Ideal.logistic_coe]
  generalize (1 + Real.exp (-g))⁻¹ = r
  rw [← EReal.coe_one]
  simp only [← EReal.coe_sub, ← EReal.coe_mul, ← EReal.coe_add]
  exact congrArg _ (by ring)

/-- The gate's gradient, by the rule for a product. -/
def gateGrad (x : FVec Ideal S2048x1024 .f32) (s : FVec Ideal S1x1024 .f32) (w : FVec Ideal S2816x1024 .f32)
    (g u : FVec Ideal S2048x2816 .f32) : FVec Ideal S2048x3072 .bf16 :=
  padCols fun t j => gateSum (back x s w t j) (g (ix2 t j)) (u (ix2 t j))

/-- The gate's gradient, factored. -/
def gateFactored (x : FVec Ideal S2048x1024 .f32) (s : FVec Ideal S1x1024 .f32) (w : FVec Ideal S2816x1024 .f32)
    (g u : FVec Ideal S2048x2816 .f32) : FVec Ideal S2048x3072 .bf16 :=
  padCols fun t j => gateProduct (back x s w t j) (g (ix2 t j)) (u (ix2 t j))

/-- The up columns' gradient. -/
def upGrad (x : FVec Ideal S2048x1024 .f32) (s : FVec Ideal S1x1024 .f32) (w : FVec Ideal S2816x1024 .f32)
    (g : FVec Ideal S2048x2816 .f32) : FVec Ideal S2048x3072 .bf16 :=
  padCols fun t j => back x s w t j * g (ix2 t j) * Ideal.logistic (g (ix2 t j))

/-- The two forms of the gate's gradient agree for finite arguments. -/
theorem gateGrad_eq (x : FVec Ideal S2048x1024 .f32) (s : FVec Ideal S1x1024 .f32) (w : FVec Ideal S2816x1024 .f32)
    (g u : FVec Ideal S2048x2816 .f32) (hx : Finite.Real x) (hs : Finite.Real s) (hw : Finite.Real w) (hg : Finite.Real g)
    (hu : Finite.Real u) : gateGrad x s w g u = gateFactored x s w g u := by
  refine congrArg padCols (funext fun t => funext fun j => ?_)
  obtain ⟨r, hr⟩ := back_real x s w hx hs hw t j
  obtain ⟨g, rfl⟩ := hg
  obtain ⟨u, rfl⟩ := hu
  rw [hr]
  exact gateSum_eq _ _ _

/-- The reference runs to the two gradients. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23)
        = gateGrad (m ((c : Thread nD τ).loc main_arg0)) (DownFwd.halfGate (m ((c : Thread nD τ).loc main_arg1)))
          (m ((c : Thread nD τ).loc main_arg2)) (m ((c : Thread nD τ).loc main_arg3)) (m ((c : Thread nD τ).loc main_arg4))
      ∧ r.2.mem ((c : Thread nD τ).loc main_v27)
        = upGrad (m ((c : Thread nD τ).loc main_arg0)) (DownFwd.halfGate (m ((c : Thread nD τ).loc main_arg1)))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ⟨(h c).1.trans ?_, (h c).2.1.trans ?_, (h c).2.2⟩)
    (Value.run (F := Ideal) m ρ)
  · unfold gateGrad padCols
    refine Common.eq_arr2 fun t q => ?_
    generalize m ((c : Thread nD τ).loc main_arg0) = x
    generalize m ((c : Thread nD τ).loc main_arg1) = s
    generalize m ((c : Thread nD τ).loc main_arg2) = w
    generalize m ((c : Thread nD τ).loc main_arg3) = g
    generalize m ((c : Thread nD τ).loc main_arg4) = u
    change FVec Ideal S2048x1024 .f32 at x
    change FVec Ideal S1x1024 .f32 at s
    change FVec Ideal S2816x1024 .f32 at w
    change FVec Ideal S2048x2816 .f32 at g
    change FVec Ideal S2048x2816 .f32 at u
    have hq : q.val / 768 < 4 := by omega
    pointwise [DownFwd.halfGate, back, gateSum]
    by_cases h : q.val % 768 < 704
    · refine Eq.trans ?_ (dif_pos h).symm
      exact dif_pos ⟨hq, h⟩
    · refine Eq.trans ?_ (dif_neg h).symm
      exact (dif_neg (fun h' => h h'.2)).trans sitofp_zero
  · unfold upGrad padCols
    refine Common.eq_arr2 fun t q => ?_
    generalize m ((c : Thread nD τ).loc main_arg0) = x
    generalize m ((c : Thread nD τ).loc main_arg1) = s
    generalize m ((c : Thread nD τ).loc main_arg2) = w
    generalize m ((c : Thread nD τ).loc main_arg3) = g
    generalize m ((c : Thread nD τ).loc main_arg4) = u
    change FVec Ideal S2048x1024 .f32 at x
    change FVec Ideal S1x1024 .f32 at s
    change FVec Ideal S2816x1024 .f32 at w
    change FVec Ideal S2048x2816 .f32 at g
    change FVec Ideal S2048x2816 .f32 at u
    have hq : q.val / 768 < 4 := by omega
    pointwise [DownFwd.halfGate, back]
    by_cases h : q.val % 768 < 704
    · refine Eq.trans ?_ (dif_pos h).symm
      refine (dif_pos ⟨hq, h⟩).trans ?_
      exact (mul_comm (_ : EReal) _).trans (mul_assoc _ _ _).symm
    · refine Eq.trans ?_ (dif_neg h).symm
      exact (dif_neg (fun h' => h h'.2)).trans sitofp_zero

/-- The same with the precondition. -/
theorem reference_frame_pre [Cert.Pre_dact_finite.Facts] : Cert.quiescent_DactReferenceIdeal_pre_dact_finite :=
  fun m ρ _ => (θ_run defs _ _).mono (fun r h => ⟨fun c => (h c).2.2, sem_eq_zero_of_no_sems (by decide) r.2⟩)
    (reference_run m ρ)

/-- The reference leaves its arguments and its counters as it found them. -/
theorem reference_frame : Cert.quiescent_DactReferenceIdeal := fun m ρ _ =>
  (θ_run defs _ _).mono (fun r h => ⟨fun c => (h c).2.2, sem_eq_zero_of_no_sems (by decide) r.2⟩) (reference_run m ρ)

end Reference

open Idealize.ShloMosaic.Pipeline (Dat)
open Cert.DactKernelIdeal Cert.DactKernelIdeal.Gen

variable (m : (ℓ : Loc nD τ sig) → Buf (Elt Ideal) ℓ) (c : Dev nD)

theorem V_v1 : V m c main_v1 = DownFwd.halfGate (m ((c : Thread nD τ).loc main_arg1)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results_simp
  rfl

theorem V_v5 : V m c main_v5 = DownFwd.rowsPad (m ((c : Thread nD τ).loc main_arg2)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results_simp
  rfl

theorem V_v9 : V m c main_v9 = UpDg.colsPad (m ((c : Thread nD τ).loc main_arg3)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results_simp
  rfl

theorem V_v13 : V m c main_v13 = UpDg.colsPad (m ((c : Thread nD τ).loc main_arg4)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results_simp
  rfl

theorem index0 : ∀ t : Fin cfg0.N, win0_0.index t = ![t.val / 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 4, 0] := (by decide +kernel : ∀ t : Fin grid0.N, _)
theorem index3 : ∀ t : Fin cfg0.N, win0_3.index t = ![t.val / 4, t.val % 4] := (by decide +kernel : ∀ t : Fin grid0.N, _)
theorem index4 : ∀ t : Fin cfg0.N, win0_4.index t = ![t.val / 4, t.val % 4] := (by decide +kernel : ∀ t : Fin grid0.N, _)
theorem index5 : ∀ t : Fin cfg0.N, win0_5.index t = ![t.val / 4, t.val % 4] := (by decide +kernel : ∀ t : Fin grid0.N, _)
theorem index6 : ∀ t : Fin cfg0.N, win0_6.index t = ![t.val / 4, t.val % 4] := (by decide +kernel : ∀ t : Fin grid0.N, _)

/-- The product over the padded operands. -/
def padBack (x : FVec Ideal S2048x1024 .f32) (s : FVec Ideal S1x1024 .f32) (w : FVec Ideal S3072x1024 .bf16) (t : Fin 2048)
    (q : Fin 3072) : EReal :=
  (∑ d : Fin 1024, x (ix2 t d) * s (ix2 (0 : Fin 1) d) * w (ix2 q d) : EReal)

/-- The gate's gradient over the padded operands. -/
def padGate (x : FVec Ideal S2048x1024 .f32) (s : FVec Ideal S1x1024 .f32) (w : FVec Ideal S3072x1024 .bf16)
    (g u : FVec Ideal S2048x3072 .bf16) : FVec Ideal S2048x3072 .bf16 :=
  Common.arr2 fun t q => gateProduct (padBack x s w t q) (g (ix2 t q)) (u (ix2 t q))

/-- The up columns' gradient over the padded operands. -/
def padUp (x : FVec Ideal S2048x1024 .f32) (s : FVec Ideal S1x1024 .f32) (w : FVec Ideal S3072x1024 .bf16)
    (g : FVec Ideal S2048x3072 .bf16) : FVec Ideal S2048x3072 .bf16 :=
  Common.arr2 fun t q => padBack x s w t q * g (ix2 t q) * Ideal.logistic (g (ix2 t q))

set_option maxHeartbeats 1000000 in
theorem arr5_eq : (dats m 0 c).arrAt 5 cfg0.N
    = padGate (V m c main_arg0) (V m c main_v1) (V m c main_v5) (V m c main_v9) (V m c main_v13) := by
  refine (dats m 0 c).arrAt_eq_of_covers 5 _ (by decide +kernel) fun t hf y => ?_
  blk_simp
  rw [after0_5]
  canon_tiles y h
  all_goals
    open_payloads
    pointwise [k0_pay1, k0_pay2, k0_pay3, k0_pay4, k0_pay5, k0_pay6, k0_pay7, k0_pay8, k0_pay9,
      k0_pay10, k0_pay11, k0_pay12, k0_pay13, k0_pay14, k0_pay15, k0_pay16, k0_pay17, k0_pay18, padGate, padBack, Common.arr2]
    refine gateProduct_congr ?_ ?_ ?_
    · blk_point [iblk, index0, index1, index2, index5]
    · blk_point [iblk, index3, index5]
    · blk_point [iblk, index4, index5]

theorem arr6_eq : (dats m 0 c).arrAt 6 cfg0.N
    = padUp (V m c main_arg0) (V m c main_v1) (V m c main_v5) (V m c main_v9) := by
  refine (dats m 0 c).arrAt_eq_of_covers 6 _ (by decide +kernel) fun t hf y => ?_
  blk_simp
  rw [after0_6]
  canon_tiles y h
  all_goals
    open_payloads
    pointwise [k0_pay1, k0_pay2, k0_pay3, k0_pay4, k0_pay5, k0_pay6, k0_pay7, k0_pay8, k0_pay9,
      k0_pay10, k0_pay11, k0_pay12, k0_pay13, k0_pay14, k0_pay15, k0_pay16, k0_pay17, k0_pay18, padUp, padBack, Common.arr2]
    refine congrArg₂ (fun e f : EReal => e * f * Ideal.logistic f) ?_ ?_
    · blk_point [iblk, index0, index1, index2, index6]
    · blk_point [iblk, index3, index6]

/-- A padded column of the product is the column, or zero. -/
theorem padBack_eq (x : FVec Ideal S2048x1024 .f32) (s : FVec Ideal S1x1024 .f32) (w : FVec Ideal S2816x1024 .f32)
    (t : Fin 2048) (q : Fin 3072) (h : q.val % 768 < 704) :
    padBack x s (DownFwd.rowsPad w) t q = back x s w t ⟨q.val / 768 * 704 + q.val % 768, by omega⟩ := by
  refine Finset.sum_congr rfl fun d _ => ?_
  exact (congrArg (fun e : EReal => x (ix2 t d) * s (ix2 (0 : Fin 1) d) * e)
    ((DownFwd.rowsPad_apply w q d).trans (dif_pos h))).trans (congrArg (fun e : EReal => e * _) (mul_comm _ _))

theorem padGate_eq (x : FVec Ideal S2048x1024 .f32) (s : FVec Ideal S1x1024 .f32) (w : FVec Ideal S2816x1024 .f32)
    (g u : FVec Ideal S2048x2816 .f32) :
    padGate x s (DownFwd.rowsPad w) (UpDg.colsPad g) (UpDg.colsPad u) = gateFactored x s w g u := by
  unfold padGate gateFactored padCols
  refine congrArg Common.arr2 (funext fun t => funext fun q => ?_)
  by_cases h : q.val % 768 < 704
  · refine Eq.trans ?_ (dif_pos h).symm
    rw [padBack_eq x s w t q h, UpDg.colsPad_apply, UpDg.colsPad_apply, dif_pos h, dif_pos h]
  · refine Eq.trans ?_ (dif_neg h).symm
    unfold gateProduct
    rw [UpDg.colsPad_apply u, dif_neg h, mul_zero, zero_mul, zero_mul]

theorem padUp_eq (x : FVec Ideal S2048x1024 .f32) (s : FVec Ideal S1x1024 .f32) (w : FVec Ideal S2816x1024 .f32)
    (g : FVec Ideal S2048x2816 .f32) :
    padUp x s (DownFwd.rowsPad w) (UpDg.colsPad g) = upGrad x s w g := by
  unfold padUp upGrad padCols
  refine congrArg Common.arr2 (funext fun t => funext fun q => ?_)
  by_cases h : q.val % 768 < 704
  · refine Eq.trans ?_ (dif_pos h).symm
    rw [padBack_eq x s w t q h, UpDg.colsPad_apply, dif_pos h]
  · refine Eq.trans ?_ (dif_neg h).symm
    rw [UpDg.colsPad_apply g, dif_neg h, mul_zero, zero_mul]

/-- From agreeing finite arguments the tiled kernel and the reference end in the same two gradients. -/
theorem algebraic [Cert.Pre_dact_finite.Facts] :
    Cert.algebraic_DactKernelIdeal_DactReferenceIdeal_pre_dact_finite := by
  intro m g m' g' hpre hagree
  refine ⟨fun c => gateFactored (m ((c : Thread nD τ).loc main_arg0)) (DownFwd.halfGate (m ((c : Thread nD τ).loc main_arg1))) (m ((c : Thread nD τ).loc main_arg2)) (m ((c : Thread nD τ).loc main_arg3))
      (m ((c : Thread nD τ).loc main_arg4)),
    fun c => upGrad (m ((c : Thread nD τ).loc main_arg0)) (DownFwd.halfGate (m ((c : Thread nD τ).loc main_arg1))) (m ((c : Thread nD τ).loc main_arg2)) (m ((c : Thread nD τ).loc main_arg3)), ?_, ?_⟩
  · refine (θ_run Cert.DactKernelIdeal.defs _ _).mono (fun _ h c => ⟨(h c).1.trans ?_, (h c).2.1.trans ?_, (h c).2.2⟩)
      (Cert.DactKernelIdeal.Value.run_blocks m g)
    · rw [arr5_eq, V_v1, V_v5, V_v9, V_v13]
      exact padGate_eq _ _ _ _ _
    · rw [arr6_eq, V_v1, V_v5, V_v9]
      exact padUp_eq _ _ _ _
  · refine (θ_run Cert.DactReferenceIdeal.defs _ _).mono (fun _ h c => ⟨(h c).1.trans ?_, (h c).2.1.trans ?_, (h c).2.2⟩)
      (reference_run m' g')
    · obtain ⟨hx, hs, hw, hg, hu⟩ := real_args _ _ _ _ _ (hpre c)
      rw [(hagree c).1, (hagree c).2.1, (hagree c).2.2.1, (hagree c).2.2.2.1, (hagree c).2.2.2.2]
      exact gateGrad_eq _ _ _ _ _ hx (DownWg.halfGate_real _ hs) hw hg hu
    · rw [(hagree c).1, (hagree c).2.1, (hagree c).2.2.1, (hagree c).2.2.2.1]

end Cert.Dact

end
-- ==== Proof.Merge.lean ====
/-
  The gradient of the gates that merge the two branches: the tiled kernel's four result arrays are the gradients of the
  two branches and of the two gates' columns.
-/
module

public import proofs.«01_k».proof.Defs
public import proofs.«01_k».proof.Proof.Layout
public import proofs.«01_k».proof.Proof.Gen.MergeKernelIdeal.Value
public import proofs.«01_k».proof.Proof.Gen.MergeReferenceIdeal.Run
public import Idealize.ShloMosaic.Lib.Claim
public import Idealize.ShloMosaic.Lib.Quiescent
public import Idealize.ShloMosaic.Lib.Pipeline.ValueKit.Point

@[expose] public section

noncomputable section

namespace Cert.Merge

open Idealize.ShloMosaic Idealize.ShloMosaic.TcCoe Idealize.SL.Sem

section Reference

open Cert.MergeReferenceIdeal Cert.MergeReferenceIdeal.Gen

/-- The gradient of a branch: the gate's columns start at column `6416 + e`. -/
def branch (y : FVec Ideal S2048x1024 .f32) (z : FVec Ideal S2048x8464 .f32) (e : ℕ) (he : e ≤ 1024) :
    FVec Ideal S2048x1024 .bf16 :=
  Common.arr2 fun t j => y (ix2 t j) * Ideal.logistic (z (ix2 t ⟨6416 + (e + j.val), by omega⟩))

/-- The gradient of a gate's columns. -/
def gate (y x : FVec Ideal S2048x1024 .f32) (z : FVec Ideal S2048x8464 .f32) (e : ℕ) (he : e ≤ 1024) :
    FVec Ideal S2048x1024 .bf16 :=
  Common.arr2 fun t j => y (ix2 t j) * x (ix2 t j) * Ideal.logistic (z (ix2 t ⟨6416 + (e + j.val), by omega⟩))
    * (1 - Ideal.logistic (z (ix2 t ⟨6416 + (e + j.val), by omega⟩)))

/-- The reference runs to the four gradients. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25)
        = branch (m ((c : Thread nD τ).loc main_arg0)) (m ((c : Thread nD τ).loc main_arg3)) 0 (by omega)
      ∧ r.2.mem ((c : Thread nD τ).loc main_v26)
        = branch (m ((c : Thread nD τ).loc main_arg0)) (m ((c : Thread nD τ).loc main_arg3)) 1024 (by omega)
      ∧ r.2.mem ((c : Thread nD τ).loc main_v27)
        = gate (m ((c : Thread nD τ).loc main_arg0)) (m ((c : Thread nD τ).loc main_arg1))
          (m ((c : Thread nD τ).loc main_arg3)) 0 (by omega)
      ∧ r.2.mem ((c : Thread nD τ).loc main_v28)
        = gate (m ((c : Thread nD τ).loc main_arg0)) (m ((c : Thread nD τ).loc main_arg2))
          (m ((c : Thread nD τ).loc main_arg3)) 1024 (by omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr2 fun t j => ?_
    generalize m ((c : Thread nD τ).loc main_arg0) = y
    generalize m ((c : Thread nD τ).loc main_arg3) = z
    change FVec Ideal S2048x1024 .f32 at y
    change FVec Ideal S2048x8464 .f32 at z
  · pointwise
    exact mul_comm (_ : EReal) _
  · pointwise
    exact mul_comm (_ : EReal) _
  · generalize m ((c : Thread nD τ).loc main_arg1) = x
    change FVec Ideal S2048x1024 .f32 at x
    pointwise
    exact (mul_assoc (_ : EReal) _ _).symm
  · generalize m ((c : Thread nD τ).loc main_arg2) = x
    change FVec Ideal S2048x1024 .f32 at x
    pointwise
    exact (mul_assoc (_ : EReal) _ _).symm

/-- The reference leaves its arguments and its counters as it found them. -/
theorem reference_frame : Cert.quiescent_MergeReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.MergeKernelIdeal Cert.MergeKernelIdeal.Gen

variable (m : (ℓ : Loc nD τ sig) → Buf (Elt Ideal) ℓ) (c : Dev nD)

/-- The projected columns in the version's order, as the host code before the kernel builds them. -/
def zOrder (z : FVec Ideal S2048x8464 .f32) : FVec Ideal S2048x8704 .f32 :=
  concatenate S2048x8704 1
    [⟨S2048x4096, extractStridedSlice S2048x4096 ![0, 2304] z slices_S2048x8464_S2048x4096_0_2304⟩,
      ⟨S2048x2048, extractStridedSlice S2048x2048 ![0, 6416] z slices_S2048x8464_S2048x2048_0_6416⟩,
      ⟨S2048x2304, extractStridedSlice S2048x2304 ![0, 0] z slices_S2048x8464_S2048x2304_0_0⟩,
      ⟨S2048x16, extractStridedSlice S2048x16 ![0, 6400] z slices_S2048x8464_S2048x16_0_6400⟩,
      ⟨S2048x240, broadcastInDim S2048x240 ![] bcast_S_S2048x240 (constant S_ FTy.f32 0#32)⟩]
    concatenates_S2048x4096_S2048x2048_S2048x2304_S2048x16_S2048x240_S2048x8704_d1

/-- The gates' columns in the version's order. -/
theorem zOrder_gate (z : FVec Ideal S2048x8464 .f32) (t : Fin 2048) (i : ℕ) (hi : i < 2048) :
    zOrder z (ix2 t ⟨4096 + i, by omega⟩) = z (ix2 t ⟨6416 + i, by omega⟩) := by
  pointwise [zOrder]
  exact dif_pos hi

theorem V_v5 : V m c main_v5 = zOrder (m ((c : Thread nD τ).loc main_arg3)) := by
  show StableHlo.after (List.flatten [hostOps0]) _ _ = _
  simp only [hostOps0, List.flatten_cons, List.flatten_nil, List.append_nil,
    List.cons_append, List.nil_append]
  after_results_simp
  rfl

theorem index0 : ∀ t : Fin cfg0.N, win0_0.index t = ![t.val / 4, t.val % 4] := (by decide +kernel : ∀ t : Fin grid0.N, _)
theorem index1 : ∀ t : Fin cfg0.N, win0_1.index t = ![t.val / 4, t.val % 4] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, 16 + t.val % 4] := (by decide +kernel : ∀ t : Fin grid0.N, _)
theorem index4 : ∀ t : Fin cfg0.N, win0_4.index t = ![t.val / 4, 20 + t.val % 4] := (by decide +kernel : ∀ t : Fin grid0.N, _)
theorem index5 : ∀ t : Fin cfg0.N, win0_5.index t = ![t.val / 4, t.val % 4] := (by decide +kernel : ∀ t : Fin grid0.N, _)
theorem index6 : ∀ t : Fin cfg0.N, win0_6.index t = ![t.val / 4, t.val % 4] := (by decide +kernel : ∀ t : Fin grid0.N, _)
theorem index7 : ∀ t : Fin cfg0.N, win0_7.index t = ![t.val / 4, t.val % 4] := (by decide +kernel : ∀ t : Fin grid0.N, _)
theorem index8 : ∀ t : Fin cfg0.N, win0_8.index t = ![t.val / 4, t.val % 4] := (by decide +kernel : ∀ t : Fin grid0.N, _)

/-- The gradient of a branch over the operands. -/
def branchOf (y : FVec Ideal S2048x1024 .f32) (z : FVec Ideal S2048x8704 .f32) (e : ℕ) (he : e ≤ 1024) :
    FVec Ideal S2048x1024 .bf16 :=
  Common.arr2 fun t j => y (ix2 t j) * Ideal.logistic (z (ix2 t ⟨4096 + (e + j.val), by omega⟩))

/-- The gradient of a gate's columns over the operands. -/
def gateOf (y x : FVec Ideal S2048x1024 .f32) (z : FVec Ideal S2048x8704 .f32) (e : ℕ) (he : e ≤ 1024) :
    FVec Ideal S2048x1024 .bf16 :=
  Common.arr2 fun t j => y (ix2 t j) * x (ix2 t j) * Ideal.logistic (z (ix2 t ⟨4096 + (e + j.val), by omega⟩))
    * (1 - Ideal.logistic (z (ix2 t ⟨4096 + (e + j.val), by omega⟩)))

theorem product_congr {a a' b b' z z' : EReal} (ea : a = a') (eb : b = b') (ez : z = z') :
    a * b * Ideal.logistic z * (1 - Ideal.logistic z) = a' * b' * Ideal.logistic z' * (1 - Ideal.logistic z') := by
  rw [ea, eb, ez]

theorem arr5_eq : (dats m 0 c).arrAt 5 cfg0.N = branchOf (V m c main_arg0) (V m c main_v5) 0 (by omega) := by
  refine (dats m 0 c).arrAt_eq_of_covers 5 _ (by decide +kernel) fun t hf y => ?_
  blk_simp
  rw [after0_5]
  frame_out
  pointwise [k0_pay1, k0_pay2, k0_pay3, k0_pay4, branchOf, Common.arr2]
  refine congrArg₂ (fun e f : EReal => e * Ideal.logistic f) ?_ ?_
  · blk_point [iblk, index0, index5]
  · blk_point [iblk, index3, index5]

theorem arr6_eq : (dats m 0 c).arrAt 6 cfg0.N = branchOf (V m c main_arg0) (V m c main_v5) 1024 (by omega) := by
  refine (dats m 0 c).arrAt_eq_of_covers 6 _ (by decide +kernel) fun t hf y => ?_
  blk_simp
  rw [after0_6]
  frame_out
  pointwise [k0_pay1, k0_pay2, k0_pay3, k0_pay4, branchOf, Common.arr2]
  refine congrArg₂ (fun e f : EReal => e * Ideal.logistic f) ?_ ?_
  · blk_point [iblk, index0, index6]
  · blk_point [iblk, index4, index6]

theorem arr7_eq : (dats m 0 c).arrAt 7 cfg0.N
    = gateOf (V m c main_arg0) (V m c main_arg1) (V m c main_v5) 0 (by omega) := by
  refine (dats m 0 c).arrAt_eq_of_covers 7 _ (by decide +kernel) fun t hf y => ?_
  blk_simp
  rw [after0_7]
  frame_out
  pointwise [k0_pay1, k0_pay2, k0_pay5, k0_pay6, gateOf, Common.arr2]
  refine product_congr ?_ ?_ ?_
  · blk_point [iblk, index0, index7]
  · blk_point [iblk, index1, index7]
  · blk_point [iblk, index3, index7]

theorem arr8_eq : (dats m 0 c).arrAt 8 cfg0.N
    = gateOf (V m c main_arg0) (V m c main_arg2) (V m c main_v5) 1024 (by omega) := by
  refine (dats m 0 c).arrAt_eq_of_covers 8 _ (by decide +kernel) fun t hf y => ?_
  blk_simp
  rw [after0_8]
  frame_out
  pointwise [k0_pay1, k0_pay2, k0_pay5, k0_pay6, gateOf, Common.arr2]
  refine product_congr ?_ ?_ ?_
  · blk_point [iblk, index0, index8]
  · blk_point [iblk, index2, index8]
  · blk_point [iblk, index4, index8]

theorem branch_eq (y : FVec Ideal S2048x1024 .f32) (z : FVec Ideal S2048x8464 .f32) (e : ℕ) (he : e ≤ 1024) :
    branchOf y (zOrder z) e he = branch y z e he := by
  refine congrArg Common.arr2 (funext fun t => funext fun j => ?_)
  rw [zOrder_gate z t (e + j.val) (by omega)]

theorem gate_eq (y x : FVec Ideal S2048x1024 .f32) (z : FVec Ideal S2048x8464 .f32) (e : ℕ) (he : e ≤ 1024) :
    gateOf y x (zOrder z) e he = gate y x z e he := by
  refine congrArg Common.arr2 (funext fun t => funext fun j => ?_)
  rw [zOrder_gate z t (e + j.val) (by omega)]

/-- From agreeing arguments the tiled kernel and the reference end in the same four gradients. -/
theorem algebraic : Cert.algebraic_MergeKernelIdeal_MergeReferenceIdeal := by
  intro m g m' g' _ hagree
  refine ⟨fun c => branch (m ((c : Thread nD τ).loc main_arg0)) (m ((c : Thread nD τ).loc main_arg3)) 0 (by omega),
    fun c => branch (m ((c : Thread nD τ).loc main_arg0)) (m ((c : Thread nD τ).loc main_arg3)) 1024 (by omega),
    fun c => gate (m ((c : Thread nD τ).loc main_arg0)) (m ((c : Thread nD τ).loc main_arg1)) (m ((c : Thread nD τ).loc main_arg3)) 0 (by omega),
    fun c => gate (m ((c : Thread nD τ).loc main_arg0)) (m ((c : Thread nD τ).loc main_arg2)) (m ((c : Thread nD τ).loc main_arg3)) 1024 (by omega), ?_, ?_⟩
  · refine (θ_run Cert.MergeKernelIdeal.defs _ _).mono (fun _ h c => ⟨(h c).1.trans ?_, (h c).2.1.trans ?_,
      (h c).2.2.1.trans ?_, (h c).2.2.2.1.trans ?_, (h c).2.2.2.2⟩) (Cert.MergeKernelIdeal.Value.run_blocks m g)
    · rw [arr5_eq, V_v5]; exact branch_eq _ _ _ _
    · rw [arr6_eq, V_v5]; exact branch_eq _ _ _ _
    · rw [arr7_eq, V_v5]; exact gate_eq _ _ _ _ _
    · rw [arr8_eq, V_v5]; exact gate_eq _ _ _ _ _
  · refine (θ_run Cert.MergeReferenceIdeal.defs _ _).mono (fun _ h c => ⟨(h c).1.trans ?_, (h c).2.1.trans ?_,
      (h c).2.2.1.trans ?_, (h c).2.2.2.1.trans ?_, (h c).2.2.2.2⟩) (reference_run m' g')
    all_goals rw [(hagree c).1, (hagree c).2.2.2]
    · rw [(hagree c).2.1]
    · rw [(hagree c).2.2.1]

end Cert.Merge

end
-- ==== Proof.Adam.lean ====
/-
  One step of the optimiser on one number: the two running means, and the change of the weight. The constants are the
  binary32 numbers that both programs hold.
-/
module

public import Idealize.ShloMosaic.Lib.Pipeline.ValueKit.Point

@[expose] public section

noncomputable section

namespace Cert.Adam

open Idealize.ShloMosaic
open scoped BigOperators

/-- The running mean of the gradient. -/
def mean (m g : EReal) : EReal := Ideal.ofBits .f32 1063675494#32 * m + Ideal.ofBits .f32 1036831949#32 * g

/-- The running mean of the gradient's square. -/
def square (v g : EReal) : EReal := Ideal.ofBits .f32 1065336439#32 * v + Ideal.ofBits .f32 981668463#32 * (g * g)

/-- The change of the weight. -/
def delta (w m v g : EReal) : EReal :=
  Ideal.ofBits .f32 3129152111#32
    * (Ideal.div (Ideal.div (mean m g) (Ideal.ofBits .f32 1059503362#32))
        (Ideal.sqrt (Ideal.div (square v g) (Ideal.ofBits .f32 1008933580#32)) + Ideal.ofBits .f32 841731191#32)
      + Ideal.ofBits .f32 1008981770#32 * w)

theorem mean_congr {m m' g g' : EReal} (em : m = m') (eg : g = g') :
    Ideal.ofBits .f32 1063675494#32 * m + Ideal.ofBits .f32 1036831949#32 * g = mean m' g' := by
  rw [em, eg, mean]

theorem square_congr {v v' g g' : EReal} (ev : v = v') (eg : g = g') :
    Ideal.ofBits .f32 1065336439#32 * v + Ideal.ofBits .f32 981668463#32 * (g * g) = square v' g' := by
  rw [ev, eg, square]

theorem delta_congr {w w' m m' v v' g g' : EReal} (ew : w = w') (em : m = m') (ev : v = v') (eg : g = g') :
    Ideal.ofBits .f32 3129152111#32
        * (Ideal.div (Ideal.div (Ideal.ofBits .f32 1063675494#32 * m + Ideal.ofBits .f32 1036831949#32 * g)
              (Ideal.ofBits .f32 1059503362#32))
            (Ideal.sqrt (Ideal.div (Ideal.ofBits .f32 1065336439#32 * v + Ideal.ofBits .f32 981668463#32 * (g * g))
              (Ideal.ofBits .f32 1008933580#32)) + Ideal.ofBits .f32 841731191#32)
          + Ideal.ofBits .f32 1008981770#32 * w)
      = delta w' m' v' g' := by
  rw [ew, em, ev, eg, delta, mean, square]

/-- The one slot. -/
theorem sum_one (f : Fin 1 → EReal) {a : EReal} (h : a = f 0) : a = ∑ s, f s := by
  rw [Fin.sum_univ_one, h]

/-- The eight slots added one after another. -/
theorem sum_eight (b f : Fin 8 → EReal) (h : ∀ s, b s = f s) :
    b 0 + b 1 + b 2 + b 3 + b 4 + b 5 + b 6 + b 7 = ∑ s, f s := by
  rw [Fin.sum_univ_eight, h, h, h, h, h, h, h, h]

end Cert.Adam

end
-- ==== Proof.AdaW.lean ====
/-
  The optimiser's step on the matrix of the modulation: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaWKernelIdeal.Value
public import proofs.«01_k».proof.Proof.Gen.AdaWReferenceIdeal.Run
public import Idealize.ShloMosaic.Lib.Claim
public import Idealize.ShloMosaic.Lib.Quiescent
public import Idealize.ShloMosaic.Lib.Pipeline.ValueKit.Point

@[expose] public section

noncomputable section

namespace Cert.AdaW

open Idealize.ShloMosaic Idealize.ShloMosaic.TcCoe Idealize.SL.Sem
open scoped BigOperators

section Reference

open Cert.AdaWReferenceIdeal Cert.AdaWReferenceIdeal.Gen

/-- The gradient, summed over its slots. -/
def grads (g : FVec Ideal S1x4x1024x1152 .f32) : FVec Ideal S4x1024x1152 .f32 :=
  Common.arr3 fun l t j => ∑ s, g (ix4 s l t j)

/-- The change of the weights. -/
def deltas (w m v : FVec Ideal S4x1024x1152 .f32) (g : FVec Ideal S1x4x1024x1152 .f32) : FVec Ideal S4x1024x1152 .f32 :=
  Common.arr3 fun l t j => Adam.delta (w (ix3 l t j)) (m (ix3 l t j)) (v (ix3 l t j)) (∑ s, g (ix4 s l t j))

/-- The running mean of the gradient. -/
def means (m : FVec Ideal S4x1024x1152 .f32) (g : FVec Ideal S1x4x1024x1152 .f32) : FVec Ideal S4x1024x1152 .f32 :=
  Common.arr3 fun l t j => Adam.mean (m (ix3 l t j)) (∑ s, g (ix4 s l t j))

/-- The running mean of the gradient's square. -/
def squares (v : FVec Ideal S4x1024x1152 .f32) (g : FVec Ideal S1x4x1024x1152 .f32) : FVec Ideal S4x1024x1152 .f32 :=
  Common.arr3 fun l t j => Adam.square (v (ix3 l t j)) (∑ s, g (ix4 s l t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = grads (m ((c : Thread nD τ).loc main_arg3))
      ∧ r.2.mem ((c : Thread nD τ).loc main_v24) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v5) = means (m ((c : Thread nD τ).loc main_arg1)) (m ((c : Thread nD τ).loc main_arg3))
      ∧ r.2.mem ((c : Thread nD τ).loc main_v11) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x1024x1152 .f32 at w m1 v
    change FVec Ideal S1x4x1024x1152 .f32 at g
    pointwise
  all_goals rfl

/-- The reference leaves its arguments and its counters as it found them. -/
theorem reference_frame : Cert.quiescent_AdaWReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaWKernelIdeal Cert.AdaWKernelIdeal.Gen

variable (m : (ℓ : Loc nD τ sig) → Buf (Elt Ideal) ℓ) (c : Dev nD)

theorem index0 : ∀ t : Fin cfg0.N, win0_0.index t = ![t.val / 4, t.val % 4, 0] := (by decide +kernel : ∀ t : Fin grid0.N, _)
theorem index1 : ∀ t : Fin cfg0.N, win0_1.index t = ![t.val / 4, t.val % 4, 0] := (by decide +kernel : ∀ t : Fin grid0.N, _)
theorem index2 : ∀ t : Fin cfg0.N, win0_2.index t = ![t.val / 4, t.val % 4, 0] := (by decide +kernel : ∀ t : Fin grid0.N, _)
theorem index3 : ∀ t : Fin cfg0.N, win0_3.index t = ![0, t.val / 4, t.val % 4, 0] := (by decide +kernel : ∀ t : Fin grid0.N, _)
theorem index4 : ∀ t : Fin cfg0.N, win0_4.index t = ![t.val / 4, t.val % 4, 0] := (by decide +kernel : ∀ t : Fin grid0.N, _)
theorem index5 : ∀ t : Fin cfg0.N, win0_5.index t = ![t.val / 4, t.val % 4, 0] := (by decide +kernel : ∀ t : Fin grid0.N, _)
theorem index6 : ∀ t : Fin cfg0.N, win0_6.index t = ![t.val / 4, t.val % 4, 0] := (by decide +kernel : ∀ t : Fin grid0.N, _)
theorem index7 : ∀ t : Fin cfg0.N, win0_7.index t = ![t.val / 4, t.val % 4, 0] := (by decide +kernel : ∀ t : Fin grid0.N, _)

theorem arr4_eq : (dats m 0 c).arrAt 4 cfg0.N = grads (V m c main_arg3) := by
  refine (dats m 0 c).arrAt_eq_of_covers 4 _ (by decide +kernel) fun t hf y => ?_
  blk_simp
  rw [after0_4]
  frame_out
  pointwise [k0_pay1, k0_pay2, k0_pay3, k0_pay4, grads, Common.arr3]
  refine Adam.sum_one _ ?_
  all_goals blk_point [iblk, index3, index4]

theorem arr5_eq : (dats m 0 c).arrAt 5 cfg0.N = deltas (V m c main_arg0) (V m c main_arg1) (V m c main_arg2) (V m c main_arg3) := by
  refine (dats m 0 c).arrAt_eq_of_covers 5 _ (by decide +kernel) fun t hf y => ?_
  blk_simp
  rw [after0_5]
  frame_out
  pointwise [k0_pay1, k0_pay2, k0_pay3, k0_pay4, deltas, Common.arr3]
  refine Adam.delta_congr ?_ ?_ ?_ (Adam.sum_one _ ?_)
  all_goals blk_point [iblk, index0, index1, index2, index3, index5]

theorem arr6_eq : (dats m 0 c).arrAt 6 cfg0.N = means (V m c main_arg1) (V m c main_arg3) := by
  refine (dats m 0 c).arrAt_eq_of_covers 6 _ (by decide +kernel) fun t hf y => ?_
  blk_simp
  rw [after0_6]
  frame_out
  pointwise [k0_pay1, k0_pay2, k0_pay3, k0_pay4, means, Common.arr3]
  refine Adam.mean_congr ?_ (Adam.sum_one _ ?_)
  all_goals blk_point [iblk, index1, index3, index6]

theorem arr7_eq : (dats m 0 c).arrAt 7 cfg0.N = squares (V m c main_arg2) (V m c main_arg3) := by
  refine (dats m 0 c).arrAt_eq_of_covers 7 _ (by decide +kernel) fun t hf y => ?_
  blk_simp
  rw [after0_7]
  frame_out
  pointwise [k0_pay1, k0_pay2, k0_pay3, k0_pay4, squares, Common.arr3]
  refine Adam.square_congr ?_ (Adam.sum_one _ ?_)
  all_goals blk_point [iblk, index2, index3, index7]

theorem out4_eq : (dats m 0 c).arrAt 4 cfg0.N = grads (m ((c : Thread nD τ).loc main_arg3)) :=
  arr4_eq m c

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) :=
  arr5_eq m c

theorem out6_eq : (dats m 0 c).arrAt 6 cfg0.N = means (m ((c : Thread nD τ).loc main_arg1)) (m ((c : Thread nD τ).loc main_arg3)) :=
  arr6_eq m c

theorem out7_eq : (dats m 0 c).arrAt 7 cfg0.N = squares (m ((c : Thread nD τ).loc main_arg2)) (m ((c : Thread nD τ).loc main_arg3)) :=
  arr7_eq m c

/-- The idealised kernel's results are the reference's. -/
theorem algebraic : Cert.algebraic_AdaWKernelIdeal_AdaWReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaWKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaWKernelIdeal.Value.run_blocks m g)
  · refine (θ_run Cert.AdaWReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaW

end
-- ==== Proof.AdaB.lean ====
/-
  The optimiser's step on the bias of the modulation: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaBKernelIdeal.Value
public import proofs.«01_k».proof.Proof.Gen.AdaBReferenceIdeal.Run
public import Idealize.ShloMosaic.Lib.Claim
public import Idealize.ShloMosaic.Lib.Quiescent
public import Idealize.ShloMosaic.Lib.Pipeline.ValueKit.Point

@[expose] public section

noncomputable section

namespace Cert.AdaB

open Idealize.ShloMosaic Idealize.ShloMosaic.TcCoe Idealize.SL.Sem
open scoped BigOperators

section Reference

open Cert.AdaBReferenceIdeal Cert.AdaBReferenceIdeal.Gen

/-- The gradient, summed over its slots. -/
def grads (g : FVec Ideal S8x4x9216 .f32) : FVec Ideal S1x4x9216 .f32 :=
  Common.arr3 fun _ t j => ∑ s, g (ix3 s t j)

/-- The change of the weights. -/
def deltas (w m v : FVec Ideal S4x9216 .f32) (g : FVec Ideal S8x4x9216 .f32) : FVec Ideal S1x4x9216 .f32 :=
  Common.arr3 fun _ t j => Adam.delta (w (ix2 t j)) (m (ix2 t j)) (v (ix2 t j)) (∑ s, g (ix3 s t j))

/-- The running mean of the gradient. -/
def means (m : FVec Ideal S4x9216 .f32) (g : FVec Ideal S8x4x9216 .f32) : FVec Ideal S1x4x9216 .f32 :=
  Common.arr3 fun _ t j => Adam.mean (m (ix2 t j)) (∑ s, g (ix3 s t j))

/-- The running mean of the gradient's square. -/
def squares (v : FVec Ideal S4x9216 .f32) (g : FVec Ideal S8x4x9216 .f32) : FVec Ideal S1x4x9216 .f32 :=
  Common.arr3 fun _ t j => Adam.square (v (ix2 t j)) (∑ s, g (ix3 s t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = grads (m ((c : Thread nD τ).loc main_arg3))
      ∧ r.2.mem ((c : Thread nD τ).loc main_v26) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v27) = means (m ((c : Thread nD τ).loc main_arg1)) (m ((c : Thread nD τ).loc main_arg3))
      ∧ r.2.mem ((c : Thread nD τ).loc main_v28) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x9216 .f32 at w m1 v
    change FVec Ideal S8x4x9216 .f32 at g
    pointwise
  all_goals rfl

/-- The reference leaves its arguments and its counters as it found them. -/
theorem reference_frame : Cert.quiescent_AdaBReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaBKernelIdeal Cert.AdaBKernelIdeal.Gen

variable (m : (ℓ : Loc nD τ sig) → Buf (Elt Ideal) ℓ) (c : Dev nD)

theorem V_v0 : V m c main_v0 = broadcastInDim S1x4x9216 ![1, 2] bcast_S4x9216_S1x4x9216_1_2 (m ((c : Thread nD τ).loc main_arg0)) := by
  show StableHlo.after (List.flatten [hostOps0]) _ _ = _
  simp only [hostOps0, List.flatten_cons, List.flatten_nil, List.append_nil,
    List.cons_append, List.nil_append]
  after_results_simp

theorem V_v1 : V m c main_v1 = broadcastInDim S1x4x9216 ![1, 2] bcast_S4x9216_S1x4x9216_1_2 (m ((c : Thread nD τ).loc main_arg1)) := by
  show StableHlo.after (List.flatten [hostOps0]) _ _ = _
  simp only [hostOps0, List.flatten_cons, List.flatten_nil, List.append_nil,
    List.cons_append, List.nil_append]
  after_results_simp

theorem V_v2 : V m c main_v2 = broadcastInDim S1x4x9216 ![1, 2] bcast_S4x9216_S1x4x9216_1_2 (m ((c : Thread nD τ).loc main_arg2)) := by
  show StableHlo.after (List.flatten [hostOps0]) _ _ = _
  simp only [hostOps0, List.flatten_cons, List.flatten_nil, List.append_nil,
    List.cons_append, List.nil_append]
  after_results_simp

theorem V_v3 : V m c main_v3 = broadcastInDim S8x1x4x9216 ![0, 2, 3] bcast_S8x4x9216_S8x1x4x9216_0_2_3 (m ((c : Thread nD τ).loc main_arg3)) := by
  show StableHlo.after (List.flatten [hostOps0]) _ _ = _
  simp only [hostOps0, List.flatten_cons, List.flatten_nil, List.append_nil,
    List.cons_append, List.nil_append]
  after_results_simp

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- The summed gradient over the operands. -/
def gradsOf (g : FVec Ideal S8x1x4x9216 .f32) : FVec Ideal S1x4x9216 .f32 :=
  Common.arr3 fun l t j => ∑ s, g (ix4 s l t j)

/-- The change of the weights over the operands. -/
def deltasOf (w m v : FVec Ideal S1x4x9216 .f32) (g : FVec Ideal S8x1x4x9216 .f32) : FVec Ideal S1x4x9216 .f32 :=
  Common.arr3 fun l t j => Adam.delta (w (ix3 l t j)) (m (ix3 l t j)) (v (ix3 l t j)) (∑ s, g (ix4 s l t j))

/-- The mean of the gradient over the operands. -/
def meansOf (m : FVec Ideal S1x4x9216 .f32) (g : FVec Ideal S8x1x4x9216 .f32) : FVec Ideal S1x4x9216 .f32 :=
  Common.arr3 fun l t j => Adam.mean (m (ix3 l t j)) (∑ s, g (ix4 s l t j))

/-- The mean of the square over the operands. -/
def squaresOf (v : FVec Ideal S1x4x9216 .f32) (g : FVec Ideal S8x1x4x9216 .f32) : FVec Ideal S1x4x9216 .f32 :=
  Common.arr3 fun l t j => Adam.square (v (ix3 l t j)) (∑ s, g (ix4 s l t j))

theorem arr4_eq : (dats m 0 c).arrAt 4 cfg0.N = gradsOf (V m c main_v3) := by
  refine (dats m 0 c).arrAt_eq_of_covers 4 _ (by decide +kernel) fun t hf y => ?_
  blk_simp
  rw [after0_4]
  frame_out
  pointwise [k0_pay1, k0_pay2, k0_pay3, k0_pay4, k0_pay5, gradsOf, Common.arr3]
  refine Adam.sum_eight (fun s => iblk m c 3 t (ix4 s 0 (y 1) (y 2))) _ fun s => ?_
  all_goals blk_point [iblk, index3, index4]

theorem arr5_eq : (dats m 0 c).arrAt 5 cfg0.N = deltasOf (V m c main_v0) (V m c main_v1) (V m c main_v2) (V m c main_v3) := by
  refine (dats m 0 c).arrAt_eq_of_covers 5 _ (by decide +kernel) fun t hf y => ?_
  blk_simp
  rw [after0_5]
  frame_out
  pointwise [k0_pay1, k0_pay2, k0_pay3, k0_pay4, k0_pay5, deltasOf, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = meansOf (V m c main_v1) (V m c main_v3) := by
  refine (dats m 0 c).arrAt_eq_of_covers 6 _ (by decide +kernel) fun t hf y => ?_
  blk_simp
  rw [after0_6]
  frame_out
  pointwise [k0_pay1, k0_pay2, k0_pay3, k0_pay4, k0_pay5, meansOf, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squaresOf (V m c main_v2) (V m c main_v3) := by
  refine (dats m 0 c).arrAt_eq_of_covers 7 _ (by decide +kernel) fun t hf y => ?_
  blk_simp
  rw [after0_7]
  frame_out
  pointwise [k0_pay1, k0_pay2, k0_pay3, k0_pay4, k0_pay5, squaresOf, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) := by
  rw [arr4_eq, V_v3]
  refine Common.eq_arr3 fun l t j => ?_
  pointwise [gradsOf, Common.arr3]

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) := by
  rw [arr5_eq, V_v0, V_v1, V_v2, V_v3]
  refine Common.eq_arr3 fun l t j => ?_
  pointwise [deltasOf, Common.arr3]

theorem out6_eq : (dats m 0 c).arrAt 6 cfg0.N = means (m ((c : Thread nD τ).loc main_arg1)) (m ((c : Thread nD τ).loc main_arg3)) := by
  rw [arr6_eq, V_v1, V_v3]
  refine Common.eq_arr3 fun l t j => ?_
  pointwise [meansOf, Common.arr3]

theorem out7_eq : (dats m 0 c).arrAt 7 cfg0.N = squares (m ((c : Thread nD τ).loc main_arg2)) (m ((c : Thread nD τ).loc main_arg3)) := by
  rw [arr7_eq, V_v2, V_v3]
  refine Common.eq_arr3 fun l t j => ?_
  pointwise [squaresOf, Common.arr3]

/-- The idealised kernel's results are the reference's. -/
theorem algebraic : Cert.algebraic_AdaBKernelIdeal_AdaBReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaBKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaBKernelIdeal.Value.run_blocks m g)
  · refine (θ_run Cert.AdaBReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaB

end
-- ==== Proof.AdaNorm.lean ====
/-
  The optimiser's step on the gains of a norm: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaNormKernelIdeal.Value
public import proofs.«01_k».proof.Proof.Gen.AdaNormReferenceIdeal.Run
public import Idealize.ShloMosaic.Lib.Claim
public import Idealize.ShloMosaic.Lib.Quiescent
public import Idealize.ShloMosaic.Lib.Pipeline.ValueKit.Point

@[expose] public section

noncomputable section

namespace Cert.AdaNorm

open Idealize.ShloMosaic Idealize.ShloMosaic.TcCoe Idealize.SL.Sem
open scoped BigOperators

section Reference

open Cert.AdaNormReferenceIdeal Cert.AdaNormReferenceIdeal.Gen

/-- The gradient, summed over its slots. -/
def grads (g : FVec Ideal S8x4x1024 .f32) : FVec Ideal S1x4x1024 .f32 :=
  Common.arr3 fun _ t j => ∑ s, g (ix3 s t j)

/-- The change of the weights. -/
def deltas (w m v : FVec Ideal S4x1024 .f32) (g : FVec Ideal S8x4x1024 .f32) : FVec Ideal S1x4x1024 .f32 :=
  Common.arr3 fun _ t j => Adam.delta (w (ix2 t j)) (m (ix2 t j)) (v (ix2 t j)) (∑ s, g (ix3 s t j))

/-- The running mean of the gradient. -/
def means (m : FVec Ideal S4x1024 .f32) (g : FVec Ideal S8x4x1024 .f32) : FVec Ideal S1x4x1024 .f32 :=
  Common.arr3 fun _ t j => Adam.mean (m (ix2 t j)) (∑ s, g (ix3 s t j))

/-- The running mean of the gradient's square. -/
def squares (v : FVec Ideal S4x1024 .f32) (g : FVec Ideal S8x4x1024 .f32) : FVec Ideal S1x4x1024 .f32 :=
  Common.arr3 fun _ t j => Adam.square (v (ix2 t j)) (∑ s, g (ix3 s t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = grads (m ((c : Thread nD τ).loc main_arg3))
      ∧ r.2.mem ((c : Thread nD τ).loc main_v26) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v27) = means (m ((c : Thread nD τ).loc main_arg1)) (m ((c : Thread nD τ).loc main_arg3))
      ∧ r.2.mem ((c : Thread nD τ).loc main_v28) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x1024 .f32 at w m1 v
    change FVec Ideal S8x4x1024 .f32 at g
    pointwise
  all_goals rfl

/-- The reference leaves its arguments and its counters as it found them. -/
theorem reference_frame : Cert.quiescent_AdaNormReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaNormKernelIdeal Cert.AdaNormKernelIdeal.Gen

variable (m : (ℓ : Loc nD τ sig) → Buf (Elt Ideal) ℓ) (c : Dev nD)

theorem V_v0 : V m c main_v0 = broadcastInDim S1x4x1024 ![1, 2] bcast_S4x1024_S1x4x1024_1_2 (m ((c : Thread nD τ).loc main_arg0)) := by
  show StableHlo.after (List.flatten [hostOps0]) _ _ = _
  simp only [hostOps0, List.flatten_cons, List.flatten_nil, List.append_nil,
    List.cons_append, List.nil_append]
  after_results_simp

theorem V_v1 : V m c main_v1 = broadcastInDim S1x4x1024 ![1, 2] bcast_S4x1024_S1x4x1024_1_2 (m ((c : Thread nD τ).loc main_arg1)) := by
  show StableHlo.after (List.flatten [hostOps0]) _ _ = _
  simp only [hostOps0, List.flatten_cons, List.flatten_nil, List.append_nil,
    List.cons_append, List.nil_append]
  after_results_simp

theorem V_v2 : V m c main_v2 = broadcastInDim S1x4x1024 ![1, 2] bcast_S4x1024_S1x4x1024_1_2 (m ((c : Thread nD τ).loc main_arg2)) := by
  show StableHlo.after (List.flatten [hostOps0]) _ _ = _
  simp only [hostOps0, List.flatten_cons, List.flatten_nil, List.append_nil,
    List.cons_append, List.nil_append]
  after_results_simp

theorem V_v3 : V m c main_v3 = broadcastInDim S8x1x4x1024 ![0, 2, 3] bcast_S8x4x1024_S8x1x4x1024_0_2_3 (m ((c : Thread nD τ).loc main_arg3)) := by
  show StableHlo.after (List.flatten [hostOps0]) _ _ = _
  simp only [hostOps0, List.flatten_cons, List.flatten_nil, List.append_nil,
    List.cons_append, List.nil_append]
  after_results_simp

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- The summed gradient over the operands. -/
def gradsOf (g : FVec Ideal S8x1x4x1024 .f32) : FVec Ideal S1x4x1024 .f32 :=
  Common.arr3 fun l t j => ∑ s, g (ix4 s l t j)

/-- The change of the weights over the operands. -/
def deltasOf (w m v : FVec Ideal S1x4x1024 .f32) (g : FVec Ideal S8x1x4x1024 .f32) : FVec Ideal S1x4x1024 .f32 :=
  Common.arr3 fun l t j => Adam.delta (w (ix3 l t j)) (m (ix3 l t j)) (v (ix3 l t j)) (∑ s, g (ix4 s l t j))

/-- The mean of the gradient over the operands. -/
def meansOf (m : FVec Ideal S1x4x1024 .f32) (g : FVec Ideal S8x1x4x1024 .f32) : FVec Ideal S1x4x1024 .f32 :=
  Common.arr3 fun l t j => Adam.mean (m (ix3 l t j)) (∑ s, g (ix4 s l t j))

/-- The mean of the square over the operands. -/
def squaresOf (v : FVec Ideal S1x4x1024 .f32) (g : FVec Ideal S8x1x4x1024 .f32) : FVec Ideal S1x4x1024 .f32 :=
  Common.arr3 fun l t j => Adam.square (v (ix3 l t j)) (∑ s, g (ix4 s l t j))

theorem arr4_eq : (dats m 0 c).arrAt 4 cfg0.N = gradsOf (V m c main_v3) := by
  refine (dats m 0 c).arrAt_eq_of_covers 4 _ (by decide +kernel) fun t hf y => ?_
  blk_simp
  rw [after0_4]
  frame_out
  pointwise [k0_pay1, k0_pay2, k0_pay3, k0_pay4, k0_pay5, gradsOf, Common.arr3]
  refine Adam.sum_eight (fun s => iblk m c 3 t (ix4 s 0 (y 1) (y 2))) _ fun s => ?_
  all_goals blk_point [iblk, index3, index4]

theorem arr5_eq : (dats m 0 c).arrAt 5 cfg0.N = deltasOf (V m c main_v0) (V m c main_v1) (V m c main_v2) (V m c main_v3) := by
  refine (dats m 0 c).arrAt_eq_of_covers 5 _ (by decide +kernel) fun t hf y => ?_
  blk_simp
  rw [after0_5]
  frame_out
  pointwise [k0_pay1, k0_pay2, k0_pay3, k0_pay4, k0_pay5, deltasOf, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = meansOf (V m c main_v1) (V m c main_v3) := by
  refine (dats m 0 c).arrAt_eq_of_covers 6 _ (by decide +kernel) fun t hf y => ?_
  blk_simp
  rw [after0_6]
  frame_out
  pointwise [k0_pay1, k0_pay2, k0_pay3, k0_pay4, k0_pay5, meansOf, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squaresOf (V m c main_v2) (V m c main_v3) := by
  refine (dats m 0 c).arrAt_eq_of_covers 7 _ (by decide +kernel) fun t hf y => ?_
  blk_simp
  rw [after0_7]
  frame_out
  pointwise [k0_pay1, k0_pay2, k0_pay3, k0_pay4, k0_pay5, squaresOf, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) := by
  rw [arr4_eq, V_v3]
  refine Common.eq_arr3 fun l t j => ?_
  pointwise [gradsOf, Common.arr3]

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) := by
  rw [arr5_eq, V_v0, V_v1, V_v2, V_v3]
  refine Common.eq_arr3 fun l t j => ?_
  pointwise [deltasOf, Common.arr3]

theorem out6_eq : (dats m 0 c).arrAt 6 cfg0.N = means (m ((c : Thread nD τ).loc main_arg1)) (m ((c : Thread nD τ).loc main_arg3)) := by
  rw [arr6_eq, V_v1, V_v3]
  refine Common.eq_arr3 fun l t j => ?_
  pointwise [meansOf, Common.arr3]

theorem out7_eq : (dats m 0 c).arrAt 7 cfg0.N = squares (m ((c : Thread nD τ).loc main_arg2)) (m ((c : Thread nD τ).loc main_arg3)) := by
  rw [arr7_eq, V_v2, V_v3]
  refine Common.eq_arr3 fun l t j => ?_
  pointwise [squaresOf, Common.arr3]

/-- The idealised kernel's results are the reference's. -/
theorem algebraic : Cert.algebraic_AdaNormKernelIdeal_AdaNormReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaNormKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaNormKernelIdeal.Value.run_blocks m g)
  · refine (θ_run Cert.AdaNormReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaNorm

end
-- ==== Proof.AdaConv.lean ====
/-
  The optimiser's step on the convolution: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaConvKernelIdeal.Value
public import proofs.«01_k».proof.Proof.Gen.AdaConvReferenceIdeal.Run
public import Idealize.ShloMosaic.Lib.Claim
public import Idealize.ShloMosaic.Lib.Quiescent
public import Idealize.ShloMosaic.Lib.Pipeline.ValueKit.Point

@[expose] public section

noncomputable section

namespace Cert.AdaConv

open Idealize.ShloMosaic Idealize.ShloMosaic.TcCoe Idealize.SL.Sem
open scoped BigOperators

section Reference

open Cert.AdaConvReferenceIdeal Cert.AdaConvReferenceIdeal.Gen

/-- The gradient, summed over its slots. -/
def grads (g : FVec Ideal S8x4x4x384 .f32) : FVec Ideal S4x4x384 .f32 :=
  Common.arr3 fun l t j => ∑ s, g (ix4 s l t j)

/-- The change of the weights. -/
def deltas (w m v : FVec Ideal S4x4x384 .f32) (g : FVec Ideal S8x4x4x384 .f32) : FVec Ideal S4x4x384 .f32 :=
  Common.arr3 fun l t j => Adam.delta (w (ix3 l t j)) (m (ix3 l t j)) (v (ix3 l t j)) (∑ s, g (ix4 s l t j))

/-- The running mean of the gradient. -/
def means (m : FVec Ideal S4x4x384 .f32) (g : FVec Ideal S8x4x4x384 .f32) : FVec Ideal S4x4x384 .f32 :=
  Common.arr3 fun l t j => Adam.mean (m (ix3 l t j)) (∑ s, g (ix4 s l t j))

/-- The running mean of the gradient's square. -/
def squares (v : FVec Ideal S4x4x384 .f32) (g : FVec Ideal S8x4x4x384 .f32) : FVec Ideal S4x4x384 .f32 :=
  Common.arr3 fun l t j => Adam.square (v (ix3 l t j)) (∑ s, g (ix4 s l t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = grads (m ((c : Thread nD τ).loc main_arg3))
      ∧ r.2.mem ((c : Thread nD τ).loc main_v24) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v5) = means (m ((c : Thread nD τ).loc main_arg1)) (m ((c : Thread nD τ).loc main_arg3))
      ∧ r.2.mem ((c : Thread nD τ).loc main_v11) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x4x384 .f32 at w m1 v
    change FVec Ideal S8x4x4x384 .f32 at g
    pointwise
  all_goals rfl

/-- The reference leaves its arguments and its counters as it found them. -/
theorem reference_frame : Cert.quiescent_AdaConvReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaConvKernelIdeal Cert.AdaConvKernelIdeal.Gen

variable (m : (ℓ : Loc nD τ sig) → Buf (Elt Ideal) ℓ) (c : Dev nD)

theorem index0 : ∀ t : Fin cfg0.N, win0_0.index t = ![t.val / 1, t.val % 1, 0] := (by decide +kernel : ∀ t : Fin grid0.N, _)
theorem index1 : ∀ t : Fin cfg0.N, win0_1.index t = ![t.val / 1, t.val % 1, 0] := (by decide +kernel : ∀ t : Fin grid0.N, _)
theorem index2 : ∀ t : Fin cfg0.N, win0_2.index t = ![t.val / 1, t.val % 1, 0] := (by decide +kernel : ∀ t : Fin grid0.N, _)
theorem index3 : ∀ t : Fin cfg0.N, win0_3.index t = ![0, t.val / 1, t.val % 1, 0] := (by decide +kernel : ∀ t : Fin grid0.N, _)
theorem index4 : ∀ t : Fin cfg0.N, win0_4.index t = ![t.val / 1, t.val % 1, 0] := (by decide +kernel : ∀ t : Fin grid0.N, _)
theorem index5 : ∀ t : Fin cfg0.N, win0_5.index t = ![t.val / 1, t.val % 1, 0] := (by decide +kernel : ∀ t : Fin grid0.N, _)
theorem index6 : ∀ t : Fin cfg0.N, win0_6.index t = ![t.val / 1, t.val % 1, 0] := (by decide +kernel : ∀ t : Fin grid0.N, _)
theorem index7 : ∀ t : Fin cfg0.N, win0_7.index t = ![t.val / 1, t.val % 1, 0] := (by decide +kernel : ∀ t : Fin grid0.N, _)

theorem arr4_eq : (dats m 0 c).arrAt 4 cfg0.N = grads (V m c main_arg3) := by
  refine (dats m 0 c).arrAt_eq_of_covers 4 _ (by decide +kernel) fun t hf y => ?_
  blk_simp
  rw [after0_4]
  frame_out
  pointwise [k0_pay1, k0_pay2, k0_pay3, k0_pay4, k0_pay5, grads, Common.arr3]
  refine Adam.sum_eight (fun s => iblk m c 3 t (ix4 s 0 (y 1) (y 2))) _ fun s => ?_
  all_goals blk_point [iblk, index3, index4]

theorem arr5_eq : (dats m 0 c).arrAt 5 cfg0.N = deltas (V m c main_arg0) (V m c main_arg1) (V m c main_arg2) (V m c main_arg3) := by
  refine (dats m 0 c).arrAt_eq_of_covers 5 _ (by decide +kernel) fun t hf y => ?_
  blk_simp
  rw [after0_5]
  frame_out
  pointwise [k0_pay1, k0_pay2, k0_pay3, k0_pay4, k0_pay5, deltas, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = means (V m c main_arg1) (V m c main_arg3) := by
  refine (dats m 0 c).arrAt_eq_of_covers 6 _ (by decide +kernel) fun t hf y => ?_
  blk_simp
  rw [after0_6]
  frame_out
  pointwise [k0_pay1, k0_pay2, k0_pay3, k0_pay4, k0_pay5, means, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squares (V m c main_arg2) (V m c main_arg3) := by
  refine (dats m 0 c).arrAt_eq_of_covers 7 _ (by decide +kernel) fun t hf y => ?_
  blk_simp
  rw [after0_7]
  frame_out
  pointwise [k0_pay1, k0_pay2, k0_pay3, k0_pay4, k0_pay5, squares, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) :=
  arr4_eq m c

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) :=
  arr5_eq m c

theorem out6_eq : (dats m 0 c).arrAt 6 cfg0.N = means (m ((c : Thread nD τ).loc main_arg1)) (m ((c : Thread nD τ).loc main_arg3)) :=
  arr6_eq m c

theorem out7_eq : (dats m 0 c).arrAt 7 cfg0.N = squares (m ((c : Thread nD τ).loc main_arg2)) (m ((c : Thread nD τ).loc main_arg3)) :=
  arr7_eq m c

/-- The idealised kernel's results are the reference's. -/
theorem algebraic : Cert.algebraic_AdaConvKernelIdeal_AdaConvReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaConvKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaConvKernelIdeal.Value.run_blocks m g)
  · refine (θ_run Cert.AdaConvReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaConv

end
-- ==== Proof.AdaQk.lean ====
/-
  The optimiser's step on the gains of the queries or of the keys: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaQkKernelIdeal.Value
public import proofs.«01_k».proof.Proof.Gen.AdaQkReferenceIdeal.Run
public import Idealize.ShloMosaic.Lib.Claim
public import Idealize.ShloMosaic.Lib.Quiescent
public import Idealize.ShloMosaic.Lib.Pipeline.ValueKit.Point

@[expose] public section

noncomputable section

namespace Cert.AdaQk

open Idealize.ShloMosaic Idealize.ShloMosaic.TcCoe Idealize.SL.Sem
open scoped BigOperators

section Reference

open Cert.AdaQkReferenceIdeal Cert.AdaQkReferenceIdeal.Gen

/-- The gradient, summed over its slots. -/
def grads (g : FVec Ideal S8x4x64 .f32) : FVec Ideal S1x4x64 .f32 :=
  Common.arr3 fun _ t j => ∑ s, g (ix3 s t j)

/-- The change of the weights. -/
def deltas (w m v : FVec Ideal S4x64 .f32) (g : FVec Ideal S8x4x64 .f32) : FVec Ideal S1x4x64 .f32 :=
  Common.arr3 fun _ t j => Adam.delta (w (ix2 t j)) (m (ix2 t j)) (v (ix2 t j)) (∑ s, g (ix3 s t j))

/-- The running mean of the gradient. -/
def means (m : FVec Ideal S4x64 .f32) (g : FVec Ideal S8x4x64 .f32) : FVec Ideal S1x4x64 .f32 :=
  Common.arr3 fun _ t j => Adam.mean (m (ix2 t j)) (∑ s, g (ix3 s t j))

/-- The running mean of the gradient's square. -/
def squares (v : FVec Ideal S4x64 .f32) (g : FVec Ideal S8x4x64 .f32) : FVec Ideal S1x4x64 .f32 :=
  Common.arr3 fun _ t j => Adam.square (v (ix2 t j)) (∑ s, g (ix3 s t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = grads (m ((c : Thread nD τ).loc main_arg3))
      ∧ r.2.mem ((c : Thread nD τ).loc main_v26) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v27) = means (m ((c : Thread nD τ).loc main_arg1)) (m ((c : Thread nD τ).loc main_arg3))
      ∧ r.2.mem ((c : Thread nD τ).loc main_v28) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x64 .f32 at w m1 v
    change FVec Ideal S8x4x64 .f32 at g
    pointwise
  all_goals rfl

/-- The reference leaves its arguments and its counters as it found them. -/
theorem reference_frame : Cert.quiescent_AdaQkReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaQkKernelIdeal Cert.AdaQkKernelIdeal.Gen

variable (m : (ℓ : Loc nD τ sig) → Buf (Elt Ideal) ℓ) (c : Dev nD)

theorem V_v0 : V m c main_v0 = broadcastInDim S1x4x64 ![1, 2] bcast_S4x64_S1x4x64_1_2 (m ((c : Thread nD τ).loc main_arg0)) := by
  show StableHlo.after (List.flatten [hostOps0]) _ _ = _
  simp only [hostOps0, List.flatten_cons, List.flatten_nil, List.append_nil,
    List.cons_append, List.nil_append]
  after_results_simp

theorem V_v1 : V m c main_v1 = broadcastInDim S1x4x64 ![1, 2] bcast_S4x64_S1x4x64_1_2 (m ((c : Thread nD τ).loc main_arg1)) := by
  show StableHlo.after (List.flatten [hostOps0]) _ _ = _
  simp only [hostOps0, List.flatten_cons, List.flatten_nil, List.append_nil,
    List.cons_append, List.nil_append]
  after_results_simp

theorem V_v2 : V m c main_v2 = broadcastInDim S1x4x64 ![1, 2] bcast_S4x64_S1x4x64_1_2 (m ((c : Thread nD τ).loc main_arg2)) := by
  show StableHlo.after (List.flatten [hostOps0]) _ _ = _
  simp only [hostOps0, List.flatten_cons, List.flatten_nil, List.append_nil,
    List.cons_append, List.nil_append]
  after_results_simp

theorem V_v3 : V m c main_v3 = broadcastInDim S8x1x4x64 ![0, 2, 3] bcast_S8x4x64_S8x1x4x64_0_2_3 (m ((c : Thread nD τ).loc main_arg3)) := by
  show StableHlo.after (List.flatten [hostOps0]) _ _ = _
  simp only [hostOps0, List.flatten_cons, List.flatten_nil, List.append_nil,
    List.cons_append, List.nil_append]
  after_results_simp

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- The summed gradient over the operands. -/
def gradsOf (g : FVec Ideal S8x1x4x64 .f32) : FVec Ideal S1x4x64 .f32 :=
  Common.arr3 fun l t j => ∑ s, g (ix4 s l t j)

/-- The change of the weights over the operands. -/
def deltasOf (w m v : FVec Ideal S1x4x64 .f32) (g : FVec Ideal S8x1x4x64 .f32) : FVec Ideal S1x4x64 .f32 :=
  Common.arr3 fun l t j => Adam.delta (w (ix3 l t j)) (m (ix3 l t j)) (v (ix3 l t j)) (∑ s, g (ix4 s l t j))

/-- The mean of the gradient over the operands. -/
def meansOf (m : FVec Ideal S1x4x64 .f32) (g : FVec Ideal S8x1x4x64 .f32) : FVec Ideal S1x4x64 .f32 :=
  Common.arr3 fun l t j => Adam.mean (m (ix3 l t j)) (∑ s, g (ix4 s l t j))

/-- The mean of the square over the operands. -/
def squaresOf (v : FVec Ideal S1x4x64 .f32) (g : FVec Ideal S8x1x4x64 .f32) : FVec Ideal S1x4x64 .f32 :=
  Common.arr3 fun l t j => Adam.square (v (ix3 l t j)) (∑ s, g (ix4 s l t j))

theorem arr4_eq : (dats m 0 c).arrAt 4 cfg0.N = gradsOf (V m c main_v3) := by
  refine (dats m 0 c).arrAt_eq_of_covers 4 _ (by decide +kernel) fun t hf y => ?_
  blk_simp
  rw [after0_4]
  frame_out
  pointwise [k0_pay1, k0_pay2, k0_pay3, k0_pay4, k0_pay5, gradsOf, Common.arr3]
  refine Adam.sum_eight (fun s => iblk m c 3 t (ix4 s 0 (y 1) (y 2))) _ fun s => ?_
  all_goals blk_point [iblk, index3, index4]

theorem arr5_eq : (dats m 0 c).arrAt 5 cfg0.N = deltasOf (V m c main_v0) (V m c main_v1) (V m c main_v2) (V m c main_v3) := by
  refine (dats m 0 c).arrAt_eq_of_covers 5 _ (by decide +kernel) fun t hf y => ?_
  blk_simp
  rw [after0_5]
  frame_out
  pointwise [k0_pay1, k0_pay2, k0_pay3, k0_pay4, k0_pay5, deltasOf, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = meansOf (V m c main_v1) (V m c main_v3) := by
  refine (dats m 0 c).arrAt_eq_of_covers 6 _ (by decide +kernel) fun t hf y => ?_
  blk_simp
  rw [after0_6]
  frame_out
  pointwise [k0_pay1, k0_pay2, k0_pay3, k0_pay4, k0_pay5, meansOf, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squaresOf (V m c main_v2) (V m c main_v3) := by
  refine (dats m 0 c).arrAt_eq_of_covers 7 _ (by decide +kernel) fun t hf y => ?_
  blk_simp
  rw [after0_7]
  frame_out
  pointwise [k0_pay1, k0_pay2, k0_pay3, k0_pay4, k0_pay5, squaresOf, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) := by
  rw [arr4_eq, V_v3]
  refine Common.eq_arr3 fun l t j => ?_
  pointwise [gradsOf, Common.arr3]

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) := by
  rw [arr5_eq, V_v0, V_v1, V_v2, V_v3]
  refine Common.eq_arr3 fun l t j => ?_
  pointwise [deltasOf, Common.arr3]

theorem out6_eq : (dats m 0 c).arrAt 6 cfg0.N = means (m ((c : Thread nD τ).loc main_arg1)) (m ((c : Thread nD τ).loc main_arg3)) := by
  rw [arr6_eq, V_v1, V_v3]
  refine Common.eq_arr3 fun l t j => ?_
  pointwise [meansOf, Common.arr3]

theorem out7_eq : (dats m 0 c).arrAt 7 cfg0.N = squares (m ((c : Thread nD τ).loc main_arg2)) (m ((c : Thread nD τ).loc main_arg3)) := by
  rw [arr7_eq, V_v2, V_v3]
  refine Common.eq_arr3 fun l t j => ?_
  pointwise [squaresOf, Common.arr3]

/-- The idealised kernel's results are the reference's. -/
theorem algebraic : Cert.algebraic_AdaQkKernelIdeal_AdaQkReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaQkKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaQkKernelIdeal.Value.run_blocks m g)
  · refine (θ_run Cert.AdaQkReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaQk

end
-- ==== Proof.AdaHead.lean ====
/-
  The optimiser's step on a number per head: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaHeadKernelIdeal.Value
public import proofs.«01_k».proof.Proof.Gen.AdaHeadReferenceIdeal.Run
public import Idealize.ShloMosaic.Lib.Claim
public import Idealize.ShloMosaic.Lib.Quiescent
public import Idealize.ShloMosaic.Lib.Pipeline.ValueKit.Point

@[expose] public section

noncomputable section

namespace Cert.AdaHead

open Idealize.ShloMosaic Idealize.ShloMosaic.TcCoe Idealize.SL.Sem
open scoped BigOperators

section Reference

open Cert.AdaHeadReferenceIdeal Cert.AdaHeadReferenceIdeal.Gen

/-- The gradient, summed over its slots. -/
def grads (g : FVec Ideal S8x4x8 .f32) : FVec Ideal S1x4x8 .f32 :=
  Common.arr3 fun _ t j => ∑ s, g (ix3 s t j)

/-- The change of the weights. -/
def deltas (w m v : FVec Ideal S4x8 .f32) (g : FVec Ideal S8x4x8 .f32) : FVec Ideal S1x4x8 .f32 :=
  Common.arr3 fun _ t j => Adam.delta (w (ix2 t j)) (m (ix2 t j)) (v (ix2 t j)) (∑ s, g (ix3 s t j))

/-- The running mean of the gradient. -/
def means (m : FVec Ideal S4x8 .f32) (g : FVec Ideal S8x4x8 .f32) : FVec Ideal S1x4x8 .f32 :=
  Common.arr3 fun _ t j => Adam.mean (m (ix2 t j)) (∑ s, g (ix3 s t j))

/-- The running mean of the gradient's square. -/
def squares (v : FVec Ideal S4x8 .f32) (g : FVec Ideal S8x4x8 .f32) : FVec Ideal S1x4x8 .f32 :=
  Common.arr3 fun _ t j => Adam.square (v (ix2 t j)) (∑ s, g (ix3 s t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = grads (m ((c : Thread nD τ).loc main_arg3))
      ∧ r.2.mem ((c : Thread nD τ).loc main_v26) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v27) = means (m ((c : Thread nD τ).loc main_arg1)) (m ((c : Thread nD τ).loc main_arg3))
      ∧ r.2.mem ((c : Thread nD τ).loc main_v28) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x8 .f32 at w m1 v
    change FVec Ideal S8x4x8 .f32 at g
    pointwise
  all_goals rfl

/-- The reference leaves its arguments and its counters as it found them. -/
theorem reference_frame : Cert.quiescent_AdaHeadReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaHeadKernelIdeal Cert.AdaHeadKernelIdeal.Gen

variable (m : (ℓ : Loc nD τ sig) → Buf (Elt Ideal) ℓ) (c : Dev nD)

theorem V_v0 : V m c main_v0 = broadcastInDim S1x4x8 ![1, 2] bcast_S4x8_S1x4x8_1_2 (m ((c : Thread nD τ).loc main_arg0)) := by
  show StableHlo.after (List.flatten [hostOps0]) _ _ = _
  simp only [hostOps0, List.flatten_cons, List.flatten_nil, List.append_nil,
    List.cons_append, List.nil_append]
  after_results_simp

theorem V_v1 : V m c main_v1 = broadcastInDim S1x4x8 ![1, 2] bcast_S4x8_S1x4x8_1_2 (m ((c : Thread nD τ).loc main_arg1)) := by
  show StableHlo.after (List.flatten [hostOps0]) _ _ = _
  simp only [hostOps0, List.flatten_cons, List.flatten_nil, List.append_nil,
    List.cons_append, List.nil_append]
  after_results_simp

theorem V_v2 : V m c main_v2 = broadcastInDim S1x4x8 ![1, 2] bcast_S4x8_S1x4x8_1_2 (m ((c : Thread nD τ).loc main_arg2)) := by
  show StableHlo.after (List.flatten [hostOps0]) _ _ = _
  simp only [hostOps0, List.flatten_cons, List.flatten_nil, List.append_nil,
    List.cons_append, List.nil_append]
  after_results_simp

theorem V_v3 : V m c main_v3 = broadcastInDim S8x1x4x8 ![0, 2, 3] bcast_S8x4x8_S8x1x4x8_0_2_3 (m ((c : Thread nD τ).loc main_arg3)) := by
  show StableHlo.after (List.flatten [hostOps0]) _ _ = _
  simp only [hostOps0, List.flatten_cons, List.flatten_nil, List.append_nil,
    List.cons_append, List.nil_append]
  after_results_simp

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- The summed gradient over the operands. -/
def gradsOf (g : FVec Ideal S8x1x4x8 .f32) : FVec Ideal S1x4x8 .f32 :=
  Common.arr3 fun l t j => ∑ s, g (ix4 s l t j)

/-- The change of the weights over the operands. -/
def deltasOf (w m v : FVec Ideal S1x4x8 .f32) (g : FVec Ideal S8x1x4x8 .f32) : FVec Ideal S1x4x8 .f32 :=
  Common.arr3 fun l t j => Adam.delta (w (ix3 l t j)) (m (ix3 l t j)) (v (ix3 l t j)) (∑ s, g (ix4 s l t j))

/-- The mean of the gradient over the operands. -/
def meansOf (m : FVec Ideal S1x4x8 .f32) (g : FVec Ideal S8x1x4x8 .f32) : FVec Ideal S1x4x8 .f32 :=
  Common.arr3 fun l t j => Adam.mean (m (ix3 l t j)) (∑ s, g (ix4 s l t j))

/-- The mean of the square over the operands. -/
def squaresOf (v : FVec Ideal S1x4x8 .f32) (g : FVec Ideal S8x1x4x8 .f32) : FVec Ideal S1x4x8 .f32 :=
  Common.arr3 fun l t j => Adam.square (v (ix3 l t j)) (∑ s, g (ix4 s l t j))

theorem arr4_eq : (dats m 0 c).arrAt 4 cfg0.N = gradsOf (V m c main_v3) := by
  refine (dats m 0 c).arrAt_eq_of_covers 4 _ (by decide +kernel) fun t hf y => ?_
  blk_simp
  rw [after0_4]
  frame_out
  pointwise [k0_pay1, k0_pay2, k0_pay3, k0_pay4, k0_pay5, gradsOf, Common.arr3]
  refine Adam.sum_eight (fun s => iblk m c 3 t (ix4 s 0 (y 1) (y 2))) _ fun s => ?_
  all_goals blk_point [iblk, index3, index4]

theorem arr5_eq : (dats m 0 c).arrAt 5 cfg0.N = deltasOf (V m c main_v0) (V m c main_v1) (V m c main_v2) (V m c main_v3) := by
  refine (dats m 0 c).arrAt_eq_of_covers 5 _ (by decide +kernel) fun t hf y => ?_
  blk_simp
  rw [after0_5]
  frame_out
  pointwise [k0_pay1, k0_pay2, k0_pay3, k0_pay4, k0_pay5, deltasOf, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = meansOf (V m c main_v1) (V m c main_v3) := by
  refine (dats m 0 c).arrAt_eq_of_covers 6 _ (by decide +kernel) fun t hf y => ?_
  blk_simp
  rw [after0_6]
  frame_out
  pointwise [k0_pay1, k0_pay2, k0_pay3, k0_pay4, k0_pay5, meansOf, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squaresOf (V m c main_v2) (V m c main_v3) := by
  refine (dats m 0 c).arrAt_eq_of_covers 7 _ (by decide +kernel) fun t hf y => ?_
  blk_simp
  rw [after0_7]
  frame_out
  pointwise [k0_pay1, k0_pay2, k0_pay3, k0_pay4, k0_pay5, squaresOf, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) := by
  rw [arr4_eq, V_v3]
  refine Common.eq_arr3 fun l t j => ?_
  pointwise [gradsOf, Common.arr3]

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) := by
  rw [arr5_eq, V_v0, V_v1, V_v2, V_v3]
  refine Common.eq_arr3 fun l t j => ?_
  pointwise [deltasOf, Common.arr3]

theorem out6_eq : (dats m 0 c).arrAt 6 cfg0.N = means (m ((c : Thread nD τ).loc main_arg1)) (m ((c : Thread nD τ).loc main_arg3)) := by
  rw [arr6_eq, V_v1, V_v3]
  refine Common.eq_arr3 fun l t j => ?_
  pointwise [meansOf, Common.arr3]

theorem out7_eq : (dats m 0 c).arrAt 7 cfg0.N = squares (m ((c : Thread nD τ).loc main_arg2)) (m ((c : Thread nD τ).loc main_arg3)) := by
  rw [arr7_eq, V_v2, V_v3]
  refine Common.eq_arr3 fun l t j => ?_
  pointwise [squaresOf, Common.arr3]

/-- The idealised kernel's results are the reference's. -/
theorem algebraic : Cert.algebraic_AdaHeadKernelIdeal_AdaHeadReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaHeadKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaHeadKernelIdeal.Value.run_blocks m g)
  · refine (θ_run Cert.AdaHeadReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaHead

end
-- ==== Proof.AdaDn.lean ====
/-
  The optimiser's step on the gains of the delta rule's norm: the tiled kernel's four result arrays are the summed gradient, the change of the
  weights and the two running means.
-/
module

public import proofs.«01_k».proof.Defs
public import proofs.«01_k».proof.Proof.Common
public import proofs.«01_k».proof.Proof.Adam
public import proofs.«01_k».proof.Proof.Gen.AdaDnKernelIdeal.Value
public import proofs.«01_k».proof.Proof.Gen.AdaDnReferenceIdeal.Run
public import Idealize.ShloMosaic.Lib.Claim
public import Idealize.ShloMosaic.Lib.Quiescent
public import Idealize.ShloMosaic.Lib.Pipeline.ValueKit.Point

@[expose] public section

noncomputable section

namespace Cert.AdaDn

open Idealize.ShloMosaic Idealize.ShloMosaic.TcCoe Idealize.SL.Sem
open scoped BigOperators

section Reference

open Cert.AdaDnReferenceIdeal Cert.AdaDnReferenceIdeal.Gen

/-- The gradient, summed over its slots. -/
def grads (g : FVec Ideal S8x4x128 .f32) : FVec Ideal S1x4x128 .f32 :=
  Common.arr3 fun _ t j => ∑ s, g (ix3 s t j)

/-- The change of the weights. -/
def deltas (w m v : FVec Ideal S4x128 .f32) (g : FVec Ideal S8x4x128 .f32) : FVec Ideal S1x4x128 .f32 :=
  Common.arr3 fun _ t j => Adam.delta (w (ix2 t j)) (m (ix2 t j)) (v (ix2 t j)) (∑ s, g (ix3 s t j))

/-- The running mean of the gradient. -/
def means (m : FVec Ideal S4x128 .f32) (g : FVec Ideal S8x4x128 .f32) : FVec Ideal S1x4x128 .f32 :=
  Common.arr3 fun _ t j => Adam.mean (m (ix2 t j)) (∑ s, g (ix3 s t j))

/-- The running mean of the gradient's square. -/
def squares (v : FVec Ideal S4x128 .f32) (g : FVec Ideal S8x4x128 .f32) : FVec Ideal S1x4x128 .f32 :=
  Common.arr3 fun _ t j => Adam.square (v (ix2 t j)) (∑ s, g (ix3 s t j))

/-- The reference runs to the four arrays. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = grads (m ((c : Thread nD τ).loc main_arg3))
      ∧ r.2.mem ((c : Thread nD τ).loc main_v26) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v27) = means (m ((c : Thread nD τ).loc main_arg1)) (m ((c : Thread nD τ).loc main_arg3))
      ∧ r.2.mem ((c : Thread nD τ).loc main_v28) = squares (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2.1.trans ?_, (h c).2.2.1.trans ?_,
    (h c).2.2.2.1.trans ?_, (h c).2.2.2.2⟩) (Value.run (F := Ideal) m ρ)
  all_goals
    refine Common.eq_arr3 fun l t j => ?_
    generalize m ((c : Thread nD τ).loc main_arg0) = w
    generalize m ((c : Thread nD τ).loc main_arg1) = m1
    generalize m ((c : Thread nD τ).loc main_arg2) = v
    generalize m ((c : Thread nD τ).loc main_arg3) = g
    change FVec Ideal S4x128 .f32 at w m1 v
    change FVec Ideal S8x4x128 .f32 at g
    pointwise
  all_goals rfl

/-- The reference leaves its arguments and its counters as it found them. -/
theorem reference_frame : Cert.quiescent_AdaDnReferenceIdeal := fun m ρ _ =>
  (θ_run defs _ _).mono (fun r h => ⟨fun c => (h c).2.2.2.2, sem_eq_zero_of_no_sems (by decide) r.2⟩) (reference_run m ρ)

end Reference

open Idealize.ShloMosaic.Pipeline (Dat)
open Cert.AdaDnKernelIdeal Cert.AdaDnKernelIdeal.Gen

variable (m : (ℓ : Loc nD τ sig) → Buf (Elt Ideal) ℓ) (c : Dev nD)

theorem V_v0 : V m c main_v0 = broadcastInDim S1x4x128 ![1, 2] bcast_S4x128_S1x4x128_1_2 (m ((c : Thread nD τ).loc main_arg0)) := by
  show StableHlo.after (List.flatten [hostOps0]) _ _ = _
  simp only [hostOps0, List.flatten_cons, List.flatten_nil, List.append_nil,
    List.cons_append, List.nil_append]
  after_results_simp

theorem V_v1 : V m c main_v1 = broadcastInDim S1x4x128 ![1, 2] bcast_S4x128_S1x4x128_1_2 (m ((c : Thread nD τ).loc main_arg1)) := by
  show StableHlo.after (List.flatten [hostOps0]) _ _ = _
  simp only [hostOps0, List.flatten_cons, List.flatten_nil, List.append_nil,
    List.cons_append, List.nil_append]
  after_results_simp

theorem V_v2 : V m c main_v2 = broadcastInDim S1x4x128 ![1, 2] bcast_S4x128_S1x4x128_1_2 (m ((c : Thread nD τ).loc main_arg2)) := by
  show StableHlo.after (List.flatten [hostOps0]) _ _ = _
  simp only [hostOps0, List.flatten_cons, List.flatten_nil, List.append_nil,
    List.cons_append, List.nil_append]
  after_results_simp

theorem V_v3 : V m c main_v3 = broadcastInDim S8x1x4x128 ![0, 2, 3] bcast_S8x4x128_S8x1x4x128_0_2_3 (m ((c : Thread nD τ).loc main_arg3)) := by
  show StableHlo.after (List.flatten [hostOps0]) _ _ = _
  simp only [hostOps0, List.flatten_cons, List.flatten_nil, List.append_nil,
    List.cons_append, List.nil_append]
  after_results_simp

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-- The summed gradient over the operands. -/
def gradsOf (g : FVec Ideal S8x1x4x128 .f32) : FVec Ideal S1x4x128 .f32 :=
  Common.arr3 fun l t j => ∑ s, g (ix4 s l t j)

/-- The change of the weights over the operands. -/
def deltasOf (w m v : FVec Ideal S1x4x128 .f32) (g : FVec Ideal S8x1x4x128 .f32) : FVec Ideal S1x4x128 .f32 :=
  Common.arr3 fun l t j => Adam.delta (w (ix3 l t j)) (m (ix3 l t j)) (v (ix3 l t j)) (∑ s, g (ix4 s l t j))

/-- The mean of the gradient over the operands. -/
def meansOf (m : FVec Ideal S1x4x128 .f32) (g : FVec Ideal S8x1x4x128 .f32) : FVec Ideal S1x4x128 .f32 :=
  Common.arr3 fun l t j => Adam.mean (m (ix3 l t j)) (∑ s, g (ix4 s l t j))

/-- The mean of the square over the operands. -/
def squaresOf (v : FVec Ideal S1x4x128 .f32) (g : FVec Ideal S8x1x4x128 .f32) : FVec Ideal S1x4x128 .f32 :=
  Common.arr3 fun l t j => Adam.square (v (ix3 l t j)) (∑ s, g (ix4 s l t j))

theorem arr4_eq : (dats m 0 c).arrAt 4 cfg0.N = gradsOf (V m c main_v3) := by
  refine (dats m 0 c).arrAt_eq_of_covers 4 _ (by decide +kernel) fun t hf y => ?_
  blk_simp
  rw [after0_4]
  frame_out
  pointwise [k0_pay1, k0_pay2, k0_pay3, k0_pay4, k0_pay5, gradsOf, Common.arr3]
  refine Adam.sum_eight (fun s => iblk m c 3 t (ix4 s 0 (y 1) (y 2))) _ fun s => ?_
  all_goals blk_point [iblk, index3, index4]

theorem arr5_eq : (dats m 0 c).arrAt 5 cfg0.N = deltasOf (V m c main_v0) (V m c main_v1) (V m c main_v2) (V m c main_v3) := by
  refine (dats m 0 c).arrAt_eq_of_covers 5 _ (by decide +kernel) fun t hf y => ?_
  blk_simp
  rw [after0_5]
  frame_out
  pointwise [k0_pay1, k0_pay2, k0_pay3, k0_pay4, k0_pay5, deltasOf, Common.arr3]
  refine Adam.delta_congr ?_ ?_ ?_ (Adam.sum_eight (fun s => iblk m c 3 t (ix4 s 0 (y 1) (y 2))) _ fun s => ?_)
  all_goals blk_point [iblk, index0, index1, index2, index3, index5]

theorem arr6_eq : (dats m 0 c).arrAt 6 cfg0.N = meansOf (V m c main_v1) (V m c main_v3) := by
  refine (dats m 0 c).arrAt_eq_of_covers 6 _ (by decide +kernel) fun t hf y => ?_
  blk_simp
  rw [after0_6]
  frame_out
  pointwise [k0_pay1, k0_pay2, k0_pay3, k0_pay4, k0_pay5, meansOf, Common.arr3]
  refine Adam.mean_congr ?_ (Adam.sum_eight (fun s => iblk m c 3 t (ix4 s 0 (y 1) (y 2))) _ fun s => ?_)
  all_goals blk_point [iblk, index1, index3, index6]

theorem arr7_eq : (dats m 0 c).arrAt 7 cfg0.N = squaresOf (V m c main_v2) (V m c main_v3) := by
  refine (dats m 0 c).arrAt_eq_of_covers 7 _ (by decide +kernel) fun t hf y => ?_
  blk_simp
  rw [after0_7]
  frame_out
  pointwise [k0_pay1, k0_pay2, k0_pay3, k0_pay4, k0_pay5, squaresOf, Common.arr3]
  refine Adam.square_congr ?_ (Adam.sum_eight (fun s => iblk m c 3 t (ix4 s 0 (y 1) (y 2))) _ fun s => ?_)
  all_goals blk_point [iblk, index2, index3, index7]

theorem out4_eq : (dats m 0 c).arrAt 4 cfg0.N = grads (m ((c : Thread nD τ).loc main_arg3)) := by
  rw [arr4_eq, V_v3]
  refine Common.eq_arr3 fun l t j => ?_
  pointwise [gradsOf, Common.arr3]

theorem out5_eq : (dats m 0 c).arrAt 5 cfg0.N = deltas (m ((c : Thread nD τ).loc main_arg0)) (m ((c : Thread nD τ).loc main_arg1)) (m ((c : Thread nD τ).loc main_arg2)) (m ((c : Thread nD τ).loc main_arg3)) := by
  rw [arr5_eq, V_v0, V_v1, V_v2, V_v3]
  refine Common.eq_arr3 fun l t j => ?_
  pointwise [deltasOf, Common.arr3]

theorem out6_eq : (dats m 0 c).arrAt 6 cfg0.N = means (m ((c : Thread nD τ).loc main_arg1)) (m ((c : Thread nD τ).loc main_arg3)) := by
  rw [arr6_eq, V_v1, V_v3]
  refine Common.eq_arr3 fun l t j => ?_
  pointwise [meansOf, Common.arr3]

theorem out7_eq : (dats m 0 c).arrAt 7 cfg0.N = squares (m ((c : Thread nD τ).loc main_arg2)) (m ((c : Thread nD τ).loc main_arg3)) := by
  rw [arr7_eq, V_v2, V_v3]
  refine Common.eq_arr3 fun l t j => ?_
  pointwise [squaresOf, Common.arr3]

/-- The idealised kernel's results are the reference's. -/
theorem algebraic : Cert.algebraic_AdaDnKernelIdeal_AdaDnReferenceIdeal := by
  intro m g m' g' _ hagree
  refine ⟨fun c => grads (m ((c : Thread nD τ).loc main_arg3)),
    fun c => deltas (m ((c : Thread nD τ).loc main_arg0)) (m ((c : Thread nD τ).loc main_arg1)) (m ((c : Thread nD τ).loc main_arg2)) (m ((c : Thread nD τ).loc main_arg3)),
    fun c => means (m ((c : Thread nD τ).loc main_arg1)) (m ((c : Thread nD τ).loc main_arg3)),
    fun c => squares (m ((c : Thread nD τ).loc main_arg2)) (m ((c : Thread nD τ).loc main_arg3)), ?_, ?_⟩
  · exact (θ_run Cert.AdaDnKernelIdeal.defs _ _).mono (fun _ h c => ⟨(h c).1.trans (out4_eq m c), (h c).2.1.trans (out5_eq m c),
      (h c).2.2.1.trans (out6_eq m c), (h c).2.2.2.1.trans (out7_eq m c), (h c).2.2.2.2⟩) (Cert.AdaDnKernelIdeal.Value.run_blocks m g)
  · refine (θ_run Cert.AdaDnReferenceIdeal.defs _ _).mono (fun _ h c => ⟨(h c).1.trans ?_, (h c).2.1.trans ?_,
      (h c).2.2.1.trans ?_, (h c).2.2.2.1.trans ?_, (h c).2.2.2.2⟩) (reference_run m' g')
    · rw [(hagree c).2.2.2]
    · rw [(hagree c).1, (hagree c).2.1, (hagree c).2.2.1, (hagree c).2.2.2]
    · rw [(hagree c).2.1, (hagree c).2.2.2]
    · rw [(hagree c).2.2.1, (hagree c).2.2.2]

end Cert.AdaDn

end
-- ==== Proof.lean ====
/-
  The claim: every kernel and every reference leaves its arguments and its counters as it found them, the idealised
  kernels are the kernels, and each idealised kernel that has a reference computes what the reference computes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.UpWgKernel
public import proofs.«01_k».proof.Proof.Gen.UpWgKernel.Frame
public import proofs.«01_k».proof.Proof.Gen.UpWgKernelIdeal
public import proofs.«01_k».proof.Proof.Gen.UpWgKernelIdeal.Frame
public import proofs.«01_k».proof.Proof.Gen.UpWgReferenceIdeal
public import proofs.«01_k».proof.Proof.Gen.UpDgKernel
public import proofs.«01_k».proof.Proof.Gen.UpDgKernel.Frame
public import proofs.«01_k».proof.Proof.Gen.UpDgKernelIdeal
public import proofs.«01_k».proof.Proof.Gen.UpDgKernelIdeal.Frame
public import proofs.«01_k».proof.Proof.Gen.UpDgReferenceIdeal
public import proofs.«01_k».proof.Proof.Gen.WInWgKernel
public import proofs.«01_k».proof.Proof.Gen.WInWgKernel.Frame
public import proofs.«01_k».proof.Proof.Gen.WInWgKernelIdeal
public import proofs.«01_k».proof.Proof.Gen.WInWgKernelIdeal.Frame
public import proofs.«01_k».proof.Proof.Gen.WInWgReferenceIdeal
public import proofs.«01_k».proof.Proof.Gen.WInDgKernel
public import proofs.«01_k».proof.Proof.Gen.WInDgKernel.Frame
public import proofs.«01_k».proof.Proof.Gen.WInDgKernelIdeal
public import proofs.«01_k».proof.Proof.Gen.WInDgKernelIdeal.Frame
public import proofs.«01_k».proof.Proof.Gen.WInDgReferenceIdeal
public import proofs.«01_k».proof.Proof.Gen.WInKernel
public import proofs.«01_k».proof.Proof.Gen.WInKernel.Frame
public import proofs.«01_k».proof.Proof.Gen.WInKernelIdeal
public import proofs.«01_k».proof.Proof.Gen.WInKernelIdeal.Frame
public import proofs.«01_k».proof.Proof.Gen.WInReferenceIdeal
public import proofs.«01_k».proof.Proof.Gen.UpFwdKernel
public import proofs.«01_k».proof.Proof.Gen.UpFwdKernel.Frame
public import proofs.«01_k».proof.Proof.Gen.UpFwdKernelIdeal
public import proofs.«01_k».proof.Proof.Gen.UpFwdKernelIdeal.Frame
public import proofs.«01_k».proof.Proof.Gen.UpFwdReferenceIdeal
public import proofs.«01_k».proof.Proof.Gen.DownFwdKernel
public import proofs.«01_k».proof.Proof.Gen.DownFwdKernel.Frame
public import proofs.«01_k».proof.Proof.Gen.DownFwdKernelIdeal
public import proofs.«01_k».proof.Proof.Gen.DownFwdKernelIdeal.Frame
public import proofs.«01_k».proof.Proof.Gen.DownFwdReferenceIdeal
public import proofs.«01_k».proof.Proof.Gen.DownWgKernel
public import proofs.«01_k».proof.Proof.Gen.DownWgKernel.Frame
public import proofs.«01_k».proof.Proof.Gen.DownWgKernelIdeal
public import proofs.«01_k».proof.Proof.Gen.DownWgKernelIdeal.Frame
public import proofs.«01_k».proof.Proof.Gen.DownWgReferenceIdeal
public import proofs.«01_k».proof.Proof.Gen.DactKernel
public import proofs.«01_k».proof.Proof.Gen.DactKernel.Frame
public import proofs.«01_k».proof.Proof.Gen.DactKernelIdeal
public import proofs.«01_k».proof.Proof.Gen.DactKernelIdeal.Frame
public import proofs.«01_k».proof.Proof.Gen.DactReferenceIdeal
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeReferenceIdeal
public import proofs.«01_k».proof.Proof.Gen.AdaWKernel
public import proofs.«01_k».proof.Proof.Gen.AdaWKernel.Frame
public import proofs.«01_k».proof.Proof.Gen.AdaWKernelIdeal
public import proofs.«01_k».proof.Proof.Gen.AdaWKernelIdeal.Frame
public import proofs.«01_k».proof.Proof.Gen.AdaWReferenceIdeal
public import proofs.«01_k».proof.Proof.Gen.AdaBKernel
public import proofs.«01_k».proof.Proof.Gen.AdaBKernel.Frame
public import proofs.«01_k».proof.Proof.Gen.AdaBKernelIdeal
public import proofs.«01_k».proof.Proof.Gen.AdaBKernelIdeal.Frame
public import proofs.«01_k».proof.Proof.Gen.AdaBReferenceIdeal
public import proofs.«01_k».proof.Proof.Gen.AdaNormKernel
public import proofs.«01_k».proof.Proof.Gen.AdaNormKernel.Frame
public import proofs.«01_k».proof.Proof.Gen.AdaNormKernelIdeal
public import proofs.«01_k».proof.Proof.Gen.AdaNormKernelIdeal.Frame
public import proofs.«01_k».proof.Proof.Gen.AdaNormReferenceIdeal
public import proofs.«01_k».proof.Proof.Gen.AdaConvKernel
public import proofs.«01_k».proof.Proof.Gen.AdaConvKernel.Frame
public import proofs.«01_k».proof.Proof.Gen.AdaConvKernelIdeal
public import proofs.«01_k».proof.Proof.Gen.AdaConvKernelIdeal.Frame
public import proofs.«01_k».proof.Proof.Gen.AdaConvReferenceIdeal
public import proofs.«01_k».proof.Proof.Gen.AdaQkKernel
public import proofs.«01_k».proof.Proof.Gen.AdaQkKernel.Frame
public import proofs.«01_k».proof.Proof.Gen.AdaQkKernelIdeal
public import proofs.«01_k».proof.Proof.Gen.AdaQkKernelIdeal.Frame
public import proofs.«01_k».proof.Proof.Gen.AdaQkReferenceIdeal
public import proofs.«01_k».proof.Proof.Gen.AdaHeadKernel
public import proofs.«01_k».proof.Proof.Gen.AdaHeadKernel.Frame
public import proofs.«01_k».proof.Proof.Gen.AdaHeadKernelIdeal
public import proofs.«01_k».proof.Proof.Gen.AdaHeadKernelIdeal.Frame
public import proofs.«01_k».proof.Proof.Gen.AdaHeadReferenceIdeal
public import proofs.«01_k».proof.Proof.Gen.AdaDnKernel
public import proofs.«01_k».proof.Proof.Gen.AdaDnKernel.Frame
public import proofs.«01_k».proof.Proof.Gen.AdaDnKernelIdeal
public import proofs.«01_k».proof.Proof.Gen.AdaDnKernelIdeal.Frame
public import proofs.«01_k».proof.Proof.Gen.AdaDnReferenceIdeal
public import proofs.«01_k».proof.Proof.Gen.Pre_a_gt_dxo_finite
public import proofs.«01_k».proof.Proof.Gen.Pre_dact_finite
public import proofs.«01_k».proof.Proof.UpWg
public import proofs.«01_k».proof.Proof.UpDg
public import proofs.«01_k».proof.Proof.WInWg
public import proofs.«01_k».proof.Proof.WInDg
public import proofs.«01_k».proof.Proof.WIn
public import proofs.«01_k».proof.Proof.UpFwd
public import proofs.«01_k».proof.Proof.DownFwd
public import proofs.«01_k».proof.Proof.DownWg
public import proofs.«01_k».proof.Proof.Dact
public import proofs.«01_k».proof.Proof.Merge
public import proofs.«01_k».proof.Proof.AdaW
public import proofs.«01_k».proof.Proof.AdaB
public import proofs.«01_k».proof.Proof.AdaNorm
public import proofs.«01_k».proof.Proof.AdaConv
public import proofs.«01_k».proof.Proof.AdaQk
public import proofs.«01_k».proof.Proof.AdaHead
public import proofs.«01_k».proof.Proof.AdaDn
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.UpWgKernel.Gen.facts,
    Cert.UpWgKernelIdeal.Gen.facts,
    Cert.UpWgReferenceIdeal.Gen.facts,
    Cert.UpDgKernel.Gen.facts,
    Cert.UpDgKernelIdeal.Gen.facts,
    Cert.UpDgReferenceIdeal.Gen.facts,
    Cert.WInWgKernel.Gen.facts,
    Cert.WInWgKernelIdeal.Gen.facts,
    Cert.WInWgReferenceIdeal.Gen.facts,
    Cert.WInDgKernel.Gen.facts,
    Cert.WInDgKernelIdeal.Gen.facts,
    Cert.WInDgReferenceIdeal.Gen.facts,
    Cert.WInKernel.Gen.facts,
    Cert.WInKernelIdeal.Gen.facts,
    Cert.WInReferenceIdeal.Gen.facts,
    Cert.UpFwdKernel.Gen.facts,
    Cert.UpFwdKernelIdeal.Gen.facts,
    Cert.UpFwdReferenceIdeal.Gen.facts,
    Cert.DownFwdKernel.Gen.facts,
    Cert.DownFwdKernelIdeal.Gen.facts,
    Cert.DownFwdReferenceIdeal.Gen.facts,
    Cert.DownWgKernel.Gen.facts,
    Cert.DownWgKernelIdeal.Gen.facts,
    Cert.DownWgReferenceIdeal.Gen.facts,
    Cert.DactKernel.Gen.facts,
    Cert.DactKernelIdeal.Gen.facts,
    Cert.DactReferenceIdeal.Gen.facts,
    Cert.MergeKernel.Gen.facts,
    Cert.MergeKernelIdeal.Gen.facts,
    Cert.MergeReferenceIdeal.Gen.facts,
    Cert.AdaWKernel.Gen.facts,
    Cert.AdaWKernelIdeal.Gen.facts,
    Cert.AdaWReferenceIdeal.Gen.facts,
    Cert.AdaBKernel.Gen.facts,
    Cert.AdaBKernelIdeal.Gen.facts,
    Cert.AdaBReferenceIdeal.Gen.facts,
    Cert.AdaNormKernel.Gen.facts,
    Cert.AdaNormKernelIdeal.Gen.facts,
    Cert.AdaNormReferenceIdeal.Gen.facts,
    Cert.AdaConvKernel.Gen.facts,
    Cert.AdaConvKernelIdeal.Gen.facts,
    Cert.AdaConvReferenceIdeal.Gen.facts,
    Cert.AdaQkKernel.Gen.facts,
    Cert.AdaQkKernelIdeal.Gen.facts,
    Cert.AdaQkReferenceIdeal.Gen.facts,
    Cert.AdaHeadKernel.Gen.facts,
    Cert.AdaHeadKernelIdeal.Gen.facts,
    Cert.AdaHeadReferenceIdeal.Gen.facts,
    Cert.AdaDnKernel.Gen.facts,
    Cert.AdaDnKernelIdeal.Gen.facts,
    Cert.AdaDnReferenceIdeal.Gen.facts,
    Cert.Pre_a_gt_dxo_finite.Gen.facts,
    Cert.Pre_dact_finite.Gen.facts,
    fun m ρ _ => Cert.Kernel.Gen.frame m ρ,
    fun m ρ _ => Cert.KernelIdeal.Gen.frame m ρ,
    fun m ρ _ => Cert.UpWgKernel.Gen.frame m ρ,
    fun m ρ _ => Cert.UpWgKernelIdeal.Gen.frame m ρ,
    Cert.UpWg.reference_frame,
    fun m ρ _ => Cert.UpDgKernel.Gen.frame m ρ,
    fun m ρ _ => Cert.UpDgKernelIdeal.Gen.frame m ρ,
    Cert.UpDg.reference_frame,
    fun m ρ _ => Cert.WInWgKernel.Gen.frame m ρ,
    fun m ρ _ => Cert.WInWgKernelIdeal.Gen.frame m ρ,
    Cert.WInWg.reference_frame,
    fun m ρ _ => Cert.WInDgKernel.Gen.frame m ρ,
    fun m ρ _ => Cert.WInDgKernelIdeal.Gen.frame m ρ,
    Cert.WInDg.reference_frame,
    fun m ρ _ => Cert.WInKernel.Gen.frame m ρ,
    fun m ρ _ => Cert.WInKernelIdeal.Gen.frame m ρ,
    Cert.WIn.reference_frame,
    fun m ρ _ => Cert.UpFwdKernel.Gen.frame m ρ,
    fun m ρ _ => Cert.UpFwdKernelIdeal.Gen.frame m ρ,
    Cert.UpFwd.reference_frame,
    fun m ρ _ => Cert.DownFwdKernel.Gen.frame m ρ,
    fun m ρ _ => Cert.DownFwdKernelIdeal.Gen.frame m ρ,
    Cert.DownFwd.reference_frame,
    fun m ρ _ => Cert.DownWgKernel.Gen.frame m ρ,
    fun m ρ _ => Cert.DownWgKernelIdeal.Gen.frame m ρ,
    fun m ρ _ => Cert.DownWgKernelIdeal.Gen.frame m ρ,
    Cert.DownWg.reference_frame,
    Cert.DownWg.reference_frame_pre,
    fun m ρ _ => Cert.DactKernel.Gen.frame m ρ,
    fun m ρ _ => Cert.DactKernelIdeal.Gen.frame m ρ,
    fun m ρ _ => Cert.DactKernelIdeal.Gen.frame m ρ,
    Cert.Dact.reference_frame,
    Cert.Dact.reference_frame_pre,
    fun m ρ _ => Cert.MergeKernel.Gen.frame m ρ,
    fun m ρ _ => Cert.MergeKernelIdeal.Gen.frame m ρ,
    Cert.Merge.reference_frame,
    fun m ρ _ => Cert.AdaWKernel.Gen.frame m ρ,
    fun m ρ _ => Cert.AdaWKernelIdeal.Gen.frame m ρ,
    Cert.AdaW.reference_frame,
    fun m ρ _ => Cert.AdaBKernel.Gen.frame m ρ,
    fun m ρ _ => Cert.AdaBKernelIdeal.Gen.frame m ρ,
    Cert.AdaB.reference_frame,
    fun m ρ _ => Cert.AdaNormKernel.Gen.frame m ρ,
    fun m ρ _ => Cert.AdaNormKernelIdeal.Gen.frame m ρ,
    Cert.AdaNorm.reference_frame,
    fun m ρ _ => Cert.AdaConvKernel.Gen.frame m ρ,
    fun m ρ _ => Cert.AdaConvKernelIdeal.Gen.frame m ρ,
    Cert.AdaConv.reference_frame,
    fun m ρ _ => Cert.AdaQkKernel.Gen.frame m ρ,
    fun m ρ _ => Cert.AdaQkKernelIdeal.Gen.frame m ρ,
    Cert.AdaQk.reference_frame,
    fun m ρ _ => Cert.AdaHeadKernel.Gen.frame m ρ,
    fun m ρ _ => Cert.AdaHeadKernelIdeal.Gen.frame m ρ,
    Cert.AdaHead.reference_frame,
    fun m ρ _ => Cert.AdaDnKernel.Gen.frame m ρ,
    fun m ρ _ => Cert.AdaDnKernelIdeal.Gen.frame m ρ,
    Cert.AdaDn.reference_frame,
    trivial,
    trivial,
    Cert.UpWg.algebraic,
    trivial,
    Cert.UpDg.algebraic,
    trivial,
    Cert.WInWg.algebraic,
    trivial,
    Cert.WInDg.algebraic,
    trivial,
    Cert.WIn.algebraic,
    trivial,
    Cert.UpFwd.algebraic,
    trivial,
    Cert.DownFwd.algebraic,
    trivial,
    Cert.DownWg.algebraic,
    trivial,
    Cert.Dact.algebraic,
    trivial,
    Cert.Merge.algebraic,
    trivial,
    Cert.AdaW.algebraic,
    trivial,
    Cert.AdaB.algebraic,
    trivial,
    Cert.AdaNorm.algebraic,
    trivial,
    Cert.AdaConv.algebraic,
    trivial,
    Cert.AdaQk.algebraic,
    trivial,
    Cert.AdaHead.algebraic,
    trivial,
    Cert.AdaDn.algebraic⟩

end Cert.Proof

end
